-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wxq (m : (ℓ : Loc Cert.Wxq.nD Cert.Wxq.τ Cert.Wxq.sig) → Buf (Elt Bits) ℓ) : Prop :=
  True

def Pre_WxqIdeal (m : (ℓ : Loc Cert.WxqIdeal.nD Cert.WxqIdeal.τ Cert.WxqIdeal.sig) → Buf (Elt Ideal) ℓ) : Prop :=
  True

def Pre_WxqRefIdeal (m : (ℓ : Loc Cert.WxqRefIdeal.nD Cert.WxqRefIdeal.τ Cert.WxqRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_MemFirst (m : (ℓ : Loc Cert.MemFirst.nD Cert.MemFirst.τ Cert.MemFirst.sig) → Buf (Elt Bits) ℓ) : Prop :=
  True

def Pre_MemFirstIdeal (m : (ℓ : Loc Cert.MemFirstIdeal.nD Cert.MemFirstIdeal.τ Cert.MemFirstIdeal.sig) → Buf (Elt Ideal) ℓ) : Prop :=
  True

def Pre_MemFirstRefIdeal (m : (ℓ : Loc Cert.MemFirstRefIdeal.nD Cert.MemFirstRefIdeal.τ Cert.MemFirstRefIdeal.sig) → Buf (Elt Ideal) ℓ) : Prop :=
  True

def Pre_MemSecond (m : (ℓ : Loc Cert.MemSecond.nD Cert.MemSecond.τ Cert.MemSecond.sig) → Buf (Elt Bits) ℓ) : Prop :=
  True

def Pre_MemSecondIdeal (m : (ℓ : Loc Cert.MemSecondIdeal.nD Cert.MemSecondIdeal.τ Cert.MemSecondIdeal.sig) → Buf (Elt Ideal) ℓ) : Prop :=
  True

def Pre_MemSecondRefIdeal (m : (ℓ : Loc Cert.MemSecondRefIdeal.nD Cert.MemSecondRefIdeal.τ Cert.MemSecondRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Wxq [hWxq : Cert.Wxq.Facts] : Prop :=
  ∀ (m : (ℓ : Loc Cert.Wxq.nD Cert.Wxq.τ Cert.Wxq.sig) → Buf (Elt Bits) ℓ) (g : Dev Cert.Wxq.nD → PrngReg), Pre_Wxq m →
    θ_run (Cert.Wxq.defs (F := Bits)) (onTc (τ := Cert.Wxq.τ) (Cert.Wxq.main (F := Bits))) ⟨m, fun _ => 0, g⟩ (fun r => (∀ c : Dev Cert.Wxq.nD,
      r.2.mem ((c.tc : Thread Cert.Wxq.nD Cert.Wxq.τ).loc Cert.Wxq.main_arg0) = m ((c.tc : Thread Cert.Wxq.nD Cert.Wxq.τ).loc Cert.Wxq.main_arg0)
      ∧ r.2.mem ((c.tc : Thread Cert.Wxq.nD Cert.Wxq.τ).loc Cert.Wxq.main_arg1) = m ((c.tc : Thread Cert.Wxq.nD Cert.Wxq.τ).loc Cert.Wxq.main_arg1))
      ∧ r.2.sem = fun _ => 0)

def quiescent_WxqIdeal [hWxqIdeal : Cert.WxqIdeal.Facts] : Prop :=
  ∀ (m : (ℓ : Loc Cert.WxqIdeal.nD Cert.WxqIdeal.τ Cert.WxqIdeal.sig) → Buf (Elt Ideal) ℓ) (g : Dev Cert.WxqIdeal.nD → PrngReg), Pre_WxqIdeal m →
    θ_run (Cert.WxqIdeal.defs (F := Ideal)) (onTc (τ := Cert.WxqIdeal.τ) (Cert.WxqIdeal.main (F := Ideal))) ⟨m, fun _ => 0, g⟩ (fun r => (∀ c : Dev Cert.WxqIdeal.nD,
      r.2.mem ((c.tc : Thread Cert.WxqIdeal.nD Cert.WxqIdeal.τ).loc Cert.WxqIdeal.main_arg0) = m ((c.tc : Thread Cert.WxqIdeal.nD Cert.WxqIdeal.τ).loc Cert.WxqIdeal.main_arg0)
      ∧ r.2.mem ((c.tc : Thread Cert.WxqIdeal.nD Cert.WxqIdeal.τ).loc Cert.WxqIdeal.main_arg1) = m ((c.tc : Thread Cert.WxqIdeal.nD Cert.WxqIdeal.τ).loc Cert.WxqIdeal.main_arg1))
      ∧ r.2.sem = fun _ => 0)

def quiescent_WxqRefIdeal [hWxqRefIdeal : Cert.WxqRefIdeal.Facts] : Prop :=
  ∀ (m : (ℓ : Loc Cert.WxqRefIdeal.nD Cert.WxqRefIdeal.τ Cert.WxqRefIdeal.sig) → Buf (Elt Ideal) ℓ) (g : Dev Cert.WxqRefIdeal.nD → PrngReg), Pre_WxqRefIdeal m →
    θ_run (Cert.WxqRefIdeal.defs (F := Ideal)) (onTc (τ := Cert.WxqRefIdeal.τ) (Cert.WxqRefIdeal.main (F := Ideal))) ⟨m, fun _ => 0, g⟩ (fun r => (∀ c : Dev Cert.WxqRefIdeal.nD,
      r.2.mem ((c.tc : Thread Cert.WxqRefIdeal.nD Cert.WxqRefIdeal.τ).loc Cert.WxqRefIdeal.main_arg0) = m ((c.tc : Thread Cert.WxqRefIdeal.nD Cert.WxqRefIdeal.τ).loc Cert.WxqRefIdeal.main_arg0)
      ∧ r.2.mem ((c.tc : Thread Cert.WxqRefIdeal.nD Cert.WxqRefIdeal.τ).loc Cert.WxqRefIdeal.main_arg1) = m ((c.tc : Thread Cert.WxqRefIdeal.nD Cert.WxqRefIdeal.τ).loc Cert.WxqRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3)
      ∧ r.2.mem ((c.tc : Thread Cert.Wout.nD Cert.Wout.τ).loc Cert.Wout.main_arg4) = m ((c.tc : Thread Cert.Wout.nD Cert.Wout.τ).loc Cert.Wout.main_arg4))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3)
      ∧ r.2.mem ((c.tc : Thread Cert.WoutRefIdeal.nD Cert.WoutRefIdeal.τ).loc Cert.WoutRefIdeal.main_arg4) = m ((c.tc : Thread Cert.WoutRefIdeal.nD Cert.WoutRefIdeal.τ).loc Cert.WoutRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_MemFirst [hMemFirst : Cert.MemFirst.Facts] : Prop :=
  ∀ (m : (ℓ : Loc Cert.MemFirst.nD Cert.MemFirst.τ Cert.MemFirst.sig) → Buf (Elt Bits) ℓ) (g : Dev Cert.MemFirst.nD → PrngReg), Pre_MemFirst m →
    θ_run (Cert.MemFirst.defs (F := Bits)) (onTc (τ := Cert.MemFirst.τ) (Cert.MemFirst.main (F := Bits))) ⟨m, fun _ => 0, g⟩ (fun r => (∀ c : Dev Cert.MemFirst.nD,
      r.2.mem ((c.tc : Thread Cert.MemFirst.nD Cert.MemFirst.τ).loc Cert.MemFirst.main_arg0) = m ((c.tc : Thread Cert.MemFirst.nD Cert.MemFirst.τ).loc Cert.MemFirst.main_arg0)
      ∧ r.2.mem ((c.tc : Thread Cert.MemFirst.nD Cert.MemFirst.τ).loc Cert.MemFirst.main_arg1) = m ((c.tc : Thread Cert.MemFirst.nD Cert.MemFirst.τ).loc Cert.MemFirst.main_arg1)
      ∧ r.2.mem ((c.tc : Thread Cert.MemFirst.nD Cert.MemFirst.τ).loc Cert.MemFirst.main_arg2) = m ((c.tc : Thread Cert.MemFirst.nD Cert.MemFirst.τ).loc Cert.MemFirst.main_arg2))
      ∧ r.2.sem = fun _ => 0)

def quiescent_MemFirstIdeal [hMemFirstIdeal : Cert.MemFirstIdeal.Facts] : Prop :=
  ∀ (m : (ℓ : Loc Cert.MemFirstIdeal.nD Cert.MemFirstIdeal.τ Cert.MemFirstIdeal.sig) → Buf (Elt Ideal) ℓ) (g : Dev Cert.MemFirstIdeal.nD → PrngReg), Pre_MemFirstIdeal m →
    θ_run (Cert.MemFirstIdeal.defs (F := Ideal)) (onTc (τ := Cert.MemFirstIdeal.τ) (Cert.MemFirstIdeal.main (F := Ideal))) ⟨m, fun _ => 0, g⟩ (fun r => (∀ c : Dev Cert.MemFirstIdeal.nD,
      r.2.mem ((c.tc : Thread Cert.MemFirstIdeal.nD Cert.MemFirstIdeal.τ).loc Cert.MemFirstIdeal.main_arg0) = m ((c.tc : Thread Cert.MemFirstIdeal.nD Cert.MemFirstIdeal.τ).loc Cert.MemFirstIdeal.main_arg0)
      ∧ r.2.mem ((c.tc : Thread Cert.MemFirstIdeal.nD Cert.MemFirstIdeal.τ).loc Cert.MemFirstIdeal.main_arg1) = m ((c.tc : Thread Cert.MemFirstIdeal.nD Cert.MemFirstIdeal.τ).loc Cert.MemFirstIdeal.main_arg1)
      ∧ r.2.mem ((c.tc : Thread Cert.MemFirstIdeal.nD Cert.MemFirstIdeal.τ).loc Cert.MemFirstIdeal.main_arg2) = m ((c.tc : Thread Cert.MemFirstIdeal.nD Cert.MemFirstIdeal.τ).loc Cert.MemFirstIdeal.main_arg2))
      ∧ r.2.sem = fun _ => 0)

def quiescent_MemFirstRefIdeal [hMemFirstRefIdeal : Cert.MemFirstRefIdeal.Facts] : Prop :=
  ∀ (m : (ℓ : Loc Cert.MemFirstRefIdeal.nD Cert.MemFirstRefIdeal.τ Cert.MemFirstRefIdeal.sig) → Buf (Elt Ideal) ℓ) (g : Dev Cert.MemFirstRefIdeal.nD → PrngReg), Pre_MemFirstRefIdeal m →
    θ_run (Cert.MemFirstRefIdeal.defs (F := Ideal)) (onTc (τ := Cert.MemFirstRefIdeal.τ) (Cert.MemFirstRefIdeal.main (F := Ideal))) ⟨m, fun _ => 0, g⟩ (fun r => (∀ c : Dev Cert.MemFirstRefIdeal.nD,
      r.2.mem ((c.tc : Thread Cert.MemFirstRefIdeal.nD Cert.MemFirstRefIdeal.τ).loc Cert.MemFirstRefIdeal.main_arg0) = m ((c.tc : Thread Cert.MemFirstRefIdeal.nD Cert.MemFirstRefIdeal.τ).loc Cert.MemFirstRefIdeal.main_arg0)
      ∧ r.2.mem ((c.tc : Thread Cert.MemFirstRefIdeal.nD Cert.MemFirstRefIdeal.τ).loc Cert.MemFirstRefIdeal.main_arg1) = m ((c.tc : Thread Cert.MemFirstRefIdeal.nD Cert.MemFirstRefIdeal.τ).loc Cert.MemFirstRefIdeal.main_arg1)
      ∧ r.2.mem ((c.tc : Thread Cert.MemFirstRefIdeal.nD Cert.MemFirstRefIdeal.τ).loc Cert.MemFirstRefIdeal.main_arg2) = m ((c.tc : Thread Cert.MemFirstRefIdeal.nD Cert.MemFirstRefIdeal.τ).loc Cert.MemFirstRefIdeal.main_arg2))
      ∧ r.2.sem = fun _ => 0)

def quiescent_MemSecond [hMemSecond : Cert.MemSecond.Facts] : Prop :=
  ∀ (m : (ℓ : Loc Cert.MemSecond.nD Cert.MemSecond.τ Cert.MemSecond.sig) → Buf (Elt Bits) ℓ) (g : Dev Cert.MemSecond.nD → PrngReg), Pre_MemSecond m →
    θ_run (Cert.MemSecond.defs (F := Bits)) (onTc (τ := Cert.MemSecond.τ) (Cert.MemSecond.main (F := Bits))) ⟨m, fun _ => 0, g⟩ (fun r => (∀ c : Dev Cert.MemSecond.nD,
      r.2.mem ((c.tc : Thread Cert.MemSecond.nD Cert.MemSecond.τ).loc Cert.MemSecond.main_arg0) = m ((c.tc : Thread Cert.MemSecond.nD Cert.MemSecond.τ).loc Cert.MemSecond.main_arg0)
      ∧ r.2.mem ((c.tc : Thread Cert.MemSecond.nD Cert.MemSecond.τ).loc Cert.MemSecond.main_arg1) = m ((c.tc : Thread Cert.MemSecond.nD Cert.MemSecond.τ).loc Cert.MemSecond.main_arg1)
      ∧ r.2.mem ((c.tc : Thread Cert.MemSecond.nD Cert.MemSecond.τ).loc Cert.MemSecond.main_arg2) = m ((c.tc : Thread Cert.MemSecond.nD Cert.MemSecond.τ).loc Cert.MemSecond.main_arg2)
      ∧ r.2.mem ((c.tc : Thread Cert.MemSecond.nD Cert.MemSecond.τ).loc Cert.MemSecond.main_arg3) = m ((c.tc : Thread Cert.MemSecond.nD Cert.MemSecond.τ).loc Cert.MemSecond.main_arg3))
      ∧ r.2.sem = fun _ => 0)

def quiescent_MemSecondIdeal [hMemSecondIdeal : Cert.MemSecondIdeal.Facts] : Prop :=
  ∀ (m : (ℓ : Loc Cert.MemSecondIdeal.nD Cert.MemSecondIdeal.τ Cert.MemSecondIdeal.sig) → Buf (Elt Ideal) ℓ) (g : Dev Cert.MemSecondIdeal.nD → PrngReg), Pre_MemSecondIdeal m →
    θ_run (Cert.MemSecondIdeal.defs (F := Ideal)) (onTc (τ := Cert.MemSecondIdeal.τ) (Cert.MemSecondIdeal.main (F := Ideal))) ⟨m, fun _ => 0, g⟩ (fun r => (∀ c : Dev Cert.MemSecondIdeal.nD,
      r.2.mem ((c.tc : Thread Cert.MemSecondIdeal.nD Cert.MemSecondIdeal.τ).loc Cert.MemSecondIdeal.main_arg0) = m ((c.tc : Thread Cert.MemSecondIdeal.nD Cert.MemSecondIdeal.τ).loc Cert.MemSecondIdeal.main_arg0)
      ∧ r.2.mem ((c.tc : Thread Cert.MemSecondIdeal.nD Cert.MemSecondIdeal.τ).loc Cert.MemSecondIdeal.main_arg1) = m ((c.tc : Thread Cert.MemSecondIdeal.nD Cert.MemSecondIdeal.τ).loc Cert.MemSecondIdeal.main_arg1)
      ∧ r.2.mem ((c.tc : Thread Cert.MemSecondIdeal.nD Cert.MemSecondIdeal.τ).loc Cert.MemSecondIdeal.main_arg2) = m ((c.tc : Thread Cert.MemSecondIdeal.nD Cert.MemSecondIdeal.τ).loc Cert.MemSecondIdeal.main_arg2)
      ∧ r.2.mem ((c.tc : Thread Cert.MemSecondIdeal.nD Cert.MemSecondIdeal.τ).loc Cert.MemSecondIdeal.main_arg3) = m ((c.tc : Thread Cert.MemSecondIdeal.nD Cert.MemSecondIdeal.τ).loc Cert.MemSecondIdeal.main_arg3))
      ∧ r.2.sem = fun _ => 0)

def quiescent_MemSecondRefIdeal [hMemSecondRefIdeal : Cert.MemSecondRefIdeal.Facts] : Prop :=
  ∀ (m : (ℓ : Loc Cert.MemSecondRefIdeal.nD Cert.MemSecondRefIdeal.τ Cert.MemSecondRefIdeal.sig) → Buf (Elt Ideal) ℓ) (g : Dev Cert.MemSecondRefIdeal.nD → PrngReg), Pre_MemSecondRefIdeal m →
    θ_run (Cert.MemSecondRefIdeal.defs (F := Ideal)) (onTc (τ := Cert.MemSecondRefIdeal.τ) (Cert.MemSecondRefIdeal.main (F := Ideal))) ⟨m, fun _ => 0, g⟩ (fun r => (∀ c : Dev Cert.MemSecondRefIdeal.nD,
      r.2.mem ((c.tc : Thread Cert.MemSecondRefIdeal.nD Cert.MemSecondRefIdeal.τ).loc Cert.MemSecondRefIdeal.main_arg0) = m ((c.tc : Thread Cert.MemSecondRefIdeal.nD Cert.MemSecondRefIdeal.τ).loc Cert.MemSecondRefIdeal.main_arg0)
      ∧ r.2.mem ((c.tc : Thread Cert.MemSecondRefIdeal.nD Cert.MemSecondRefIdeal.τ).loc Cert.MemSecondRefIdeal.main_arg1) = m ((c.tc : Thread Cert.MemSecondRefIdeal.nD Cert.MemSecondRefIdeal.τ).loc Cert.MemSecondRefIdeal.main_arg1)
      ∧ r.2.mem ((c.tc : Thread Cert.MemSecondRefIdeal.nD Cert.MemSecondRefIdeal.τ).loc Cert.MemSecondRefIdeal.main_arg2) = m ((c.tc : Thread Cert.MemSecondRefIdeal.nD Cert.MemSecondRefIdeal.τ).loc Cert.MemSecondRefIdeal.main_arg2)
      ∧ r.2.mem ((c.tc : Thread Cert.MemSecondRefIdeal.nD Cert.MemSecondRefIdeal.τ).loc Cert.MemSecondRefIdeal.main_arg3) = m ((c.tc : Thread Cert.MemSecondRefIdeal.nD Cert.MemSecondRefIdeal.τ).loc Cert.MemSecondRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18)
      ∧ r.2.mem ((c.tc : Thread Cert.Mix.nD Cert.Mix.τ).loc Cert.Mix.main_arg19) = m ((c.tc : Thread Cert.Mix.nD Cert.Mix.τ).loc Cert.Mix.main_arg19)
      ∧ r.2.mem ((c.tc : Thread Cert.Mix.nD Cert.Mix.τ).loc Cert.Mix.main_arg20) = m ((c.tc : Thread Cert.Mix.nD Cert.Mix.τ).loc Cert.Mix.main_arg20)
      ∧ r.2.mem ((c.tc : Thread Cert.Mix.nD Cert.Mix.τ).loc Cert.Mix.main_arg21) = m ((c.tc : Thread Cert.Mix.nD Cert.Mix.τ).loc Cert.Mix.main_arg21)
      ∧ r.2.mem ((c.tc : Thread Cert.Mix.nD Cert.Mix.τ).loc Cert.Mix.main_arg22) = m ((c.tc : Thread Cert.Mix.nD Cert.Mix.τ).loc Cert.Mix.main_arg22)
      ∧ r.2.mem ((c.tc : Thread Cert.Mix.nD Cert.Mix.τ).loc Cert.Mix.main_arg23) = m ((c.tc : Thread Cert.Mix.nD Cert.Mix.τ).loc Cert.Mix.main_arg23)
      ∧ r.2.mem ((c.tc : Thread Cert.Mix.nD Cert.Mix.τ).loc Cert.Mix.main_arg24) = m ((c.tc : Thread Cert.Mix.nD Cert.Mix.τ).loc Cert.Mix.main_arg24)
      ∧ r.2.mem ((c.tc : Thread Cert.Mix.nD Cert.Mix.τ).loc Cert.Mix.main_arg25) = m ((c.tc : Thread Cert.Mix.nD Cert.Mix.τ).loc Cert.Mix.main_arg25))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19)
      ∧ r.2.mem ((c.tc : Thread Cert.MixIdeal.nD Cert.MixIdeal.τ).loc Cert.MixIdeal.main_arg20) = m ((c.tc : Thread Cert.MixIdeal.nD Cert.MixIdeal.τ).loc Cert.MixIdeal.main_arg20)
      ∧ r.2.mem ((c.tc : Thread Cert.MixIdeal.nD Cert.MixIdeal.τ).loc Cert.MixIdeal.main_arg21) = m ((c.tc : Thread Cert.MixIdeal.nD Cert.MixIdeal.τ).loc Cert.MixIdeal.main_arg21)
      ∧ r.2.mem ((c.tc : Thread Cert.MixIdeal.nD Cert.MixIdeal.τ).loc Cert.MixIdeal.main_arg22) = m ((c.tc : Thread Cert.MixIdeal.nD Cert.MixIdeal.τ).loc Cert.MixIdeal.main_arg22)
      ∧ r.2.mem ((c.tc : Thread Cert.MixIdeal.nD Cert.MixIdeal.τ).loc Cert.MixIdeal.main_arg23) = m ((c.tc : Thread Cert.MixIdeal.nD Cert.MixIdeal.τ).loc Cert.MixIdeal.main_arg23)
      ∧ r.2.mem ((c.tc : Thread Cert.MixIdeal.nD Cert.MixIdeal.τ).loc Cert.MixIdeal.main_arg24) = m ((c.tc : Thread Cert.MixIdeal.nD Cert.MixIdeal.τ).loc Cert.MixIdeal.main_arg24)
      ∧ r.2.mem ((c.tc : Thread Cert.MixIdeal.nD Cert.MixIdeal.τ).loc Cert.MixIdeal.main_arg25) = m ((c.tc : Thread Cert.MixIdeal.nD Cert.MixIdeal.τ).loc Cert.MixIdeal.main_arg25))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18)
      ∧ r.2.mem ((c.tc : Thread Cert.MixRefIdeal.nD Cert.MixRefIdeal.τ).loc Cert.MixRefIdeal.main_arg19) = m ((c.tc : Thread Cert.MixRefIdeal.nD Cert.MixRefIdeal.τ).loc Cert.MixRefIdeal.main_arg19)
      ∧ r.2.mem ((c.tc : Thread Cert.MixRefIdeal.nD Cert.MixRefIdeal.τ).loc Cert.MixRefIdeal.main_arg20) = m ((c.tc : Thread Cert.MixRefIdeal.nD Cert.MixRefIdeal.τ).loc Cert.MixRefIdeal.main_arg20)
      ∧ r.2.mem ((c.tc : Thread Cert.MixRefIdeal.nD Cert.MixRefIdeal.τ).loc Cert.MixRefIdeal.main_arg21) = m ((c.tc : Thread Cert.MixRefIdeal.nD Cert.MixRefIdeal.τ).loc Cert.MixRefIdeal.main_arg21)
      ∧ r.2.mem ((c.tc : Thread Cert.MixRefIdeal.nD Cert.MixRefIdeal.τ).loc Cert.MixRefIdeal.main_arg22) = m ((c.tc : Thread Cert.MixRefIdeal.nD Cert.MixRefIdeal.τ).loc Cert.MixRefIdeal.main_arg22)
      ∧ r.2.mem ((c.tc : Thread Cert.MixRefIdeal.nD Cert.MixRefIdeal.τ).loc Cert.MixRefIdeal.main_arg23) = m ((c.tc : Thread Cert.MixRefIdeal.nD Cert.MixRefIdeal.τ).loc Cert.MixRefIdeal.main_arg23)
      ∧ r.2.mem ((c.tc : Thread Cert.MixRefIdeal.nD Cert.MixRefIdeal.τ).loc Cert.MixRefIdeal.main_arg24) = m ((c.tc : Thread Cert.MixRefIdeal.nD Cert.MixRefIdeal.τ).loc Cert.MixRefIdeal.main_arg24)
      ∧ r.2.mem ((c.tc : Thread Cert.MixRefIdeal.nD Cert.MixRefIdeal.τ).loc Cert.MixRefIdeal.main_arg25) = m ((c.tc : Thread Cert.MixRefIdeal.nD Cert.MixRefIdeal.τ).loc Cert.MixRefIdeal.main_arg25))
      ∧ r.2.sem = fun _ => 0)

def preserves_Attn_AttnIdeal : Prop :=
  True

def algebraic_AttnIdeal_AttnRefIdeal_on_prompt_rows_pre_finite_scores [hAttnIdeal : Cert.AttnIdeal.Facts] [hAttnRefIdeal : Cert.AttnRefIdeal.Facts] [hPre_finite_scores : Cert.Pre_finite_scores.Facts] [hOn_prompt_rows : Cert.On_prompt_rows.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![8320, 2048]⟩ : Shape).Idx, (Cert.On_prompt_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) i = 1#1 → r.2.mem ((c.tc : Thread Cert.AttnIdeal.nD Cert.AttnIdeal.τ).loc Cert.AttnIdeal.main_v0) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![8320, 2048]⟩ : Shape).Idx, (Cert.On_prompt_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) i = 1#1 → r.2.mem ((c.tc : Thread Cert.AttnRefIdeal.nD Cert.AttnRefIdeal.τ).loc Cert.AttnRefIdeal.main_v28) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v7_0)) (v1 : (c : Dev Cert.DownIdeal.nD) → Buf (Elt Ideal) ((c.tc : Thread Cert.DownIdeal.nD Cert.DownIdeal.τ).loc Cert.DownIdeal.main_v7_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7_0) = v0 c
          ∧ r.2.mem ((c.tc : Thread Cert.DownIdeal.nD Cert.DownIdeal.τ).loc Cert.DownIdeal.main_v7_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v19) = v0 c
          ∧ r.2.mem ((c.tc : Thread Cert.DownRefIdeal.nD Cert.DownRefIdeal.τ).loc Cert.DownRefIdeal.main_v35) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v4) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Wxq_WxqIdeal : Prop :=
  True

def algebraic_WxqIdeal_WxqRefIdeal [hWxqIdeal : Cert.WxqIdeal.Facts] [hWxqRefIdeal : Cert.WxqRefIdeal.Facts] : Prop :=
  ∀ (m : (ℓ : Loc Cert.WxqIdeal.nD Cert.WxqIdeal.τ Cert.WxqIdeal.sig) → Buf (Elt Ideal) ℓ) (g : Dev Cert.WxqIdeal.nD → PrngReg)
    (m' : (ℓ : Loc Cert.WxqRefIdeal.nD Cert.WxqRefIdeal.τ Cert.WxqRefIdeal.sig) → Buf (Elt Ideal) ℓ) (g' : Dev Cert.WxqRefIdeal.nD → PrngReg), Pre_WxqIdeal m →
    (∀ c : Dev Cert.WxqIdeal.nD,
      m' ((c.tc : Thread Cert.WxqRefIdeal.nD Cert.WxqRefIdeal.τ).loc Cert.WxqRefIdeal.main_arg0) = m ((c.tc : Thread Cert.WxqIdeal.nD Cert.WxqIdeal.τ).loc Cert.WxqIdeal.main_arg0)
      ∧ m' ((c.tc : Thread Cert.WxqRefIdeal.nD Cert.WxqRefIdeal.τ).loc Cert.WxqRefIdeal.main_arg1) = m ((c.tc : Thread Cert.WxqIdeal.nD Cert.WxqIdeal.τ).loc Cert.WxqIdeal.main_arg1)) →
    ∃ (v0 : (c : Dev Cert.WxqIdeal.nD) → Buf (Elt Ideal) ((c.tc : Thread Cert.WxqIdeal.nD Cert.WxqIdeal.τ).loc Cert.WxqIdeal.main_v0)),
      θ_run (Cert.WxqIdeal.defs (F := Ideal)) (onTc (τ := Cert.WxqIdeal.τ) (Cert.WxqIdeal.main (F := Ideal))) ⟨m, fun _ => 0, g⟩ (fun r => ∀ c : Dev Cert.WxqIdeal.nD,
          r.2.mem ((c.tc : Thread Cert.WxqIdeal.nD Cert.WxqIdeal.τ).loc Cert.WxqIdeal.main_v0) = v0 c
          ∧ r.2.mem ((c.tc : Thread Cert.WxqIdeal.nD Cert.WxqIdeal.τ).loc Cert.WxqIdeal.main_arg0) = m ((c.tc : Thread Cert.WxqIdeal.nD Cert.WxqIdeal.τ).loc Cert.WxqIdeal.main_arg0)
          ∧ r.2.mem ((c.tc : Thread Cert.WxqIdeal.nD Cert.WxqIdeal.τ).loc Cert.WxqIdeal.main_arg1) = m ((c.tc : Thread Cert.WxqIdeal.nD Cert.WxqIdeal.τ).loc Cert.WxqIdeal.main_arg1))
      ∧ θ_run (Cert.WxqRefIdeal.defs (F := Ideal)) (onTc (τ := Cert.WxqRefIdeal.τ) (Cert.WxqRefIdeal.main (F := Ideal))) ⟨m', fun _ => 0, g'⟩ (fun r => ∀ c : Dev Cert.WxqRefIdeal.nD,
          r.2.mem ((c.tc : Thread Cert.WxqRefIdeal.nD Cert.WxqRefIdeal.τ).loc Cert.WxqRefIdeal.main_v4) = v0 c
          ∧ r.2.mem ((c.tc : Thread Cert.WxqRefIdeal.nD Cert.WxqRefIdeal.τ).loc Cert.WxqRefIdeal.main_arg0) = m' ((c.tc : Thread Cert.WxqRefIdeal.nD Cert.WxqRefIdeal.τ).loc Cert.WxqRefIdeal.main_arg0)
          ∧ r.2.mem ((c.tc : Thread Cert.WxqRefIdeal.nD Cert.WxqRefIdeal.τ).loc Cert.WxqRefIdeal.main_arg1) = m' ((c.tc : Thread Cert.WxqRefIdeal.nD Cert.WxqRefIdeal.τ).loc Cert.WxqRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)
      ∧ m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4)) →
    ∃ (v0 : (c : Dev Cert.WoutIdeal.nD) → Buf (Elt Ideal) ((c.tc : Thread Cert.WoutIdeal.nD Cert.WoutIdeal.τ).loc Cert.WoutIdeal.main_v7_0)) (v1 : (c : Dev Cert.WoutIdeal.nD) → Buf (Elt Ideal) ((c.tc : Thread Cert.WoutIdeal.nD Cert.WoutIdeal.τ).loc Cert.WoutIdeal.main_v7_1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v7_0) = v0 c
          ∧ r.2.mem ((c.tc : Thread Cert.WoutIdeal.nD Cert.WoutIdeal.τ).loc Cert.WoutIdeal.main_v7_1) = v1 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v19) = v0 c
          ∧ r.2.mem ((c.tc : Thread Cert.WoutRefIdeal.nD Cert.WoutRefIdeal.τ).loc Cert.WoutRefIdeal.main_v35) = v1 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3)
          ∧ r.2.mem ((c.tc : Thread Cert.WoutRefIdeal.nD Cert.WoutRefIdeal.τ).loc Cert.WoutRefIdeal.main_arg4) = m' ((c.tc : Thread Cert.WoutRefIdeal.nD Cert.WoutRefIdeal.τ).loc Cert.WoutRefIdeal.main_arg4))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v19) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_MemFirst_MemFirstIdeal : Prop :=
  True

def algebraic_MemFirstIdeal_MemFirstRefIdeal_on_first_layer [hMemFirstIdeal : Cert.MemFirstIdeal.Facts] [hMemFirstRefIdeal : Cert.MemFirstRefIdeal.Facts] [hOn_first_layer : Cert.On_first_layer.Facts] : Prop :=
  ∀ (m : (ℓ : Loc Cert.MemFirstIdeal.nD Cert.MemFirstIdeal.τ Cert.MemFirstIdeal.sig) → Buf (Elt Ideal) ℓ) (g : Dev Cert.MemFirstIdeal.nD → PrngReg)
    (m' : (ℓ : Loc Cert.MemFirstRefIdeal.nD Cert.MemFirstRefIdeal.τ Cert.MemFirstRefIdeal.sig) → Buf (Elt Ideal) ℓ) (g' : Dev Cert.MemFirstRefIdeal.nD → PrngReg), Pre_MemFirstIdeal m →
    (∀ c : Dev Cert.MemFirstIdeal.nD,
      m' ((c.tc : Thread Cert.MemFirstRefIdeal.nD Cert.MemFirstRefIdeal.τ).loc Cert.MemFirstRefIdeal.main_arg0) = m ((c.tc : Thread Cert.MemFirstIdeal.nD Cert.MemFirstIdeal.τ).loc Cert.MemFirstIdeal.main_arg0)
      ∧ m' ((c.tc : Thread Cert.MemFirstRefIdeal.nD Cert.MemFirstRefIdeal.τ).loc Cert.MemFirstRefIdeal.main_arg1) = m ((c.tc : Thread Cert.MemFirstIdeal.nD Cert.MemFirstIdeal.τ).loc Cert.MemFirstIdeal.main_arg1)
      ∧ m' ((c.tc : Thread Cert.MemFirstRefIdeal.nD Cert.MemFirstRefIdeal.τ).loc Cert.MemFirstRefIdeal.main_arg2) = m ((c.tc : Thread Cert.MemFirstIdeal.nD Cert.MemFirstIdeal.τ).loc Cert.MemFirstIdeal.main_arg2)) →
    ∃ (v0 : (c : Dev Cert.MemFirstIdeal.nD) → Buf (Elt Ideal) ((c.tc : Thread Cert.MemFirstIdeal.nD Cert.MemFirstIdeal.τ).loc Cert.MemFirstIdeal.main_v4)),
      θ_run (Cert.MemFirstIdeal.defs (F := Ideal)) (onTc (τ := Cert.MemFirstIdeal.τ) (Cert.MemFirstIdeal.main (F := Ideal))) ⟨m, fun _ => 0, g⟩ (fun r => ∀ c : Dev Cert.MemFirstIdeal.nD,
          (∀ i : (⟨3, ![2, 1024, 2048]⟩ : Shape).Idx, (Cert.On_first_layer.fn (F := Ideal) (m ((c.tc : Thread Cert.MemFirstIdeal.nD Cert.MemFirstIdeal.τ).loc Cert.MemFirstIdeal.main_arg0)) (m ((c.tc : Thread Cert.MemFirstIdeal.nD Cert.MemFirstIdeal.τ).loc Cert.MemFirstIdeal.main_arg1)) (m ((c.tc : Thread Cert.MemFirstIdeal.nD Cert.MemFirstIdeal.τ).loc Cert.MemFirstIdeal.main_arg2))) i = 1#1 → r.2.mem ((c.tc : Thread Cert.MemFirstIdeal.nD Cert.MemFirstIdeal.τ).loc Cert.MemFirstIdeal.main_v4) i = v0 c i)
          ∧ r.2.mem ((c.tc : Thread Cert.MemFirstIdeal.nD Cert.MemFirstIdeal.τ).loc Cert.MemFirstIdeal.main_arg0) = m ((c.tc : Thread Cert.MemFirstIdeal.nD Cert.MemFirstIdeal.τ).loc Cert.MemFirstIdeal.main_arg0)
          ∧ r.2.mem ((c.tc : Thread Cert.MemFirstIdeal.nD Cert.MemFirstIdeal.τ).loc Cert.MemFirstIdeal.main_arg1) = m ((c.tc : Thread Cert.MemFirstIdeal.nD Cert.MemFirstIdeal.τ).loc Cert.MemFirstIdeal.main_arg1)
          ∧ r.2.mem ((c.tc : Thread Cert.MemFirstIdeal.nD Cert.MemFirstIdeal.τ).loc Cert.MemFirstIdeal.main_arg2) = m ((c.tc : Thread Cert.MemFirstIdeal.nD Cert.MemFirstIdeal.τ).loc Cert.MemFirstIdeal.main_arg2))
      ∧ θ_run (Cert.MemFirstRefIdeal.defs (F := Ideal)) (onTc (τ := Cert.MemFirstRefIdeal.τ) (Cert.MemFirstRefIdeal.main (F := Ideal))) ⟨m', fun _ => 0, g'⟩ (fun r => ∀ c : Dev Cert.MemFirstRefIdeal.nD,
          (∀ i : (⟨3, ![2, 1024, 2048]⟩ : Shape).Idx, (Cert.On_first_layer.fn (F := Ideal) (m ((c.tc : Thread Cert.MemFirstIdeal.nD Cert.MemFirstIdeal.τ).loc Cert.MemFirstIdeal.main_arg0)) (m ((c.tc : Thread Cert.MemFirstIdeal.nD Cert.MemFirstIdeal.τ).loc Cert.MemFirstIdeal.main_arg1)) (m ((c.tc : Thread Cert.MemFirstIdeal.nD Cert.MemFirstIdeal.τ).loc Cert.MemFirstIdeal.main_arg2))) i = 1#1 → r.2.mem ((c.tc : Thread Cert.MemFirstRefIdeal.nD Cert.MemFirstRefIdeal.τ).loc Cert.MemFirstRefIdeal.main_v20) i = v0 c i)
          ∧ r.2.mem ((c.tc : Thread Cert.MemFirstRefIdeal.nD Cert.MemFirstRefIdeal.τ).loc Cert.MemFirstRefIdeal.main_arg0) = m' ((c.tc : Thread Cert.MemFirstRefIdeal.nD Cert.MemFirstRefIdeal.τ).loc Cert.MemFirstRefIdeal.main_arg0)
          ∧ r.2.mem ((c.tc : Thread Cert.MemFirstRefIdeal.nD Cert.MemFirstRefIdeal.τ).loc Cert.MemFirstRefIdeal.main_arg1) = m' ((c.tc : Thread Cert.MemFirstRefIdeal.nD Cert.MemFirstRefIdeal.τ).loc Cert.MemFirstRefIdeal.main_arg1)
          ∧ r.2.mem ((c.tc : Thread Cert.MemFirstRefIdeal.nD Cert.MemFirstRefIdeal.τ).loc Cert.MemFirstRefIdeal.main_arg2) = m' ((c.tc : Thread Cert.MemFirstRefIdeal.nD Cert.MemFirstRefIdeal.τ).loc Cert.MemFirstRefIdeal.main_arg2))

def preserves_MemSecond_MemSecondIdeal : Prop :=
  True

def algebraic_MemSecondIdeal_MemSecondRefIdeal [hMemSecondIdeal : Cert.MemSecondIdeal.Facts] [hMemSecondRefIdeal : Cert.MemSecondRefIdeal.Facts] : Prop :=
  ∀ (m : (ℓ : Loc Cert.MemSecondIdeal.nD Cert.MemSecondIdeal.τ Cert.MemSecondIdeal.sig) → Buf (Elt Ideal) ℓ) (g : Dev Cert.MemSecondIdeal.nD → PrngReg)
    (m' : (ℓ : Loc Cert.MemSecondRefIdeal.nD Cert.MemSecondRefIdeal.τ Cert.MemSecondRefIdeal.sig) → Buf (Elt Ideal) ℓ) (g' : Dev Cert.MemSecondRefIdeal.nD → PrngReg), Pre_MemSecondIdeal m →
    (∀ c : Dev Cert.MemSecondIdeal.nD,
      m' ((c.tc : Thread Cert.MemSecondRefIdeal.nD Cert.MemSecondRefIdeal.τ).loc Cert.MemSecondRefIdeal.main_arg0) = m ((c.tc : Thread Cert.MemSecondIdeal.nD Cert.MemSecondIdeal.τ).loc Cert.MemSecondIdeal.main_arg0)
      ∧ m' ((c.tc : Thread Cert.MemSecondRefIdeal.nD Cert.MemSecondRefIdeal.τ).loc Cert.MemSecondRefIdeal.main_arg1) = m ((c.tc : Thread Cert.MemSecondIdeal.nD Cert.MemSecondIdeal.τ).loc Cert.MemSecondIdeal.main_arg1)
      ∧ m' ((c.tc : Thread Cert.MemSecondRefIdeal.nD Cert.MemSecondRefIdeal.τ).loc Cert.MemSecondRefIdeal.main_arg2) = m ((c.tc : Thread Cert.MemSecondIdeal.nD Cert.MemSecondIdeal.τ).loc Cert.MemSecondIdeal.main_arg2)
      ∧ m' ((c.tc : Thread Cert.MemSecondRefIdeal.nD Cert.MemSecondRefIdeal.τ).loc Cert.MemSecondRefIdeal.main_arg3) = m ((c.tc : Thread Cert.MemSecondIdeal.nD Cert.MemSecondIdeal.τ).loc Cert.MemSecondIdeal.main_arg3)) →
    ∃ (v0 : (c : Dev Cert.MemSecondIdeal.nD) → Buf (Elt Ideal) ((c.tc : Thread Cert.MemSecondIdeal.nD Cert.MemSecondIdeal.τ).loc Cert.MemSecondIdeal.main_v4)),
      θ_run (Cert.MemSecondIdeal.defs (F := Ideal)) (onTc (τ := Cert.MemSecondIdeal.τ) (Cert.MemSecondIdeal.main (F := Ideal))) ⟨m, fun _ => 0, g⟩ (fun r => ∀ c : Dev Cert.MemSecondIdeal.nD,
          r.2.mem ((c.tc : Thread Cert.MemSecondIdeal.nD Cert.MemSecondIdeal.τ).loc Cert.MemSecondIdeal.main_v4) = v0 c
          ∧ r.2.mem ((c.tc : Thread Cert.MemSecondIdeal.nD Cert.MemSecondIdeal.τ).loc Cert.MemSecondIdeal.main_arg0) = m ((c.tc : Thread Cert.MemSecondIdeal.nD Cert.MemSecondIdeal.τ).loc Cert.MemSecondIdeal.main_arg0)
          ∧ r.2.mem ((c.tc : Thread Cert.MemSecondIdeal.nD Cert.MemSecondIdeal.τ).loc Cert.MemSecondIdeal.main_arg1) = m ((c.tc : Thread Cert.MemSecondIdeal.nD Cert.MemSecondIdeal.τ).loc Cert.MemSecondIdeal.main_arg1)
          ∧ r.2.mem ((c.tc : Thread Cert.MemSecondIdeal.nD Cert.MemSecondIdeal.τ).loc Cert.MemSecondIdeal.main_arg2) = m ((c.tc : Thread Cert.MemSecondIdeal.nD Cert.MemSecondIdeal.τ).loc Cert.MemSecondIdeal.main_arg2)
          ∧ r.2.mem ((c.tc : Thread Cert.MemSecondIdeal.nD Cert.MemSecondIdeal.τ).loc Cert.MemSecondIdeal.main_arg3) = m ((c.tc : Thread Cert.MemSecondIdeal.nD Cert.MemSecondIdeal.τ).loc Cert.MemSecondIdeal.main_arg3))
      ∧ θ_run (Cert.MemSecondRefIdeal.defs (F := Ideal)) (onTc (τ := Cert.MemSecondRefIdeal.τ) (Cert.MemSecondRefIdeal.main (F := Ideal))) ⟨m', fun _ => 0, g'⟩ (fun r => ∀ c : Dev Cert.MemSecondRefIdeal.nD,
          r.2.mem ((c.tc : Thread Cert.MemSecondRefIdeal.nD Cert.MemSecondRefIdeal.τ).loc Cert.MemSecondRefIdeal.main_v20) = v0 c
          ∧ r.2.mem ((c.tc : Thread Cert.MemSecondRefIdeal.nD Cert.MemSecondRefIdeal.τ).loc Cert.MemSecondRefIdeal.main_arg0) = m' ((c.tc : Thread Cert.MemSecondRefIdeal.nD Cert.MemSecondRefIdeal.τ).loc Cert.MemSecondRefIdeal.main_arg0)
          ∧ r.2.mem ((c.tc : Thread Cert.MemSecondRefIdeal.nD Cert.MemSecondRefIdeal.τ).loc Cert.MemSecondRefIdeal.main_arg1) = m' ((c.tc : Thread Cert.MemSecondRefIdeal.nD Cert.MemSecondRefIdeal.τ).loc Cert.MemSecondRefIdeal.main_arg1)
          ∧ r.2.mem ((c.tc : Thread Cert.MemSecondRefIdeal.nD Cert.MemSecondRefIdeal.τ).loc Cert.MemSecondRefIdeal.main_arg2) = m' ((c.tc : Thread Cert.MemSecondRefIdeal.nD Cert.MemSecondRefIdeal.τ).loc Cert.MemSecondRefIdeal.main_arg2)
          ∧ r.2.mem ((c.tc : Thread Cert.MemSecondRefIdeal.nD Cert.MemSecondRefIdeal.τ).loc Cert.MemSecondRefIdeal.main_arg3) = m' ((c.tc : Thread Cert.MemSecondRefIdeal.nD Cert.MemSecondRefIdeal.τ).loc Cert.MemSecondRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)
      ∧ m' ((c.tc : Thread Cert.MixRefIdeal.nD Cert.MixRefIdeal.τ).loc Cert.MixRefIdeal.main_arg18) = m ((c.tc : Thread Cert.MixIdeal.nD Cert.MixIdeal.τ).loc Cert.MixIdeal.main_arg18)
      ∧ m' ((c.tc : Thread Cert.MixRefIdeal.nD Cert.MixRefIdeal.τ).loc Cert.MixRefIdeal.main_arg19) = m ((c.tc : Thread Cert.MixIdeal.nD Cert.MixIdeal.τ).loc Cert.MixIdeal.main_arg19)
      ∧ m' ((c.tc : Thread Cert.MixRefIdeal.nD Cert.MixRefIdeal.τ).loc Cert.MixRefIdeal.main_arg20) = m ((c.tc : Thread Cert.MixIdeal.nD Cert.MixIdeal.τ).loc Cert.MixIdeal.main_arg20)
      ∧ m' ((c.tc : Thread Cert.MixRefIdeal.nD Cert.MixRefIdeal.τ).loc Cert.MixRefIdeal.main_arg21) = m ((c.tc : Thread Cert.MixIdeal.nD Cert.MixIdeal.τ).loc Cert.MixIdeal.main_arg21)
      ∧ m' ((c.tc : Thread Cert.MixRefIdeal.nD Cert.MixRefIdeal.τ).loc Cert.MixRefIdeal.main_arg22) = m ((c.tc : Thread Cert.MixIdeal.nD Cert.MixIdeal.τ).loc Cert.MixIdeal.main_arg22)
      ∧ m' ((c.tc : Thread Cert.MixRefIdeal.nD Cert.MixRefIdeal.τ).loc Cert.MixRefIdeal.main_arg23) = m ((c.tc : Thread Cert.MixIdeal.nD Cert.MixIdeal.τ).loc Cert.MixIdeal.main_arg23)
      ∧ m' ((c.tc : Thread Cert.MixRefIdeal.nD Cert.MixRefIdeal.τ).loc Cert.MixRefIdeal.main_arg24) = m ((c.tc : Thread Cert.MixIdeal.nD Cert.MixIdeal.τ).loc Cert.MixIdeal.main_arg24)
      ∧ m' ((c.tc : Thread Cert.MixRefIdeal.nD Cert.MixRefIdeal.τ).loc Cert.MixRefIdeal.main_arg25) = m ((c.tc : Thread Cert.MixIdeal.nD Cert.MixIdeal.τ).loc Cert.MixIdeal.main_arg25)) →
    ∃ (v0 : (c : Dev Cert.MixIdeal.nD) → Buf (Elt Ideal) ((c.tc : Thread Cert.MixIdeal.nD Cert.MixIdeal.τ).loc Cert.MixIdeal.main_v57_1)) (v1 : (c : Dev Cert.MixIdeal.nD) → Buf (Elt Ideal) ((c.tc : Thread Cert.MixIdeal.nD Cert.MixIdeal.τ).loc Cert.MixIdeal.main_v57_2)) (v2 : (c : Dev Cert.MixIdeal.nD) → Buf (Elt Ideal) ((c.tc : Thread Cert.MixIdeal.nD Cert.MixIdeal.τ).loc Cert.MixIdeal.main_v57_3)) (v3 : (c : Dev Cert.MixIdeal.nD) → Buf (Elt Ideal) ((c.tc : Thread Cert.MixIdeal.nD Cert.MixIdeal.τ).loc Cert.MixIdeal.main_v58)) (v4 : (c : Dev Cert.MixIdeal.nD) → Buf (Elt Ideal) ((c.tc : Thread Cert.MixIdeal.nD Cert.MixIdeal.τ).loc Cert.MixIdeal.main_v57_6)) (v5 : (c : Dev Cert.MixIdeal.nD) → Buf (Elt Ideal) ((c.tc : Thread Cert.MixIdeal.nD Cert.MixIdeal.τ).loc Cert.MixIdeal.main_v57_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v57_1) = v0 c
          ∧ r.2.mem ((c.tc : Thread Cert.MixIdeal.nD Cert.MixIdeal.τ).loc Cert.MixIdeal.main_v57_2) = v1 c
          ∧ r.2.mem ((c.tc : Thread Cert.MixIdeal.nD Cert.MixIdeal.τ).loc Cert.MixIdeal.main_v57_3) = v2 c
          ∧ r.2.mem ((c.tc : Thread Cert.MixIdeal.nD Cert.MixIdeal.τ).loc Cert.MixIdeal.main_v58) = v3 c
          ∧ r.2.mem ((c.tc : Thread Cert.MixIdeal.nD Cert.MixIdeal.τ).loc Cert.MixIdeal.main_v57_6) = v4 c
          ∧ r.2.mem ((c.tc : Thread Cert.MixIdeal.nD Cert.MixIdeal.τ).loc Cert.MixIdeal.main_v57_7) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
          ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
          ∧ r.2.mem ((c.tc : Thread Cert.MixIdeal.nD Cert.MixIdeal.τ).loc Cert.MixIdeal.main_arg19) = m ((c.tc : Thread Cert.MixIdeal.nD Cert.MixIdeal.τ).loc Cert.MixIdeal.main_arg19)
          ∧ r.2.mem ((c.tc : Thread Cert.MixIdeal.nD Cert.MixIdeal.τ).loc Cert.MixIdeal.main_arg20) = m ((c.tc : Thread Cert.MixIdeal.nD Cert.MixIdeal.τ).loc Cert.MixIdeal.main_arg20)
          ∧ r.2.mem ((c.tc : Thread Cert.MixIdeal.nD Cert.MixIdeal.τ).loc Cert.MixIdeal.main_arg21) = m ((c.tc : Thread Cert.MixIdeal.nD Cert.MixIdeal.τ).loc Cert.MixIdeal.main_arg21)
          ∧ r.2.mem ((c.tc : Thread Cert.MixIdeal.nD Cert.MixIdeal.τ).loc Cert.MixIdeal.main_arg22) = m ((c.tc : Thread Cert.MixIdeal.nD Cert.MixIdeal.τ).loc Cert.MixIdeal.main_arg22)
          ∧ r.2.mem ((c.tc : Thread Cert.MixIdeal.nD Cert.MixIdeal.τ).loc Cert.MixIdeal.main_arg23) = m ((c.tc : Thread Cert.MixIdeal.nD Cert.MixIdeal.τ).loc Cert.MixIdeal.main_arg23)
          ∧ r.2.mem ((c.tc : Thread Cert.MixIdeal.nD Cert.MixIdeal.τ).loc Cert.MixIdeal.main_arg24) = m ((c.tc : Thread Cert.MixIdeal.nD Cert.MixIdeal.τ).loc Cert.MixIdeal.main_arg24)
          ∧ r.2.mem ((c.tc : Thread Cert.MixIdeal.nD Cert.MixIdeal.τ).loc Cert.MixIdeal.main_arg25) = m ((c.tc : Thread Cert.MixIdeal.nD Cert.MixIdeal.τ).loc Cert.MixIdeal.main_arg25))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v138) = v0 c
          ∧ r.2.mem ((c.tc : Thread Cert.MixRefIdeal.nD Cert.MixRefIdeal.τ).loc Cert.MixRefIdeal.main_v141) = v1 c
          ∧ r.2.mem ((c.tc : Thread Cert.MixRefIdeal.nD Cert.MixRefIdeal.τ).loc Cert.MixRefIdeal.main_v144) = v2 c
          ∧ r.2.mem ((c.tc : Thread Cert.MixRefIdeal.nD Cert.MixRefIdeal.τ).loc Cert.MixRefIdeal.main_v148) = v3 c
          ∧ r.2.mem ((c.tc : Thread Cert.MixRefIdeal.nD Cert.MixRefIdeal.τ).loc Cert.MixRefIdeal.main_v152) = v4 c
          ∧ r.2.mem ((c.tc : Thread Cert.MixRefIdeal.nD Cert.MixRefIdeal.τ).loc Cert.MixRefIdeal.main_v156) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17)
          ∧ r.2.mem ((c.tc : Thread Cert.MixRefIdeal.nD Cert.MixRefIdeal.τ).loc Cert.MixRefIdeal.main_arg18) = m' ((c.tc : Thread Cert.MixRefIdeal.nD Cert.MixRefIdeal.τ).loc Cert.MixRefIdeal.main_arg18)
          ∧ r.2.mem ((c.tc : Thread Cert.MixRefIdeal.nD Cert.MixRefIdeal.τ).loc Cert.MixRefIdeal.main_arg19) = m' ((c.tc : Thread Cert.MixRefIdeal.nD Cert.MixRefIdeal.τ).loc Cert.MixRefIdeal.main_arg19)
          ∧ r.2.mem ((c.tc : Thread Cert.MixRefIdeal.nD Cert.MixRefIdeal.τ).loc Cert.MixRefIdeal.main_arg20) = m' ((c.tc : Thread Cert.MixRefIdeal.nD Cert.MixRefIdeal.τ).loc Cert.MixRefIdeal.main_arg20)
          ∧ r.2.mem ((c.tc : Thread Cert.MixRefIdeal.nD Cert.MixRefIdeal.τ).loc Cert.MixRefIdeal.main_arg21) = m' ((c.tc : Thread Cert.MixRefIdeal.nD Cert.MixRefIdeal.τ).loc Cert.MixRefIdeal.main_arg21)
          ∧ r.2.mem ((c.tc : Thread Cert.MixRefIdeal.nD Cert.MixRefIdeal.τ).loc Cert.MixRefIdeal.main_arg22) = m' ((c.tc : Thread Cert.MixRefIdeal.nD Cert.MixRefIdeal.τ).loc Cert.MixRefIdeal.main_arg22)
          ∧ r.2.mem ((c.tc : Thread Cert.MixRefIdeal.nD Cert.MixRefIdeal.τ).loc Cert.MixRefIdeal.main_arg23) = m' ((c.tc : Thread Cert.MixRefIdeal.nD Cert.MixRefIdeal.τ).loc Cert.MixRefIdeal.main_arg23)
          ∧ r.2.mem ((c.tc : Thread Cert.MixRefIdeal.nD Cert.MixRefIdeal.τ).loc Cert.MixRefIdeal.main_arg24) = m' ((c.tc : Thread Cert.MixRefIdeal.nD Cert.MixRefIdeal.τ).loc Cert.MixRefIdeal.main_arg24)
          ∧ r.2.mem ((c.tc : Thread Cert.MixRefIdeal.nD Cert.MixRefIdeal.τ).loc Cert.MixRefIdeal.main_arg25) = m' ((c.tc : Thread Cert.MixRefIdeal.nD Cert.MixRefIdeal.τ).loc Cert.MixRefIdeal.main_arg25))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hWin : Cert.Win.Facts) (hWinIdeal : Cert.WinIdeal.Facts) (hWinRefIdeal : Cert.WinRefIdeal.Facts) (hWxq : Cert.Wxq.Facts) (hWxqIdeal : Cert.WxqIdeal.Facts) (hWxqRefIdeal : Cert.WxqRefIdeal.Facts) (hWout : Cert.Wout.Facts) (hWoutIdeal : Cert.WoutIdeal.Facts) (hWoutRefIdeal : Cert.WoutRefIdeal.Facts) (hLast : Cert.Last.Facts) (hLastIdeal : Cert.LastIdeal.Facts) (hLastRefIdeal : Cert.LastRefIdeal.Facts) (hMemFirst : Cert.MemFirst.Facts) (hMemFirstIdeal : Cert.MemFirstIdeal.Facts) (hMemFirstRefIdeal : Cert.MemFirstRefIdeal.Facts) (hMemSecond : Cert.MemSecond.Facts) (hMemSecondIdeal : Cert.MemSecondIdeal.Facts) (hMemSecondRefIdeal : Cert.MemSecondRefIdeal.Facts) (hMix : Cert.Mix.Facts) (hMixIdeal : Cert.MixIdeal.Facts) (hMixRefIdeal : Cert.MixRefIdeal.Facts) (hPre_finite_scores : Cert.Pre_finite_scores.Facts) (hOn_prompt_rows : Cert.On_prompt_rows.Facts) (hOn_first_layer : Cert.On_first_layer.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Win (hWin := hWin)
    ∧ quiescent_WinIdeal (hWinIdeal := hWinIdeal)
    ∧ quiescent_WinRefIdeal (hWinRefIdeal := hWinRefIdeal)
    ∧ quiescent_Wxq (hWxq := hWxq)
    ∧ quiescent_WxqIdeal (hWxqIdeal := hWxqIdeal)
    ∧ quiescent_WxqRefIdeal (hWxqRefIdeal := hWxqRefIdeal)
    ∧ quiescent_Wout (hWout := hWout)
    ∧ quiescent_WoutIdeal (hWoutIdeal := hWoutIdeal)
    ∧ quiescent_WoutRefIdeal (hWoutRefIdeal := hWoutRefIdeal)
    ∧ quiescent_Last (hLast := hLast)
    ∧ quiescent_LastIdeal (hLastIdeal := hLastIdeal)
    ∧ quiescent_LastRefIdeal (hLastRefIdeal := hLastRefIdeal)
    ∧ quiescent_MemFirst (hMemFirst := hMemFirst)
    ∧ quiescent_MemFirstIdeal (hMemFirstIdeal := hMemFirstIdeal)
    ∧ quiescent_MemFirstRefIdeal (hMemFirstRefIdeal := hMemFirstRefIdeal)
    ∧ quiescent_MemSecond (hMemSecond := hMemSecond)
    ∧ quiescent_MemSecondIdeal (hMemSecondIdeal := hMemSecondIdeal)
    ∧ quiescent_MemSecondRefIdeal (hMemSecondRefIdeal := hMemSecondRefIdeal)
    ∧ quiescent_Mix (hMix := hMix)
    ∧ quiescent_MixIdeal (hMixIdeal := hMixIdeal)
    ∧ quiescent_MixRefIdeal (hMixRefIdeal := hMixRefIdeal)
    ∧ preserves_Attn_AttnIdeal
    ∧ algebraic_AttnIdeal_AttnRefIdeal_on_prompt_rows_pre_finite_scores (hAttnIdeal := hAttnIdeal) (hAttnRefIdeal := hAttnRefIdeal) (hPre_finite_scores := hPre_finite_scores) (hOn_prompt_rows := hOn_prompt_rows)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Win_WinIdeal
    ∧ algebraic_WinIdeal_WinRefIdeal (hWinIdeal := hWinIdeal) (hWinRefIdeal := hWinRefIdeal)
    ∧ preserves_Wxq_WxqIdeal
    ∧ algebraic_WxqIdeal_WxqRefIdeal (hWxqIdeal := hWxqIdeal) (hWxqRefIdeal := hWxqRefIdeal)
    ∧ preserves_Wout_WoutIdeal
    ∧ algebraic_WoutIdeal_WoutRefIdeal (hWoutIdeal := hWoutIdeal) (hWoutRefIdeal := hWoutRefIdeal)
    ∧ preserves_Last_LastIdeal
    ∧ algebraic_LastIdeal_LastRefIdeal (hLastIdeal := hLastIdeal) (hLastRefIdeal := hLastRefIdeal)
    ∧ preserves_MemFirst_MemFirstIdeal
    ∧ algebraic_MemFirstIdeal_MemFirstRefIdeal_on_first_layer (hMemFirstIdeal := hMemFirstIdeal) (hMemFirstRefIdeal := hMemFirstRefIdeal) (hOn_first_layer := hOn_first_layer)
    ∧ preserves_MemSecond_MemSecondIdeal
    ∧ algebraic_MemSecondIdeal_MemSecondRefIdeal (hMemSecondIdeal := hMemSecondIdeal) (hMemSecondRefIdeal := hMemSecondRefIdeal)
    ∧ preserves_Mix_MixIdeal
    ∧ algebraic_MixIdeal_MixRefIdeal (hMixIdeal := hMixIdeal) (hMixRefIdeal := hMixRefIdeal)
-- ==== On_first_layer.lean ====
abbrev S4x256x2048 : Shape := ⟨3, ![4, 256, 2048]⟩
abbrev S2x2048 : Shape := ⟨2, ![2, 2048]⟩
abbrev S2x2048x2048 : Shape := ⟨3, ![2, 2048, 2048]⟩
abbrev S2x1024x2048 : Shape := ⟨3, ![2, 1024, 2048]⟩
abbrev S_ : Shape := ⟨0, ![]⟩

class Facts : Prop where
  bcast_S_S2x1024x2048 : S_.BroadcastsInDim S2x1024x2048 (![] : Fin 0 → Fin S2x1024x2048.rank)

variable [Facts]

def fn {F : FTy → Type} [FloatOps F] (main_arg0 : FVec F S4x256x2048 .f32) (main_arg1 : FVec F S2x2048 .f32) (main_arg2 : FVec F S2x2048x2048 .f32) : IVec S2x1024x2048 1 :=
  let main_v0 : IVec S2x1024x2048 32 := iotaInDim S2x1024x2048 32 0
  let main_c : IVec S_ 32 := constantI S_ 32 1#32
  let main_v1 : IVec S2x1024x2048 32 := broadcastInDim S2x1024x2048 ![] bcast_S_S2x1024x2048 main_c
  let main_v2 : IVec S2x1024x2048 1 := cmpi .slt main_v0 main_v1
  main_v2
-- ==== On_prompt_rows.lean ====
abbrev S8320x2048 : Shape := ⟨2, ![8320, 2048]⟩
abbrev S2x1024x2048 : Shape := ⟨3, ![2, 1024, 2048]⟩
abbrev S_ : Shape := ⟨0, ![]⟩

class Facts : Prop where
  bcast_S_S8320x2048 : S_.BroadcastsInDim S8320x2048 (![] : Fin 0 → Fin S8320x2048.rank)

variable [Facts]

def fn {F : FTy → Type} [FloatOps F] (main_arg0 : FVec F S8320x2048 .bf16) (main_arg1 : FVec F S2x1024x2048 .f32) (main_arg2 : FVec F S2x1024x2048 .f32) : IVec S8320x2048 1 :=
  let main_v0 : IVec S8320x2048 32 := iotaInDim S8320x2048 32 0
  let main_c : IVec S_ 32 := constantI S_ 32 8192#32
  let main_v1 : IVec S8320x2048 32 := broadcastInDim S8320x2048 ![] bcast_S_S8320x2048 main_c
  let main_v2 : IVec S8320x2048 1 := cmpi .slt main_v0 main_v1
  main_v2
-- ==== Pre_finite_scores.lean ====
abbrev S8320x2048 : Shape := ⟨2, ![8320, 2048]⟩
abbrev S2x1024x2048 : Shape := ⟨3, ![2, 1024, 2048]⟩
abbrev S_ : Shape := ⟨0, ![]⟩

class Facts : Prop where
  bitsLt_bf16_f32 : FTy.bits .bf16 < FTy.bits .f32
  bcast_S_S8320x2048 : S_.BroadcastsInDim S8320x2048 (![] : Fin 0 → Fin S8320x2048.rank)
  reducesTo_S8320x2048_S_d0_1 : S8320x2048.ReducesTo [0, 1] S_
  h_S_ : 0 < S_.numel
  bcast_S_S2x1024x2048 : S_.BroadcastsInDim S2x1024x2048 (![] : Fin 0 → Fin S2x1024x2048.rank)
  reducesTo_S2x1024x2048_S_d0_1_2 : S2x1024x2048.ReducesTo [0, 1, 2] S_

variable [Facts]

def fn {F : FTy → Type} [FloatOps F] (main_arg0 : FVec F S8320x2048 .bf16) (main_arg1 : FVec F S2x1024x2048 .f32) (main_arg2 : FVec F S2x1024x2048 .f32) : IVec S_ 1 :=
  let main_v0 : FVec F S8320x2048 .f32 := (extf .f32 · bitsLt_bf16_f32) main_arg0
  let main_v1 : FVec F S8320x2048 .f32 := Host.absf main_v0
  let main_cst : FVec F S_ .f32 := constant S_ .f32 0x7F800000#32
  let main_v2 : FVec F S8320x2048 .f32 := broadcastInDim S8320x2048 ![] bcast_S_S8320x2048 main_cst
  let main_v3 : IVec S8320x2048 1 := cmpf .olt main_v1 main_v2
  let main_c : IVec S_ 1 := constantI S_ 1 1#1
  let main_v4 : IVec S_ 1 := (fun x v => Host.reduce IntOp.andi x v reducesTo_S8320x2048_S_d0_1 h_S_) main_v3 main_c
  let main_v5 : FVec F S2x1024x2048 .f32 := Host.absf main_arg1
  let main_cst_0 : FVec F S_ .f32 := constant S_ .f32 0x7F800000#32
  let main_v6 : FVec F S2x1024x2048 .f32 := broadcastInDim S2x1024x2048 ![] bcast_S_S2x1024x2048 main_cst_0
  let main_v7 : IVec S2x1024x2048 1 := cmpf .olt main_v5 main_v6
  let main_c_1 : IVec S_ 1 := constantI S_ 1 1#1
  let main_v8 : IVec S_ 1 := (fun x v => Host.reduce IntOp.andi x v reducesTo_S2x1024x2048_S_d0_1_2 h_S_) main_v7 main_c_1
  let main_v9 : IVec S_ 1 := andi main_v4 main_v8
  main_v9
-- ==== Attn.lean ====
abbrev S8320x2048 : Shape := ⟨2, ![8320, 2048]⟩
abbrev S2x1024x2048 : Shape := ⟨3, ![2, 1024, 2048]⟩
abbrev S512x2048 : Shape := ⟨2, ![512, 2048]⟩
abbrev S1x256x2048 : Shape := ⟨3, ![1, 256, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .bf16⟩
  | .hbm, ⟨1, _⟩ => ⟨S2x1024x2048, .f32⟩
  | .hbm, ⟨2, _⟩ => ⟨S2x1024x2048, .f32⟩
  | .hbm, ⟨3, _⟩ => ⟨S8320x2048, .bf16⟩
  | .local _ .vmem, ⟨0, _⟩ => ⟨S512x2048, .bf16⟩
  | .local _ .vmem, ⟨1, _⟩ => ⟨S512x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S512x2048, .bf16⟩
  | .local _ .vmem, ⟨7, _⟩ => ⟨S512x2048, .bf16⟩
  | .local _ .vmem, ⟨8, _⟩ => ⟨S256x2048, .bf16⟩
  | .local _ .vmem, ⟨9, _⟩ => ⟨S256x2048, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S8320x2048 : Shape := ⟨2, ![8320, 2048]⟩
abbrev S2x1024x2048 : Shape := ⟨3, ![2, 1024, 2048]⟩
abbrev S8192x2048 : Shape := ⟨2, ![8192, 2048]⟩
abbrev S4x2048x4x512 : Shape := ⟨4, ![4, 2048, 4, 512]⟩
abbrev S1x1024x2048 : Shape := ⟨3, ![1, 1024, 2048]⟩
abbrev S1024x2048 : Shape := ⟨2, ![1024, 2048]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩
abbrev S128x2048 : Shape := ⟨2, ![128, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x1024x2048, .f32⟩
  | .hbm, ⟨2, _⟩ => ⟨S2x1024x2048, .f32⟩
  | .hbm, ⟨3, _⟩ => ⟨S8192x2048, .bf16⟩
  | .hbm, ⟨4, _⟩ => ⟨S8192x2048, .f32⟩
  | .hbm, ⟨5, _⟩ => ⟨S4x2048x4x512, .f32⟩
  | .hbm, ⟨6, _⟩ => ⟨S1x1024x2048, .f32⟩
  | .hbm, ⟨7, _⟩ => ⟨S1024x2048, .f32⟩
  | .hbm, ⟨8, _⟩ => ⟨S4x256x4x512, .f32⟩
  | .hbm, ⟨9, _⟩ => ⟨S1x1024x2048, .f32⟩
  | .hbm, ⟨10, _⟩ => ⟨S1024x2048, .f32⟩
  | .hbm, ⟨11, _⟩ => ⟨S4x256x4x512, .f32⟩
  | .hbm, ⟨12, _⟩ => ⟨S4x4x2048x256, .f32⟩
  | .hbm, ⟨13, _⟩ => ⟨S_, .f32⟩
  | .hbm, ⟨14, _⟩ => ⟨S4x4x2048x256, .f32⟩
  | .hbm, ⟨15, _⟩ => ⟨S4x4x2048x256, .f32⟩
  | .hbm, ⟨16, _⟩ => ⟨S_, .f32⟩
  | .hbm, ⟨17, _⟩ => ⟨S4x4x2048, .f32⟩
  | .hbm, ⟨18, _⟩ => ⟨S_, .f32⟩
  | .hbm, ⟨19, _⟩ => ⟨S4x4x2048, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .f32⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S4x4x2048x1, .f32⟩
  | .hbm, ⟨28, _⟩ => ⟨S4x4x2048x256, .f32⟩
  | .hbm, ⟨29, _⟩ => ⟨S4x4x2048x256, .f32⟩
  | .hbm, ⟨30, _⟩ => ⟨S4x4x512x2048, .f32⟩
  | .hbm, ⟨31, _⟩ => ⟨S4x2048x4x512, .f32⟩
  | .hbm, ⟨32, _⟩ => ⟨S8192x2048, .f32⟩
  | .hbm, ⟨33, _⟩ => ⟨S8192x2048, .bf16⟩
  | .hbm, ⟨34, _⟩ => ⟨S_, .bf16⟩
  | .hbm, ⟨35, _⟩ => ⟨S128x2048, .bf16⟩
  | .hbm, ⟨36, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Up.lean ====
abbrev S8320x2048 : Shape := ⟨2, ![8320, 2048]⟩
abbrev S2x2048x8192 : Shape := ⟨3, ![2, 2048, 8192]⟩
abbrev S8320x8192 : Shape := ⟨2, ![8320, 8192]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2x2048x8192, .f32⟩
  | .hbm, ⟨2, _⟩ => ⟨S8320x8192, .bf16⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x1024, .bf16⟩
  | .local _ .vmem, ⟨5, _⟩ => ⟨S1040x1024, .bf16⟩
  | .local _ .vmem, ⟨6, _⟩ => ⟨S2048x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8320x2048 : Shape := ⟨2, ![8320, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8320x8192 : Shape := ⟨2, ![8320, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x8192, .f32⟩
  | .hbm, ⟨2, _⟩ => ⟨S8320x2048, .f32⟩
  | .hbm, ⟨3, _⟩ => ⟨S1x2048x8192, .f32⟩
  | .hbm, ⟨4, _⟩ => ⟨S2048x8192, .f32⟩
  | .hbm, ⟨5, _⟩ => ⟨S8320x8192, .f32⟩
  | .hbm, ⟨6, _⟩ => ⟨S_, .f32⟩
  | .hbm, ⟨7, _⟩ => ⟨S8320x8192, .f32⟩
  | .hbm, ⟨8, _⟩ => ⟨S8320x8192, .f32⟩
  | .hbm, ⟨9, _⟩ => ⟨S8320x8192, .f32⟩
  | .hbm, ⟨10, _⟩ => ⟨S8320x8192, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S8320x8192 : Shape := ⟨2, ![8320, 8192]⟩
abbrev S2x8192x2048 : Shape := ⟨3, ![2, 8192, 2048]⟩
abbrev S2x2048 : Shape := ⟨2, ![2, 2048]⟩
abbrev S8320x2048 : Shape := ⟨2, ![8320, 2048]⟩
abbrev S1x2048 : Shape := ⟨2, ![1, 2048]⟩
abbrev S2048 : Shape := ⟨1, ![2048]⟩
abbrev S640x2048 : Shape := ⟨2, ![640, 2048]⟩
abbrev S1x2048x2048 : Shape := ⟨3, ![1, 2048, 2048]⟩
abbrev S2048x2048 : Shape := ⟨2, ![2048, 2048]⟩
abbrev S320x2048 : Shape := ⟨2, ![320, 2048]⟩
abbrev S320 : Shape := ⟨1, ![320]⟩
abbrev S320x1 : Shape := ⟨2, ![320, 1]⟩

abbrev nBuf : Space → Nat
  | .hbm => 14
  | .vmem => 13
  | .smem => 0
  | _ => 0

abbrev bufTy : (tb : Table) → Fin (tcTables nBuf tb) → BufTy
  | .hbm, ⟨0, _⟩ => ⟨S8320x8192, .bf16⟩
  | .hbm, ⟨1, _⟩ => ⟨S2x8192x2048, .f32⟩
  | .hbm, ⟨2, _⟩ => ⟨S2x2048, .f32⟩
  | .hbm, ⟨3, _⟩ => ⟨S8320x2048, .f32⟩
  | .hbm, ⟨4, _⟩ => ⟨S2x2048, .f32⟩
  | .hbm, ⟨5, _⟩ => ⟨S2x8192x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8320x2048, .f32⟩
  | .hbm, ⟨13, _⟩ => ⟨S8320x2048, .bf16⟩
  | .local _ .vmem, ⟨0, _⟩ => ⟨S640x2048, .bf16⟩
  | .local _ .vmem, ⟨1, _⟩ => ⟨S640x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048, .f32⟩
  | .local _ .vmem, ⟨5, _⟩ => ⟨S640x2048, .f32⟩
  | .local _ .vmem, ⟨6, _⟩ => ⟨S640x2048, .f32⟩
  | .local _ .vmem, ⟨7, _⟩ => ⟨S1x2048, .f32⟩
  | .local _ .vmem, ⟨8, _⟩ => ⟨S640x2048, .f32⟩
  | .local _ .vmem, ⟨9, _⟩ => ⟨S640x2048, .f32⟩
  | .local _ .vmem, ⟨10, _⟩ => ⟨S640x2048, .bf16⟩
  | .local _ .vmem, ⟨11, _⟩ => ⟨S640x2048, .bf16⟩
  | .local _ .vmem, ⟨12, _⟩ => ⟨S640x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![13, 4], ![false, false]⟩

def k0_cond3 (i : grid0.Coords) : BitVec 1 :=
  let arg1 : BitVec 32 := BitVec.ofNat 32 (i 1).val
  let c3_i32_2 : BitVec 32 := 3#32
  let v6 : BitVec 1 := Scalar.cmpi .eq arg1 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownRefIdeal.lean ====
abbrev S8320x8192 : Shape := ⟨2, ![8320, 8192]⟩
abbrev S2x8192x2048 : Shape := ⟨3, ![2, 8192, 2048]⟩
abbrev S2x2048 : Shape := ⟨2, ![2, 2048]⟩
abbrev S8320x2048 : Shape := ⟨2, ![8320, 2048]⟩
abbrev S1x8192x2048 : Shape := ⟨3, ![1, 8192, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8320 : Shape := ⟨1, ![8320]⟩
abbrev S8320x1 : Shape := ⟨2, ![8320, 1]⟩

abbrev nBuf : Space → Nat
  | .hbm => 47
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S2x8192x2048, .f32⟩
  | .hbm, ⟨2, _⟩ => ⟨S2x2048, .f32⟩
  | .hbm, ⟨3, _⟩ => ⟨S8320x2048, .f32⟩
  | .hbm, ⟨4, _⟩ => ⟨S2x2048, .f32⟩
  | .hbm, ⟨5, _⟩ => ⟨S8320x8192, .f32⟩
  | .hbm, ⟨6, _⟩ => ⟨S1x8192x2048, .f32⟩
  | .hbm, ⟨7, _⟩ => ⟨S8192x2048, .f32⟩
  | .hbm, ⟨8, _⟩ => ⟨S8320x2048, .f32⟩
  | .hbm, ⟨9, _⟩ => ⟨S1x2048, .f32⟩
  | .hbm, ⟨10, _⟩ => ⟨S2048, .f32⟩
  | .hbm, ⟨11, _⟩ => ⟨S8320x2048, .f32⟩
  | .hbm, ⟨12, _⟩ => ⟨S_, .f32⟩
  | .hbm, ⟨13, _⟩ => ⟨S8320, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1, .f32⟩
  | .hbm, ⟨22, _⟩ => ⟨S8320x2048, .f32⟩
  | .hbm, ⟨23, _⟩ => ⟨S8320x2048, .f32⟩
  | .hbm, ⟨24, _⟩ => ⟨S1x2048, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S1x2048, .f32⟩
  | .hbm, ⟨29, _⟩ => ⟨S2048, .f32⟩
  | .hbm, ⟨30, _⟩ => ⟨S8320x2048, .f32⟩
  | .hbm, ⟨31, _⟩ => ⟨S_, .f32⟩
  | .hbm, ⟨32, _⟩ => ⟨S8320, .f32⟩
  | .hbm, ⟨33, _⟩ => ⟨S8320x1, .f32⟩
  | .hbm, ⟨34, _⟩ => ⟨S_, .f32⟩
  | .hbm, ⟨35, _⟩ => ⟨S8320x1, .f32⟩
  | .hbm, ⟨36, _⟩ => ⟨S8320x1, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S8320x1, .f32⟩
  | .hbm, ⟨41, _⟩ => ⟨S8320x2048, .f32⟩
  | .hbm, ⟨42, _⟩ => ⟨S8320x2048, .f32⟩
  | .hbm, ⟨43, _⟩ => ⟨S1x2048, .f32⟩
  | .hbm, ⟨44, _⟩ => ⟨S8320x2048, .f32⟩
  | .hbm, ⟨45, _⟩ => ⟨S8320x2048, .f32⟩
  | .hbm, ⟨46, _⟩ => ⟨S8320x2048, .bf16⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Win.lean ====
abbrev S8320x2048 : Shape := ⟨2, ![8320, 2048]⟩
abbrev S2x2048x8192 : Shape := ⟨3, ![2, 2048, 8192]⟩
abbrev S8320x8192 : Shape := ⟨2, ![8320, 8192]⟩
abbrev S1040x2048 : Shape := ⟨2, ![1040, 2048]⟩
abbrev S1x2048x2048 : Shape := ⟨3, ![1, 2048, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2x2048x8192, .bf16⟩
  | .hbm, ⟨2, _⟩ => ⟨S8320x8192, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1040x2048, .f32⟩
  | .local _ .vmem, ⟨5, _⟩ => ⟨S1040x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinRefIdeal.lean ====
abbrev S8320x2048 : Shape := ⟨2, ![8320, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8320x8192 : Shape := ⟨2, ![8320, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x8192, .bf16⟩
  | .hbm, ⟨2, _⟩ => ⟨S8320x2048, .f32⟩
  | .hbm, ⟨3, _⟩ => ⟨S1x2048x8192, .bf16⟩
  | .hbm, ⟨4, _⟩ => ⟨S2048x8192, .bf16⟩
  | .hbm, ⟨5, _⟩ => ⟨S2048x8192, .f32⟩
  | .hbm, ⟨6, _⟩ => ⟨S8320x8192, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Wxq.lean ====
abbrev S8320x2048 : Shape := ⟨2, ![8320, 2048]⟩
abbrev S2x2048x2048 : Shape := ⟨3, ![2, 2048, 2048]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2x2048x2048, .f32⟩
  | .hbm, ⟨2, _⟩ => ⟨S8320x2048, .bf16⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x1024, .bf16⟩
  | .local _ .vmem, ⟨5, _⟩ => ⟨S1040x1024, .bf16⟩
  | .local _ .vmem, ⟨6, _⟩ => ⟨S2048x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WxqRefIdeal.lean ====
abbrev S8320x2048 : Shape := ⟨2, ![8320, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x2048, .f32⟩
  | .hbm, ⟨2, _⟩ => ⟨S8320x2048, .f32⟩
  | .hbm, ⟨3, _⟩ => ⟨S1x2048x2048, .f32⟩
  | .hbm, ⟨4, _⟩ => ⟨S2048x2048, .f32⟩
  | .hbm, ⟨5, _⟩ => ⟨S8320x2048, .f32⟩
  | .hbm, ⟨6, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Wout.lean ====
abbrev S8320x2048 : Shape := ⟨2, ![8320, 2048]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S640x2048 : Shape := ⟨2, ![640, 2048]⟩
abbrev S1x2048x2048 : Shape := ⟨3, ![1, 2048, 2048]⟩
abbrev S320x2048 : Shape := ⟨2, ![320, 2048]⟩
abbrev S2048x2048 : Shape := ⟨2, ![2048, 2048]⟩
abbrev S320 : Shape := ⟨1, ![320]⟩
abbrev S320x1 : Shape := ⟨2, ![320, 1]⟩

abbrev nBuf : Space → Nat
  | .hbm => 14
  | .vmem => 11
  | .smem => 0
  | _ => 0

abbrev bufTy : (tb : Table) → Fin (tcTables nBuf tb) → BufTy
  | .hbm, ⟨0, _⟩ => ⟨S8320x2048, .bf16⟩
  | .hbm, ⟨1, _⟩ => ⟨S2x2048x2048, .f32⟩
  | .hbm, ⟨2, _⟩ => ⟨S2x2048, .f32⟩
  | .hbm, ⟨3, _⟩ => ⟨S8320x2048, .f32⟩
  | .hbm, ⟨4, _⟩ => ⟨S2x2048, .f32⟩
  | .hbm, ⟨5, _⟩ => ⟨S2x2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8320x2048, .f32⟩
  | .hbm, ⟨13, _⟩ => ⟨S8320x2048, .bf16⟩
  | .local _ .vmem, ⟨0, _⟩ => ⟨S640x2048, .bf16⟩
  | .local _ .vmem, ⟨1, _⟩ => ⟨S640x2048, .bf16⟩
  | .local _ .vmem, ⟨2, _⟩ => ⟨S1x2048x2048, .bf16⟩
  | .local _ .vmem, ⟨3, _⟩ => ⟨S1x2048, .f32⟩
  | .local _ .vmem, ⟨4, _⟩ => ⟨S640x2048, .f32⟩
  | .local _ .vmem, ⟨5, _⟩ => ⟨S640x2048, .f32⟩
  | .local _ .vmem, ⟨6, _⟩ => ⟨S1x2048, .f32⟩
  | .local _ .vmem, ⟨7, _⟩ => ⟨S640x2048, .f32⟩
  | .local _ .vmem, ⟨8, _⟩ => ⟨S640x2048, .f32⟩
  | .local _ .vmem, ⟨9, _⟩ => ⟨S640x2048, .bf16⟩
  | .local _ .vmem, ⟨10, _⟩ => ⟨S640x2048, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== WoutRefIdeal.lean ====
abbrev S8320x2048 : Shape := ⟨2, ![8320, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8320 : Shape := ⟨1, ![8320]⟩
abbrev S8320x1 : Shape := ⟨2, ![8320, 1]⟩

abbrev nBuf : Space → Nat
  | .hbm => 47
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x2048, .f32⟩
  | .hbm, ⟨2, _⟩ => ⟨S2x2048, .f32⟩
  | .hbm, ⟨3, _⟩ => ⟨S8320x2048, .f32⟩
  | .hbm, ⟨4, _⟩ => ⟨S2x2048, .f32⟩
  | .hbm, ⟨5, _⟩ => ⟨S8320x2048, .f32⟩
  | .hbm, ⟨6, _⟩ => ⟨S1x2048x2048, .f32⟩
  | .hbm, ⟨7, _⟩ => ⟨S2048x2048, .f32⟩
  | .hbm, ⟨8, _⟩ => ⟨S8320x2048, .f32⟩
  | .hbm, ⟨9, _⟩ => ⟨S1x2048, .f32⟩
  | .hbm, ⟨10, _⟩ => ⟨S2048, .f32⟩
  | .hbm, ⟨11, _⟩ => ⟨S8320x2048, .f32⟩
  | .hbm, ⟨12, _⟩ => ⟨S_, .f32⟩
  | .hbm, ⟨13, _⟩ => ⟨S8320, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S_, .f32⟩
  | .hbm, ⟨19, _⟩ => ⟨S8320x1, .f32⟩
  | .hbm, ⟨20, _⟩ => ⟨S8320x1, .f32⟩
  | .hbm, ⟨21, _⟩ => ⟨S8320x1, .f32⟩
  | .hbm, ⟨22, _⟩ => ⟨S8320x2048, .f32⟩
  | .hbm, ⟨23, _⟩ => ⟨S8320x2048, .f32⟩
  | .hbm, ⟨24, _⟩ => ⟨S1x2048, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S1x2048, .f32⟩
  | .hbm, ⟨29, _⟩ => ⟨S2048, .f32⟩
  | .hbm, ⟨30, _⟩ => ⟨S8320x2048, .f32⟩
  | .hbm, ⟨31, _⟩ => ⟨S_, .f32⟩
  | .hbm, ⟨32, _⟩ => ⟨S8320, .f32⟩
  | .hbm, ⟨33, _⟩ => ⟨S8320x1, .f32⟩
  | .hbm, ⟨34, _⟩ => ⟨S_, .f32⟩
  | .hbm, ⟨35, _⟩ => ⟨S8320x1, .f32⟩
  | .hbm, ⟨36, _⟩ => ⟨S8320x1, .f32⟩
  | .hbm, ⟨37, _⟩ => ⟨S_, .f32⟩
  | .hbm, ⟨38, _⟩ => ⟨S8320x1, .f32⟩
  | .hbm, ⟨39, _⟩ => ⟨S8320x1, .f32⟩
  | .hbm, ⟨40, _⟩ => ⟨S8320x1, .f32⟩
  | .hbm, ⟨41, _⟩ => ⟨S8320x2048, .f32⟩
  | .hbm, ⟨42, _⟩ => ⟨S8320x2048, .f32⟩
  | .hbm, ⟨43, _⟩ => ⟨S1x2048, .f32⟩
  | .hbm, ⟨44, _⟩ => ⟨S8320x2048, .f32⟩
  | .hbm, ⟨45, _⟩ => ⟨S8320x2048, .f32⟩
  | .hbm, ⟨46, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Last.lean ====
abbrev S8320x8192 : Shape := ⟨2, ![8320, 8192]⟩
abbrev S2x8192x2048 : Shape := ⟨3, ![2, 8192, 2048]⟩
abbrev S2x2048 : Shape := ⟨2, ![2, 2048]⟩
abbrev S8320x2048 : Shape := ⟨2, ![8320, 2048]⟩
abbrev S1x2048 : Shape := ⟨2, ![1, 2048]⟩
abbrev S2048 : Shape := ⟨1, ![2048]⟩
abbrev S640x2048 : Shape := ⟨2, ![640, 2048]⟩
abbrev S1x2048x2048 : Shape := ⟨3, ![1, 2048, 2048]⟩
abbrev S2048x2048 : Shape := ⟨2, ![2048, 2048]⟩
abbrev S320x2048 : Shape := ⟨2, ![320, 2048]⟩
abbrev S320 : Shape := ⟨1, ![320]⟩
abbrev S320x1 : Shape := ⟨2, ![320, 1]⟩

abbrev nBuf : Space → Nat
  | .hbm => 9
  | .vmem => 10
  | .smem => 0
  | _ => 0

abbrev bufTy : (tb : Table) → Fin (tcTables nBuf tb) → BufTy
  | .hbm, ⟨0, _⟩ => ⟨S8320x8192, .bf16⟩
  | .hbm, ⟨1, _⟩ => ⟨S2x8192x2048, .f32⟩
  | .hbm, ⟨2, _⟩ => ⟨S2x2048, .f32⟩
  | .hbm, ⟨3, _⟩ => ⟨S8320x2048, .f32⟩
  | .hbm, ⟨4, _⟩ => ⟨S2x8192x2048, .bf16⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048, .f32⟩
  | .local _ .vmem, ⟨5, _⟩ => ⟨S640x2048, .f32⟩
  | .local _ .vmem, ⟨6, _⟩ => ⟨S640x2048, .f32⟩
  | .local _ .vmem, ⟨7, _⟩ => ⟨S640x2048, .f32⟩
  | .local _ .vmem, ⟨8, _⟩ => ⟨S640x2048, .f32⟩
  | .local _ .vmem, ⟨9, _⟩ => ⟨S640x2048, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![13, 4], ![false, false]⟩

def k0_cond3 (i : grid0.Coords) : BitVec 1 :=
  let arg1 : BitVec 32 := BitVec.ofNat 32 (i 1).val
  let c3_i32_2 : BitVec 32 := 3#32
  let v6 : BitVec 1 := Scalar.cmpi .eq arg1 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S640x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== LastRefIdeal.lean ====
abbrev S8320x8192 : Shape := ⟨2, ![8320, 8192]⟩
abbrev S2x8192x2048 : Shape := ⟨3, ![2, 8192, 2048]⟩
abbrev S2x2048 : Shape := ⟨2, ![2, 2048]⟩
abbrev S8320x2048 : Shape := ⟨2, ![8320, 2048]⟩
abbrev S1x8192x2048 : Shape := ⟨3, ![1, 8192, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8320 : Shape := ⟨1, ![8320]⟩
abbrev S8320x1 : Shape := ⟨2, ![8320, 1]⟩

abbrev nBuf : Space → Nat
  | .hbm => 27
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S2x8192x2048, .f32⟩
  | .hbm, ⟨2, _⟩ => ⟨S2x2048, .f32⟩
  | .hbm, ⟨3, _⟩ => ⟨S8320x2048, .f32⟩
  | .hbm, ⟨4, _⟩ => ⟨S8320x8192, .f32⟩
  | .hbm, ⟨5, _⟩ => ⟨S1x8192x2048, .f32⟩
  | .hbm, ⟨6, _⟩ => ⟨S8192x2048, .f32⟩
  | .hbm, ⟨7, _⟩ => ⟨S8320x2048, .f32⟩
  | .hbm, ⟨8, _⟩ => ⟨S1x2048, .f32⟩
  | .hbm, ⟨9, _⟩ => ⟨S2048, .f32⟩
  | .hbm, ⟨10, _⟩ => ⟨S8320x2048, .f32⟩
  | .hbm, ⟨11, _⟩ => ⟨S_, .f32⟩
  | .hbm, ⟨12, _⟩ => ⟨S8320, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S8320x2048, .f32⟩
  | .hbm, ⟨22, _⟩ => ⟨S8320x2048, .f32⟩
  | .hbm, ⟨23, _⟩ => ⟨S1x2048, .f32⟩
  | .hbm, ⟨24, _⟩ => ⟨S8320x2048, .f32⟩
  | .hbm, ⟨25, _⟩ => ⟨S8320x2048, .f32⟩
  | .hbm, ⟨26, _⟩ => ⟨S8320x2048, .f32⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MemFirst.lean ====
abbrev S4x256x2048 : Shape := ⟨3, ![4, 256, 2048]⟩
abbrev S2x2048 : Shape := ⟨2, ![2, 2048]⟩
abbrev S2x2048x2048 : Shape := ⟨3, ![2, 2048, 2048]⟩
abbrev S1024x2048 : Shape := ⟨2, ![1024, 2048]⟩
abbrev S1x2048 : Shape := ⟨2, ![1, 2048]⟩
abbrev S2048 : Shape := ⟨1, ![2048]⟩
abbrev S2x1024x2048 : Shape := ⟨3, ![2, 1024, 2048]⟩
abbrev S512x2048 : Shape := ⟨2, ![512, 2048]⟩
abbrev S1x2048x1024 : Shape := ⟨3, ![1, 2048, 1024]⟩
abbrev S1x512x1024 : Shape := ⟨3, ![1, 512, 1024]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x2048, .f32⟩
  | .hbm, ⟨3, _⟩ => ⟨S1024x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2x1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1x512x1024, .f32⟩
  | .local _ .vmem, ⟨6, _⟩ => ⟨S1x512x1024, .f32⟩
  | .local _ .vmem, ⟨7, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemFirstRefIdeal.lean ====
abbrev S4x256x2048 : Shape := ⟨3, ![4, 256, 2048]⟩
abbrev S2x2048 : Shape := ⟨2, ![2, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S2x1024x2048 : Shape := ⟨3, ![2, 1024, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S1x2048x2048, .f32⟩
  | .hbm, ⟨22, _⟩ => ⟨S2048x2048, .f32⟩
  | .hbm, ⟨23, _⟩ => ⟨S4x256x2048, .f32⟩
  | .hbm, ⟨24, _⟩ => ⟨S1x1024x2048, .f32⟩
  | .hbm, ⟨25, _⟩ => ⟨S_, .f32⟩
  | .hbm, ⟨26, _⟩ => ⟨S1x1024x2048, .f32⟩
  | .hbm, ⟨27, _⟩ => ⟨S2x1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== MemSecond.lean ====
abbrev S4x256x2048 : Shape := ⟨3, ![4, 256, 2048]⟩
abbrev S2x2048 : Shape := ⟨2, ![2, 2048]⟩
abbrev S2x2048x2048 : Shape := ⟨3, ![2, 2048, 2048]⟩
abbrev S2x1024x2048 : Shape := ⟨3, ![2, 1024, 2048]⟩
abbrev S1024x2048 : Shape := ⟨2, ![1024, 2048]⟩
abbrev S1x2048 : Shape := ⟨2, ![1, 2048]⟩
abbrev S2048 : Shape := ⟨1, ![2048]⟩
abbrev S512x2048 : Shape := ⟨2, ![512, 2048]⟩
abbrev S1x2048x1024 : Shape := ⟨3, ![1, 2048, 1024]⟩
abbrev S1x512x1024 : Shape := ⟨3, ![1, 512, 1024]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x2048, .f32⟩
  | .hbm, ⟨3, _⟩ => ⟨S2x1024x2048, .f32⟩
  | .hbm, ⟨4, _⟩ => ⟨S1024x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2x1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1x512x1024, .f32⟩
  | .local _ .vmem, ⟨6, _⟩ => ⟨S1x512x1024, .f32⟩
  | .local _ .vmem, ⟨7, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemSecondRefIdeal.lean ====
abbrev S4x256x2048 : Shape := ⟨3, ![4, 256, 2048]⟩
abbrev S2x2048 : Shape := ⟨2, ![2, 2048]⟩
abbrev S2x2048x2048 : Shape := ⟨3, ![2, 2048, 2048]⟩
abbrev S2x1024x2048 : Shape := ⟨3, ![2, 1024, 2048]⟩
abbrev S1x2048 : Shape := ⟨2, ![1, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S1x1024x2048 : Shape := ⟨3, ![1, 1024, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x2048, .f32⟩
  | .hbm, ⟨3, _⟩ => ⟨S2x1024x2048, .f32⟩
  | .hbm, ⟨4, _⟩ => ⟨S1x2048, .f32⟩
  | .hbm, ⟨5, _⟩ => ⟨S2048, .f32⟩
  | .hbm, ⟨6, _⟩ => ⟨S4x256x2048, .f32⟩
  | .hbm, ⟨7, _⟩ => ⟨S_, .f32⟩
  | .hbm, ⟨8, _⟩ => ⟨S4x256, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S_, .f32⟩
  | .hbm, ⟨14, _⟩ => ⟨S4x256x1, .f32⟩
  | .hbm, ⟨15, _⟩ => ⟨S4x256x1, .f32⟩
  | .hbm, ⟨16, _⟩ => ⟨S4x256x1, .f32⟩
  | .hbm, ⟨17, _⟩ => ⟨S4x256x2048, .f32⟩
  | .hbm, ⟨18, _⟩ => ⟨S4x256x2048, .f32⟩
  | .hbm, ⟨19, _⟩ => ⟨S1x1x2048, .f32⟩
  | .hbm, ⟨20, _⟩ => ⟨S4x256x2048, .f32⟩
  | .hbm, ⟨21, _⟩ => ⟨S4x256x2048, .f32⟩
  | .hbm, ⟨22, _⟩ => ⟨S1x2048x2048, .f32⟩
  | .hbm, ⟨23, _⟩ => ⟨S2048x2048, .f32⟩
  | .hbm, ⟨24, _⟩ => ⟨S4x256x2048, .f32⟩
  | .hbm, ⟨25, _⟩ => ⟨S1x1024x2048, .f32⟩
  | .hbm, ⟨26, _⟩ => ⟨S1x1024x2048, .f32⟩
  | .hbm, ⟨27, _⟩ => ⟨S2x1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Mix.lean ====
abbrev S8320x8192 : Shape := ⟨2, ![8320, 8192]⟩
abbrev S2x4 : Shape := ⟨2, ![2, 4]⟩
abbrev S2x512 : Shape := ⟨2, ![2, 512]⟩
abbrev S2x4x1536 : Shape := ⟨3, ![2, 4, 1536]⟩
abbrev S2x128 : Shape := ⟨2, ![2, 128]⟩
abbrev S2x16x256 : Shape := ⟨3, ![2, 16, 256]⟩
abbrev S2x256 : Shape := ⟨2, ![2, 256]⟩
abbrev S2x128x4x128x128 : Shape := ⟨5, ![2, 128, 4, 128, 128]⟩
abbrev S2x128x4x128 : Shape := ⟨4, ![2, 128, 4, 128]⟩
abbrev S2x128x4 : Shape := ⟨3, ![2, 128, 4]⟩
abbrev S2x128x3x1536 : Shape := ⟨4, ![2, 128, 3, 1536]⟩
abbrev S2x128x4x64x128 : Shape := ⟨5, ![2, 128, 4, 64, 128]⟩
abbrev S8320x2048 : Shape := ⟨2, ![8320, 2048]⟩
abbrev S2x128x128 : Shape := ⟨3, ![2, 128, 128]⟩
abbrev S2x3x128x1536 : Shape := ⟨4, ![2, 3, 128, 1536]⟩
abbrev S2x128x2x128x128 : Shape := ⟨5, ![2, 128, 2, 128, 128]⟩
abbrev S1 : Shape := ⟨1, ![1]⟩
abbrev S_ : Shape := ⟨0, ![]⟩
abbrev S64 : Shape := ⟨1, ![64]⟩
abbrev S1x1 : Shape := ⟨2, ![1, 1]⟩
abbrev S1x64 : Shape := ⟨2, ![1, 64]⟩
abbrev S1x128 : Shape := ⟨2, ![1, 128]⟩
abbrev S1x4 : Shape := ⟨2, ![1, 4]⟩
abbrev S4 : Shape := ⟨1, ![4]⟩
abbrev S1x512 : Shape := ⟨2, ![1, 512]⟩
abbrev S512 : Shape := ⟨1, ![512]⟩
abbrev S128 : Shape := ⟨1, ![128]⟩
abbrev S1x4x1536 : Shape := ⟨3, ![1, 4, 1536]⟩
abbrev S4x1536 : Shape := ⟨2, ![4, 1536]⟩
abbrev S128x256 : Shape := ⟨2, ![128, 256]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S8x8192 : Shape := ⟨2, ![8, 8192]⟩
abbrev S1x8x4x128x128 : Shape := ⟨5, ![1, 8, 4, 128, 128]⟩
abbrev S1x8x4x128 : Shape := ⟨4, ![1, 8, 4, 128]⟩
abbrev S1x8x128 : Shape := ⟨3, ![1, 8, 128]⟩
abbrev S1x3x8x1536 : Shape := ⟨4, ![1, 3, 8, 1536]⟩
abbrev S1x8x2x128x128 : Shape := ⟨5, ![1, 8, 2, 128, 128]⟩
abbrev S8x2048 : Shape := ⟨2, ![8, 2048]⟩
abbrev S8x128 : Shape := ⟨2, ![8, 128]⟩
abbrev S8x512 : Shape := ⟨2, ![8, 512]⟩
abbrev S120x128 : Shape := ⟨2, ![120, 128]⟩
abbrev S128x128 : Shape := ⟨2, ![128, 128]⟩
abbrev S1x1x1x128x128 : Shape := ⟨5, ![1, 1, 1, 128, 128]⟩
abbrev S8x1 : Shape := ⟨2, ![8, 1]⟩
abbrev S8 : Shape := ⟨1, ![8]⟩
abbrev S1x1x1x128 : Shape := ⟨4, ![1, 1, 1, 128]⟩
abbrev S1x1x8x512 : Shape := ⟨4, ![1, 1, 8, 512]⟩
abbrev S8x256 : Shape := ⟨2, ![8, 256]⟩
abbrev S128x1 : Shape := ⟨2, ![128, 1]⟩
abbrev S16x128 : Shape := ⟨2, ![16, 128]⟩
abbrev S112x128 : Shape := ⟨2, ![112, 128]⟩
abbrev S16x1 : Shape := ⟨2, ![16, 1]⟩

abbrev nBuf : Space → Nat
  | .hbm => 110
  | .vmem => 42
  | .smem => 0
  | _ => 0

abbrev bufTy : (tb : Table) → Fin (tcTables nBuf tb) → BufTy
  | .hbm, ⟨0, _⟩ => ⟨S8320x8192, .f32⟩
  | .hbm, ⟨1, _⟩ => ⟨S2x4, .f32⟩
  | .hbm, ⟨2, _⟩ => ⟨S2x4, .f32⟩
  | .hbm, ⟨3, _⟩ => ⟨S2x512, .f32⟩
  | .hbm, ⟨4, _⟩ => ⟨S2x4x1536, .f32⟩
  | .hbm, ⟨5, _⟩ => ⟨S2x4, .f32⟩
  | .hbm, ⟨6, _⟩ => ⟨S2x4, .f32⟩
  | .hbm, ⟨7, _⟩ => ⟨S2x128, .f32⟩
  | .hbm, ⟨8, _⟩ => ⟨S2x16x256, .f32⟩
  | .hbm, ⟨9, _⟩ => ⟨S2x256, .f32⟩
  | .hbm, ⟨10, _⟩ => ⟨S2x128, .f32⟩
  | .hbm, ⟨11, _⟩ => ⟨S2x128x4x128x128, .f32⟩
  | .hbm, ⟨12, _⟩ => ⟨S2x128x4x128x128, .f32⟩
  | .hbm, ⟨13, _⟩ => ⟨S2x128x4x128, .f32⟩
  | .hbm, ⟨14, _⟩ => ⟨S2x128x4, .f32⟩
  | .hbm, ⟨15, _⟩ => ⟨S2x128x4x128x128, .f32⟩
  | .hbm, ⟨16, _⟩ => ⟨S2x128x3x1536, .f32⟩
  | .hbm, ⟨17, _⟩ => ⟨S2x128x4x64x128, .f32⟩
  | .hbm, ⟨18, _⟩ => ⟨S8320x2048, .bf16⟩
  | .hbm, ⟨19, _⟩ => ⟨S2x128x4x128x128, .f32⟩
  | .hbm, ⟨20, _⟩ => ⟨S2x128x4x128x128, .f32⟩
  | .hbm, ⟨21, _⟩ => ⟨S2x128x4x128, .f32⟩
  | .hbm, ⟨22, _⟩ => ⟨S2x128x128, .f32⟩
  | .hbm, ⟨23, _⟩ => ⟨S2x128x4x128x128, .f32⟩
  | .hbm, ⟨24, _⟩ => ⟨S2x3x128x1536, .f32⟩
  | .hbm, ⟨25, _⟩ => ⟨S2x128x2x128x128, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x1, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x128, .f32⟩
  | .hbm, ⟨45, _⟩ => ⟨S1x64, .f32⟩
  | .hbm, ⟨46, _⟩ => ⟨S1x128, .f32⟩
  | .hbm, ⟨47, _⟩ => ⟨S_, .i32⟩
  | .hbm, ⟨48, _⟩ => ⟨S_, .f32⟩
  | .hbm, ⟨49, _⟩ => ⟨S2x128x128, .f32⟩
  | .hbm, ⟨50, _⟩ => ⟨S2x3x128x1536, .f32⟩
  | .hbm, ⟨51, _⟩ => ⟨S2x128x2x128x128, .f32⟩
  | .hbm, ⟨52, _⟩ => ⟨S1x4, .f32⟩
  | .hbm, ⟨53, _⟩ => ⟨S4, .f32⟩
  | .hbm, ⟨54, _⟩ => ⟨S1x4, .f32⟩
  | .hbm, ⟨55, _⟩ => ⟨S4, .f32⟩
  | .hbm, ⟨56, _⟩ => ⟨S1x4, .f32⟩
  | .hbm, ⟨57, _⟩ => ⟨S4, .f32⟩
  | .hbm, ⟨58, _⟩ => ⟨S_, .f32⟩
  | .hbm, ⟨59, _⟩ => ⟨S1x128, .f32⟩
  | .hbm, ⟨60, _⟩ => ⟨S1x4, .f32⟩
  | .hbm, ⟨61, _⟩ => ⟨S_, .i32⟩
  | .hbm, ⟨62, _⟩ => ⟨S_, .i32⟩
  | .hbm, ⟨63, _⟩ => ⟨S1x128, .f32⟩
  | .hbm, ⟨64, _⟩ => ⟨S1x4, .f32⟩
  | .hbm, ⟨65, _⟩ => ⟨S_, .i32⟩
  | .hbm, ⟨66, _⟩ => ⟨S_, .i32⟩
  | .hbm, ⟨67, _⟩ => ⟨S1x128, .f32⟩
  | .hbm, ⟨68, _⟩ => ⟨S1x4, .f32⟩
  | .hbm, ⟨69, _⟩ => ⟨S_, .i32⟩
  | .hbm, ⟨70, _⟩ => ⟨S_, .i32⟩
  | .hbm, ⟨71, _⟩ => ⟨S1x128, .f32⟩
  | .hbm, ⟨72, _⟩ => ⟨S1x4, .f32⟩
  | .hbm, ⟨73, _⟩ => ⟨S4, .f32⟩
  | .hbm, ⟨74, _⟩ => ⟨S_, .f32⟩
  | .hbm, ⟨75, _⟩ => ⟨S1x128, .f32⟩
  | .hbm, ⟨76, _⟩ => ⟨S1x4, .f32⟩
  | .hbm, ⟨77, _⟩ => ⟨S_, .i32⟩
  | .hbm, ⟨78, _⟩ => ⟨S_, .i32⟩
  | .hbm, ⟨79, _⟩ => ⟨S1x128, .f32⟩
  | .hbm, ⟨80, _⟩ => ⟨S1x512, .f32⟩
  | .hbm, ⟨81, _⟩ => ⟨S512, .f32⟩
  | .hbm, ⟨82, _⟩ => ⟨S1x512, .f32⟩
  | .hbm, ⟨83, _⟩ => ⟨S1x128, .f32⟩
  | .hbm, ⟨84, _⟩ => ⟨S128, .f32⟩
  | .hbm, ⟨85, _⟩ => ⟨S1x128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S1x4x1536, .f32⟩
  | .hbm, ⟨90, _⟩ => ⟨S4x1536, .f32⟩
  | .hbm, ⟨91, _⟩ => ⟨S_, .f32⟩
  | .hbm, ⟨92, _⟩ => ⟨S128x256, .f32⟩
  | .hbm, ⟨93, _⟩ => ⟨S1x16x256, .f32⟩
  | .hbm, ⟨94, _⟩ => ⟨S16x256, .f32⟩
  | .hbm, ⟨95, _⟩ => ⟨S_, .i32⟩
  | .hbm, ⟨96, _⟩ => ⟨S_, .i32⟩
  | .hbm, ⟨97, _⟩ => ⟨S128x256, .f32⟩
  | .hbm, ⟨98, _⟩ => ⟨S1x256, .f32⟩
  | .hbm, ⟨99, _⟩ => ⟨S256, .f32⟩
  | .hbm, ⟨100, _⟩ => ⟨S1x256, .f32⟩
  | .hbm, ⟨101, _⟩ => ⟨S8320x2048, .bf16⟩
  | .hbm, ⟨102, _⟩ => ⟨S2x128x4x128x128, .f32⟩
  | .hbm, ⟨103, _⟩ => ⟨S2x128x4x128x128, .f32⟩
  | .hbm, ⟨104, _⟩ => ⟨S2x128x4x128, .f32⟩
  | .hbm, ⟨105, _⟩ => ⟨S2x128x128, .f32⟩
  | .hbm, ⟨106, _⟩ => ⟨S2x128x4x128x128, .f32⟩
  | .hbm, ⟨107, _⟩ => ⟨S2x3x128x1536, .f32⟩
  | .hbm, ⟨108, _⟩ => ⟨S2x128x2x128x128, .f32⟩
  | .hbm, ⟨109, _⟩ => ⟨S2x128x4, .f32⟩
  | .local _ .vmem, ⟨0, _⟩ => ⟨S8x8192, .f32⟩
  | .local _ .vmem, ⟨1, _⟩ => ⟨S8x8192, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S4x1536, .f32⟩
  | .local _ .vmem, ⟨7, _⟩ => ⟨S1x512, .f32⟩
  | .local _ .vmem, ⟨8, _⟩ => ⟨S1x128, .f32⟩
  | .local _ .vmem, ⟨9, _⟩ => ⟨S1x128, .f32⟩
  | .local _ .vmem, ⟨10, _⟩ => ⟨S128x256, .f32⟩
  | .local _ .vmem, ⟨11, _⟩ => ⟨S1x256, .f32⟩
  | .local _ .vmem, ⟨12, _⟩ => ⟨S1x8x4x128x128, .f32⟩
  | .local _ .vmem, ⟨13, _⟩ => ⟨S1x8x4x128x128, .f32⟩
  | .local _ .vmem, ⟨14, _⟩ => ⟨S1x8x4x128x128, .f32⟩
  | .local _ .vmem, ⟨15, _⟩ => ⟨S1x8x4x128x128, .f32⟩
  | .local _ .vmem, ⟨16, _⟩ => ⟨S1x8x4x128, .f32⟩
  | .local _ .vmem, ⟨17, _⟩ => ⟨S1x8x4x128, .f32⟩
  | .local _ .vmem, ⟨18, _⟩ => ⟨S1x8x128, .f32⟩
  | .local _ .vmem, ⟨19, _⟩ => ⟨S1x8x128, .f32⟩
  | .local _ .vmem, ⟨20, _⟩ => ⟨S1x8x4x128x128, .f32⟩
  | .local _ .vmem, ⟨21, _⟩ => ⟨S1x8x4x128x128, .f32⟩
  | .local _ .vmem, ⟨22, _⟩ => ⟨S1x3x8x1536, .f32⟩
  | .local _ .vmem, ⟨23, _⟩ => ⟨S1x3x8x1536, .f32⟩
  | .local _ .vmem, ⟨24, _⟩ => ⟨S1x8x2x128x128, .f32⟩
  | .local _ .vmem, ⟨25, _⟩ => ⟨S1x8x2x128x128, .f32⟩
  | .local _ .vmem, ⟨26, _⟩ => ⟨S8x2048, .bf16⟩
  | .local _ .vmem, ⟨27, _⟩ => ⟨S8x2048, .bf16⟩
  | .local _ .vmem, ⟨28, _⟩ => ⟨S1x8x4x128x128, .f32⟩
  | .local _ .vmem, ⟨29, _⟩ => ⟨S1x8x4x128x128, .f32⟩
  | .local _ .vmem, ⟨30, _⟩ => ⟨S1x8x4x128x128, .f32⟩
  | .local _ .vmem, ⟨31, _⟩ => ⟨S1x8x4x128x128, .f32⟩
  | .local _ .vmem, ⟨32, _⟩ => ⟨S1x8x4x128, .f32⟩
  | .local _ .vmem, ⟨33, _⟩ => ⟨S1x8x4x128, .f32⟩
  | .local _ .vmem, ⟨34, _⟩ => ⟨S1x8x128, .f32⟩
  | .local _ .vmem, ⟨35, _⟩ => ⟨S1x8x128, .f32⟩
  | .local _ .vmem, ⟨36, _⟩ => ⟨S1x8x4x128x128, .f32⟩
  | .local _ .vmem, ⟨37, _⟩ => ⟨S1x8x4x128x128, .f32⟩
  | .local _ .vmem, ⟨38, _⟩ => ⟨S1x3x8x1536, .f32⟩
  | .local _ .vmem, ⟨39, _⟩ => ⟨S1x3x8x1536, .f32⟩
  | .local _ .vmem, ⟨40, _⟩ => ⟨S1x8x2x128x128, .f32⟩
  | .local _ .vmem, ⟨41, _⟩ => ⟨S1x8x2x128x128, .f32⟩
  | _, _ => ⟨S8320x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c : Ref sig .tc := ⟨.hbm, 47, rfl⟩
abbrev main_call0_v0 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_v27 : Ref sig .tc := ⟨.hbm, 59, rfl⟩
abbrev main_v28 : Ref sig .tc := ⟨.hbm, 60, rfl⟩
abbrev main_c_3 : Ref sig .tc := ⟨.hbm, 61, rfl⟩
abbrev main_c_4 : Ref sig .tc := ⟨.hbm, 62, rfl⟩
abbrev main_v29 : Ref sig .tc := ⟨.hbm, 63, rfl⟩
abbrev main_v30 : Ref sig .tc := ⟨.hbm, 64, rfl⟩
abbrev main_c_5 : Ref sig .tc := ⟨.hbm, 65, rfl⟩
abbrev main_c_6 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_c_8 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_c_10 : Ref sig .tc := ⟨.hbm, 77, rfl⟩
abbrev main_c_11 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_12 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_c_13 : Ref sig .tc := ⟨.hbm, 95, rfl⟩
abbrev main_c_14 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57_0 : Ref sig .tc := ⟨.hbm, 101, rfl⟩
abbrev main_v57_1 : Ref sig .tc := ⟨.hbm, 102, rfl⟩
abbrev main_v57_2 : Ref sig .tc := ⟨.hbm, 103, rfl⟩
abbrev main_v57_3 : Ref sig .tc := ⟨.hbm, 104, rfl⟩
abbrev main_v57_4 : Ref sig .tc := ⟨.hbm, 105, rfl⟩
abbrev main_v57_5 : Ref sig .tc := ⟨.hbm, 106, rfl⟩
abbrev main_v57_6 : Ref sig .tc := ⟨.hbm, 107, rfl⟩
abbrev main_v57_7 : Ref sig .tc := ⟨.hbm, 108, rfl⟩
abbrev main_v58 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_12 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_13 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_15 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_16 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_17 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_26 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_27 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_28 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_29 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_30 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_31 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_32 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_33 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x4x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x3x8x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x2x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x4x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x8x4x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x4x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x8x4x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x3x8x1536 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x8x2x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== MixRefIdeal.lean ====
abbrev S8320x8192 : Shape := ⟨2, ![8320, 8192]⟩
abbrev S2x4 : Shape := ⟨2, ![2, 4]⟩
abbrev S2x512 : Shape := ⟨2, ![2, 512]⟩
abbrev S2x4x1536 : Shape := ⟨3, ![2, 4, 1536]⟩
abbrev S2x128 : Shape := ⟨2, ![2, 128]⟩
abbrev S2x16x256 : Shape := ⟨3, ![2, 16, 256]⟩
abbrev S2x256 : Shape := ⟨2, ![2, 256]⟩
abbrev S2x128x4x128x128 : Shape := ⟨5, ![2, 128, 4, 128, 128]⟩
abbrev S2x128x4x128 : Shape := ⟨4, ![2, 128, 4, 128]⟩
abbrev S2x128x4 : Shape := ⟨3, ![2, 128, 4]⟩
abbrev S2x128x3x1536 : Shape := ⟨4, ![2, 128, 3, 1536]⟩
abbrev S2x128x4x64x128 : Shape := ⟨5, ![2, 128, 4, 64, 128]⟩
abbrev S8320x2048 : Shape := ⟨2, ![8320, 2048]⟩
abbrev S2x128x128 : Shape := ⟨3, ![2, 128, 128]⟩
abbrev S2x3x128x1536 : Shape := ⟨4, ![2, 3, 128, 1536]⟩
abbrev S2x128x2x128x128 : Shape := ⟨5, ![2, 128, 2, 128, 128]⟩
abbrev S128x8192 : Shape := ⟨2, ![128, 8192]⟩
abbrev S128x512 : Shape := ⟨2, ![128, 512]⟩
abbrev S128x4x128 : Shape := ⟨3, ![128, 4, 128]⟩
abbrev S1 : Shape := ⟨1, ![1]⟩
abbrev S_ : Shape := ⟨0, ![]⟩
abbrev S64 : Shape := ⟨1, ![64]⟩
abbrev S128x4x64 : Shape := ⟨3, ![128, 4, 64]⟩
abbrev S1x1x64 : Shape := ⟨3, ![1, 1, 64]⟩
abbrev S4 : Shape := ⟨1, ![4]⟩
abbrev S4x1x1 : Shape := ⟨3, ![4, 1, 1]⟩
abbrev S1x128x4x128x128 : Shape := ⟨5, ![1, 128, 4, 128, 128]⟩
abbrev S128x4x128x128 : Shape := ⟨4, ![128, 4, 128, 128]⟩
abbrev S1x4x1x1 : Shape := ⟨4, ![1, 4, 1, 1]⟩
abbrev S128x4x128x1 : Shape := ⟨4, ![128, 4, 128, 1]⟩
abbrev S128x4x1x128 : Shape := ⟨4, ![128, 4, 1, 128]⟩
abbrev S128x4 : Shape := ⟨2, ![128, 4]⟩
abbrev S1x4 : Shape := ⟨2, ![1, 4]⟩
abbrev S1x128x4 : Shape := ⟨3, ![1, 128, 4]⟩
abbrev S128x4x1 : Shape := ⟨3, ![128, 4, 1]⟩
abbrev S128x4x1x1 : Shape := ⟨4, ![128, 4, 1, 1]⟩
abbrev S1x128x4x128 : Shape := ⟨4, ![1, 128, 4, 128]⟩
abbrev S128x1536 : Shape := ⟨2, ![128, 1536]⟩
abbrev S1x128x3x1536 : Shape := ⟨4, ![1, 128, 3, 1536]⟩
abbrev S128x3x1536 : Shape := ⟨3, ![128, 3, 1536]⟩
abbrev S128x1x1536 : Shape := ⟨3, ![128, 1, 1536]⟩
abbrev S128x4x1536 : Shape := ⟨3, ![128, 4, 1536]⟩
abbrev S128x16 : Shape := ⟨2, ![128, 16]⟩
abbrev S1x16x256 : Shape := ⟨3, ![1, 16, 256]⟩
abbrev S16x256 : Shape := ⟨2, ![16, 256]⟩
abbrev S128x256 : Shape := ⟨2, ![128, 256]⟩
abbrev S1x256 : Shape := ⟨2, ![1, 256]⟩
abbrev S256 : Shape := ⟨1, ![256]⟩
abbrev S128x4x64x1 : Shape := ⟨4, ![128, 4, 64, 1]⟩
abbrev S1x128x4x64x128 : Shape := ⟨5, ![1, 128, 4, 64, 128]⟩
abbrev S128x4x64x128 : Shape := ⟨4, ![128, 4, 64, 128]⟩
abbrev S3x128x1536 : Shape := ⟨3, ![3, 128, 1536]⟩
abbrev S1x3x128x1536 : Shape := ⟨4, ![1, 3, 128, 1536]⟩
abbrev S128x2x128x128 : Shape := ⟨4, ![128, 2, 128, 128]⟩
abbrev S1x128x2x128x128 : Shape := ⟨5, ![1, 128, 2, 128, 128]⟩

abbrev nBuf : Space → Nat
  | .hbm => 223
  | .vmem => 0
  | .smem => 0
  | _ => 0

abbrev hbmTy0_0 (i : Nat) : BufTy := match i % 128 with
  | 0 => ⟨S8320x8192, .f32⟩
  | 1 => ⟨S2x4, .f32⟩
  | 2 => ⟨S2x4, .f32⟩
  | 3 => ⟨S2x512, .f32⟩
  | 4 => ⟨S2x4x1536, .f32⟩
  | 5 => ⟨S2x4, .f32⟩
  | 6 => ⟨S2x4, .f32⟩
  | 7 => ⟨S2x128, .f32⟩
  | 8 => ⟨S2x16x256, .f32⟩
  | 9 => ⟨S2x256, .f32⟩
  | 10 => ⟨S2x128, .f32⟩
  | 11 => ⟨S2x128x4x128x128, .f32⟩
  | 12 => ⟨S2x128x4x128x128, .f32⟩
  | 13 => ⟨S2x128x4x128, .f32⟩
  | 14 => ⟨S2x128x4, .f32⟩
  | 15 => ⟨S2x128x4x128x128, .f32⟩
  | 16 => ⟨S2x128x3x1536, .f32⟩
  | 17 => ⟨S2x128x4x64x128, .f32⟩
  | 18 => ⟨S8320x2048, .bf16⟩
  | 19 => ⟨S2x128x4x128x128, .f32⟩
  | 20 => ⟨S2x128x4x128x128, .f32⟩
  | 21 => ⟨S2x128x4x128, .f32⟩
  | 22 => ⟨S2x128x128, .f32⟩
  | 23 => ⟨S2x128x4x128x128, .f32⟩
  | 24 => ⟨S2x3x128x1536, .f32⟩
  | 25 => ⟨S2x128x2x128x128, .f32⟩
  | 26 => ⟨S128x8192, .f32⟩
  | 27 => ⟨S128x512, .f32⟩
  | 28 => ⟨S128x4x128, .f32⟩
  | 29 => ⟨S1, .f32⟩
  | 30 => ⟨S_, .f32⟩
  | 31 => ⟨S1, .f32⟩
  | 32 => ⟨S1, .f32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S64, .f32⟩
  | 42 => ⟨S64, .f32⟩
  | 43 => ⟨S64, .f32⟩
  | 44 => ⟨S64, .f32⟩
  | 45 => ⟨S128x4x64, .f32⟩
  | 46 => ⟨S128x4x64, .f32⟩
  | 47 => ⟨S1x1x64, .f32⟩
  | 48 => ⟨S128x4x64, .f32⟩
  | 49 => ⟨S128x4x64, .f32⟩
  | 50 => ⟨S1x1x64, .f32⟩
  | 51 => ⟨S128x4x64, .f32⟩
  | 52 => ⟨S128x4x64, .f32⟩
  | 53 => ⟨S128x4x64, .f32⟩
  | 54 => ⟨S1x1x64, .f32⟩
  | 55 => ⟨S128x4x64, .f32⟩
  | 56 => ⟨S128x4x64, .f32⟩
  | 57 => ⟨S1x1x64, .f32⟩
  | 58 => ⟨S128x4x64, .f32⟩
  | 59 => ⟨S128x4x64, .f32⟩
  | 60 => ⟨S128x4x64, .f32⟩
  | 61 => ⟨S128x4x128, .f32⟩
  | 62 => ⟨S_, .f32⟩
  | 63 => ⟨S128x4x128, .f32⟩
  | 64 => ⟨S128x4x128, .f32⟩
  | 65 => ⟨S_, .f32⟩
  | 66 => ⟨S1, .f32⟩
  | 67 => ⟨S_, .f32⟩
  | 68 => ⟨S1, .f32⟩
  | 69 => ⟨S_, .f32⟩
  | 70 => ⟨S1, .f32⟩
  | 71 => ⟨S_, .f32⟩
  | 72 => ⟨S1, .f32⟩
  | 73 => ⟨S4, .f32⟩
  | 74 => ⟨S4x1x1, .f32⟩
  | 75 => ⟨S1x128x4x128x128, .f32⟩
  | 76 => ⟨S128x4x128x128, .f32⟩
  | 77 => ⟨S1x4x1x1, .f32⟩
  | 78 => ⟨S128x4x128x128, .f32⟩
  | 79 => ⟨S128x4x128x128, .f32⟩
  | 80 => ⟨S128x4x128x1, .f32⟩
  | 81 => ⟨S128x512, .f32⟩
  | 82 => ⟨S128x4x128, .f32⟩
  | 83 => ⟨S128x4x1x128, .f32⟩
  | 84 => ⟨S128x4x128x128, .f32⟩
  | 85 => ⟨S128x4x128x128, .f32⟩
  | 86 => ⟨S128x4x128x128, .f32⟩
  | 87 => ⟨S128x4x128x128, .f32⟩
  | 88 => ⟨S128x4, .f32⟩
  | 89 => ⟨S1x4, .f32⟩
  | 90 => ⟨S4, .f32⟩
  | 91 => ⟨S1x4, .f32⟩
  | 92 => ⟨S128x4, .f32⟩
  | 93 => ⟨S128x4, .f32⟩
  | 94 => ⟨S128x4, .f32⟩
  | 95 => ⟨S1x4, .f32⟩
  | 96 => ⟨S4, .f32⟩
  | 97 => ⟨S1x4, .f32⟩
  | 98 => ⟨S128x4, .f32⟩
  | 99 => ⟨S128x4, .f32⟩
  | 100 => ⟨S1x128x4, .f32⟩
  | 101 => ⟨S128x4, .f32⟩
  | 102 => ⟨S128x4, .f32⟩
  | 103 => ⟨S_, .f32⟩
  | 104 => ⟨S128x4, .f32⟩
  | 105 => ⟨S128x4, .f32⟩
  | 106 => ⟨S128x4, .f32⟩
  | 107 => ⟨S128x4, .f32⟩
  | 108 => ⟨S128x4, .i1⟩
  | 109 => ⟨S128x4, .f32⟩
  | 110 => ⟨S128x4, .f32⟩
  | 111 => ⟨S128x4, .f32⟩
  | 112 => ⟨S128x4, .f32⟩
  | 113 => ⟨S128x4, .f32⟩
  | 114 => ⟨S128x4, .f32⟩
  | 115 => ⟨S128x4, .f32⟩
  | 116 => ⟨S128x4, .f32⟩
  | 117 => ⟨S128x4, .f32⟩
  | 118 => ⟨S128x4, .f32⟩
  | 119 => ⟨S128x4, .f32⟩
  | 120 => ⟨S128x4, .f32⟩
  | 121 => ⟨S128x4, .f32⟩
  | 122 => ⟨S128x512, .f32⟩
  | 123 => ⟨S128x4x128, .f32⟩
  | 124 => ⟨S_, .f32⟩
  | 125 => ⟨S128x4x128, .f32⟩
  | 126 => ⟨S128x4x128, .f32⟩
  | 127 => ⟨S128x4, .f32⟩
  | _ => ⟨S8320x8192, .f32⟩

abbrev hbmTy0_1 (i : Nat) : BufTy := match i % 128 with
  | 0 => ⟨S128x4, .f32⟩
  | 1 => ⟨S128x4x1, .f32⟩
  | 2 => ⟨S128x4x128, .f32⟩
  | 3 => ⟨S128x4x128, .f32⟩
  | 4 => ⟨S128x4x1x1, .f32⟩
  | 5 => ⟨S1x128x4x128x128, .f32⟩
  | 6 => ⟨S128x4x128x128, .f32⟩
  | 7 => ⟨S128x4x128x128, .f32⟩
  | 8 => ⟨S128x4x128x128, .f32⟩
  | 9 => ⟨S128x4x128x1, .f32⟩
  | 10 => ⟨S128x512, .f32⟩
  | 11 => ⟨S128x4x128, .f32⟩
  | 12 => ⟨S128x4x1x128, .f32⟩
  | 13 => ⟨S128x4x128x128, .f32⟩
  | 14 => ⟨S128x4x128x128, .f32⟩
  | 15 => ⟨S128x4x128x128, .f32⟩
  | 16 => ⟨S128x4x128x128, .f32⟩
  | 17 => ⟨S128x4x1, .f32⟩
  | 18 => ⟨S1x128x4x128, .f32⟩
  | 19 => ⟨S128x4x128, .f32⟩
  | 20 => ⟨S128x4x128, .f32⟩
  | 21 => ⟨S128x4x128, .f32⟩
  | 22 => ⟨S128x4x128, .f32⟩
  | 23 => ⟨S128x1536, .f32⟩
  | 24 => ⟨S1x128x3x1536, .f32⟩
  | 25 => ⟨S128x3x1536, .f32⟩
  | 26 => ⟨S128x1x1536, .f32⟩
  | 27 => ⟨S128x4x1536, .f32⟩
  | 28 => ⟨S128x3x1536, .f32⟩
  | 29 => ⟨S128x16, .f32⟩
  | 30 => ⟨S1x16x256, .f32⟩
  | 31 => ⟨S16x256, .f32⟩
  | 32 => ⟨S128x256, .f32⟩
  | 33 => ⟨S1x256, .f32⟩
  | 34 => ⟨S256, .f32⟩
  | 35 => ⟨S1x256, .f32⟩
  | 36 => ⟨S128x256, .f32⟩
  | 37 => ⟨S128x256, .f32⟩
  | 38 => ⟨S128x256, .f32⟩
  | 39 => ⟨S_, .f32⟩
  | 40 => ⟨S128x256, .f32⟩
  | 41 => ⟨S128x256, .f32⟩
  | 42 => ⟨S128x256, .f32⟩
  | 43 => ⟨S128x256, .f32⟩
  | 44 => ⟨S128x256, .i1⟩
  | 45 => ⟨S128x256, .f32⟩
  | 46 => ⟨S128x256, .f32⟩
  | 47 => ⟨S128x256, .f32⟩
  | 48 => ⟨S128x256, .f32⟩
  | 49 => ⟨S128x256, .f32⟩
  | 50 => ⟨S128x256, .f32⟩
  | 51 => ⟨S128x256, .f32⟩
  | 52 => ⟨S128x256, .f32⟩
  | 53 => ⟨S128x256, .f32⟩
  | 54 => ⟨S_, .f32⟩
  | 55 => ⟨S128x256, .f32⟩
  | 56 => ⟨S128x256, .f32⟩
  | 57 => ⟨S128x256, .f32⟩
  | 58 => ⟨S128x4x64, .f32⟩
  | 59 => ⟨S128x256, .f32⟩
  | 60 => ⟨S128x4x64, .f32⟩
  | 61 => ⟨S128x4x64x1, .f32⟩
  | 62 => ⟨S1x128x4x64x128, .f32⟩
  | 63 => ⟨S128x4x64x128, .f32⟩
  | 64 => ⟨S128x4x64x128, .f32⟩
  | 65 => ⟨S128x4x64x128, .f32⟩
  | 66 => ⟨S128x4x64x1, .f32⟩
  | 67 => ⟨S128x512, .f32⟩
  | 68 => ⟨S128x4x128, .f32⟩
  | 69 => ⟨S128x4x1x128, .f32⟩
  | 70 => ⟨S128x4x64x128, .f32⟩
  | 71 => ⟨S128x4x64x128, .f32⟩
  | 72 => ⟨S128x4x64x128, .f32⟩
  | 73 => ⟨S128x4x64x128, .f32⟩
  | 74 => ⟨S1x128x4x128x128, .f32⟩
  | 75 => ⟨S1x128x4x128x128, .f32⟩
  | 76 => ⟨S2x128x4x128x128, .f32⟩
  | 77 => ⟨S1x128x4x128x128, .f32⟩
  | 78 => ⟨S1x128x4x128x128, .f32⟩
  | 79 => ⟨S2x128x4x128x128, .f32⟩
  | 80 => ⟨S1x128x4x128, .f32⟩
  | 81 => ⟨S1x128x4x128, .f32⟩
  | 82 => ⟨S2x128x4x128, .f32⟩
  | 83 => ⟨S2x128x4, .f32⟩
  | 84 => ⟨S1x128x4, .f32⟩
  | 85 => ⟨S1x128x4, .f32⟩
  | 86 => ⟨S2x128x4, .f32⟩
  | 87 => ⟨S3x128x1536, .f32⟩
  | 88 => ⟨S1x3x128x1536, .f32⟩
  | 89 => ⟨S1x3x128x1536, .f32⟩
  | 90 => ⟨S2x3x128x1536, .f32⟩
  | 91 => ⟨S128x2x128x128, .f32⟩
  | 92 => ⟨S1x128x2x128x128, .f32⟩
  | 93 => ⟨S1x128x2x128x128, .f32⟩
  | 94 => ⟨S2x128x2x128x128, .f32⟩
  | _ => ⟨S8320x8192, .f32⟩

abbrev hbmTy (i : Nat) : BufTy := match i / 128 with
  | 0 => hbmTy0_0 i
  | 1 => hbmTy0_1 i
  | _ => ⟨S8320x8192, .f32⟩

abbrev bufTy : (tb : Table) → Fin (tcTables nBuf tb) → BufTy
  | .hbm, ⟨i, _⟩ => hbmTy i
  | _, _ => ⟨S8320x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_cst_3 : Ref sig .tc := ⟨.hbm, 65, rfl⟩
abbrev main_v35 : Ref sig .tc := ⟨.hbm, 66, rfl⟩
abbrev main_cst_4 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call0_v0 : Ref sig .tc := ⟨.hbm, 102, rfl⟩
abbrev main_call0_call0_cst : Ref sig .tc := ⟨.hbm, 103, rfl⟩
abbrev main_call0_call0_v0 : Ref sig .tc := ⟨.hbm, 104, rfl⟩
abbrev main_call0_call0_v1 : Ref sig .tc := ⟨.hbm, 105, rfl⟩
abbrev main_call0_call0_v2 : Ref sig .tc := ⟨.hbm, 106, rfl⟩
abbrev main_call0_call0_v3 : Ref sig .tc := ⟨.hbm, 107, rfl⟩
abbrev main_call0_call0_v4 : Ref sig .tc := ⟨.hbm, 108, rfl⟩
abbrev main_call0_call0_v5 : Ref sig .tc := ⟨.hbm, 109, rfl⟩
abbrev main_call0_call0_v6 : Ref sig .tc := ⟨.hbm, 110, rfl⟩
abbrev main_call0_call0_v7 : Ref sig .tc := ⟨.hbm, 111, rfl⟩
abbrev main_call0_call0_v8 : Ref sig .tc := ⟨.hbm, 112, rfl⟩
abbrev main_call0_call0_v9 : Ref sig .tc := ⟨.hbm, 113, rfl⟩
abbrev main_call0_call0_v10 : Ref sig .tc := ⟨.hbm, 114, rfl⟩
abbrev main_call0_call0_v11 : Ref sig .tc := ⟨.hbm, 115, rfl⟩
abbrev main_call0_v1 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_7 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_call1_v0 : Ref sig .tc := ⟨.hbm, 166, rfl⟩
abbrev main_call1_call0_cst : Ref sig .tc := ⟨.hbm, 167, rfl⟩
abbrev main_call1_call0_v0 : Ref sig .tc := ⟨.hbm, 168, rfl⟩
abbrev main_call1_call0_v1 : Ref sig .tc := ⟨.hbm, 169, rfl⟩
abbrev main_call1_call0_v2 : Ref sig .tc := ⟨.hbm, 170, rfl⟩
abbrev main_call1_call0_v3 : Ref sig .tc := ⟨.hbm, 171, rfl⟩
abbrev main_call1_call0_v4 : Ref sig .tc := ⟨.hbm, 172, rfl⟩
abbrev main_call1_call0_v5 : Ref sig .tc := ⟨.hbm, 173, rfl⟩
abbrev main_call1_call0_v6 : Ref sig .tc := ⟨.hbm, 174, rfl⟩
abbrev main_call1_call0_v7 : Ref sig .tc := ⟨.hbm, 175, rfl⟩
abbrev main_call1_call0_v8 : Ref sig .tc := ⟨.hbm, 176, rfl⟩
abbrev main_call1_call0_v9 : Ref sig .tc := ⟨.hbm, 177, rfl⟩
abbrev main_call1_call0_v10 : Ref sig .tc := ⟨.hbm, 178, rfl⟩
abbrev main_call1_call0_v11 : Ref sig .tc := ⟨.hbm, 179, rfl⟩
abbrev main_call1_v1 : Ref sig .tc := ⟨.hbm, 180, rfl⟩
abbrev main_v116 : Ref sig .tc := ⟨.hbm, 181, rfl⟩
abbrev main_cst_8 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩

abbrev nD : Nat := 1
abbrev τ : Topo := Topo.v7x

variable {F : FTy → Type} [FloatOps F]
-- ==== Proof.SoftmaxRow.lean ====
/- One row of softmax attention over the extended reals: dividing the weighted sum by the row's total, as the kernel does,
   or every weight before the sum, as the reference does, gives the same when the row's scores are real numbers. -/
module

public import Idealize.ShloMosaic.Lib.Pipeline.ValueKit
public import Idealize.ShloMosaic.Lib.ReduceAll

@[expose] public section

noncomputable section

namespace Cert.SoftmaxRow

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, by norm_cast⟩

/-- A finite sum of real numbers is the same sum among the extended reals. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i, IsReal (f i)) : IsReal (∑ i ∈ s, f i) := by
  choose r hr using h
  exact ⟨∑ i ∈ s, r i, by simp only [hr, coe_sum]⟩

/-- A number whose absolute value lies below infinity is real. -/
theorem isReal_of_abs_lt_top {x : EReal} (h : max x (-x) < ⊤) : IsReal x := by
  induction x using EReal.rec with
  | bot => simp at h
  | top => simp at h
  | coe r => exact ⟨r, rfl⟩

theorem ofBits_neg_inf : Ideal.ofBits .f32 0xFF800000#32 = (⊥ : EReal) := by simp [Ideal.ofBits, Ideal.ieee]

theorem ofBits_inf : Ideal.ofBits .f32 0x7F800000#32 = (⊤ : EReal) := by simp [Ideal.ofBits, Ideal.ieee]

/-- The scale of the scores is a real number. -/
theorem isReal_scale : IsReal (Ideal.ofBits .f32 0x3D3504F3#32) := by
  refine ⟨11863283 * (2 : ℝ) ^ (-28 : ℤ), ?_⟩
  simp [Ideal.ofBits, Ideal.ieee]

/-- A finite sum times a nonnegative real factor is the sum of the terms times that factor. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The largest of finitely many real scores is real. -/
theorem isReal_max {n : ℕ} (hn : 0 < n) (s : Fin n → EReal) (hs : ∀ i, IsReal (s i)) :
    IsReal (Finset.fold max (⊥ : EReal) s Finset.univ) := by
  have htop : Finset.fold max (⊥ : EReal) s Finset.univ < ⊤ :=
    (Finset.fold_max_lt _).mpr ⟨bot_lt_top, fun i _ => by obtain ⟨r, hr⟩ := hs i; rw [hr]; exact EReal.coe_lt_top r⟩
  have hbot : ⊥ < Finset.fold max (⊥ : EReal) s Finset.univ :=
    (Finset.lt_fold_max _).mpr (.inr ⟨⟨0, hn⟩, Finset.mem_univ _, by obtain ⟨r, hr⟩ := hs ⟨0, hn⟩; rw [hr]; exact EReal.bot_lt_coe r⟩)
  exact ⟨_, (EReal.coe_toReal htop.ne hbot.ne').symm⟩

/-- The weighted sum divided by the total of the weights is the sum of the divided weights. -/
theorem softmax_row {n : ℕ} (hn : 0 < n) (s v : Fin n → EReal) (hs : ∀ i, IsReal (s i)) :
    Ideal.div (∑ i, Ideal.exp (s i - Finset.fold max (⊥ : EReal) s Finset.univ) * v i)
      (∑ i, Ideal.exp (s i - Finset.fold max (⊥ : EReal) s Finset.univ))
    = ∑ i, v i * Ideal.div (Ideal.exp (s i - max (⊥ : EReal) (Finset.fold max (⊥ : EReal) s Finset.univ)))
        (0 + ∑ j, Ideal.exp (s j - max (⊥ : EReal) (Finset.fold max (⊥ : EReal) s Finset.univ))) := by
  obtain ⟨M, hM⟩ := isReal_max hn s hs
  choose r hr using hs
  rw [max_eq_right bot_le, hM]
  have he : ∀ i, Ideal.exp (s i - (M : EReal)) = ((Real.exp (r i - M) : ℝ) : EReal) := fun i => by
    rw [hr i, ← EReal.coe_sub]; rfl
  simp only [he, zero_add]
  have hsum : (∑ i, ((Real.exp (r i - M) : ℝ) : EReal)) = ((∑ i, Real.exp (r i - M) : ℝ) : EReal) := (coe_sum _ _).symm
  have hpos : 0 < ∑ i, Real.exp (r i - M) :=
    Finset.sum_pos (fun i _ => Real.exp_pos _) ⟨⟨0, hn⟩, Finset.mem_univ _⟩
  have hne : ((∑ i, Real.exp (r i - M) : ℝ) : EReal) ≠ 0 := by exact_mod_cast hpos.ne'
  rw [hsum]
  simp only [Ideal.div, if_neg hne, ← EReal.coe_inv]
  rw [sum_mul_coe _ _ _ (inv_nonneg.mpr hpos.le)]
  refine Finset.sum_congr rfl fun i _ => ?_
  rw [mul_comm _ (v i), mul_assoc]

end Cert.SoftmaxRow

end
-- ==== Proof.Attn.lean ====
/- The cross-attention of the prompt: the tiled kernel's result array, at the prompt's rows, is softmax attention of the
   queries against the memory's keys and values. -/
module

public import proofs.«01_k».proof.Proof.Gen.AttnIdeal.Frame
public import proofs.«01_k».proof.Proof.Gen.AttnRefIdeal.Read
public import proofs.«01_k».proof.Proof.SoftmaxRow
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.AttnIdeal.Value

open Cert.AttnIdeal Cert.AttnIdeal.Gen Idealize.ShloMosaic Idealize.ShloMosaic.TcCoe
open Cert.SoftmaxRow Cert.AttnRefIdeal.Read

variable (m : (ℓ : Loc nD τ sig) → Buf (Elt Ideal) ℓ)

/-! ## The reference, stage by stage -/

/-- The scaled score of query row `r`, head `h`, against memory row `j` of the row's batch. -/
def score (x : FVec Ideal S8320x2048 .bf16) (k : FVec Ideal S2x1024x2048 .f32) (b h : Fin 4) (r : Fin 2048) (j : Fin 256) : EReal :=
  (∑ d : Fin 512, x (ix2 ⟨b * 2048 + r, by omega⟩ ⟨h * 512 + d, by omega⟩) * k (ix3 0 ⟨b * 256 + j, by omega⟩ ⟨h * 512 + d, by omega⟩))
    * Ideal.ofBits .f32 0x3D3504F3#32

theorem score_at (x : FVec Ideal S8320x2048 .bf16) (k : FVec Ideal S2x1024x2048 .f32) (b h : Fin 4) (r : Fin 2048) (j : Fin 256) :
    val_main_v11 (F := Ideal) x k (ix4 b h r j) = score x k b h r j := by
  unfold score
  pointwise [val_main_v11, val_main_v10, val_main_cst, val_main_v9, val_main_v5, val_main_v4, val_main_v3, val_main_v2, val_main_v1, val_main_v0]

/-- A maximum over the last axis, from minus infinity, at an index. -/
theorem reduce_at (X : FVec Ideal AttnRefIdeal.S4x4x2048x256 .f32) (b h : Fin 4) (r : Fin 2048) :
    Host.reduce FloatOps.maximumf X (val_main_cst_0 (F := Ideal)) AttnRefIdeal.Gen.reducesTo_S4x4x2048x256_S4x4x2048_d3
      AttnRefIdeal.Gen.h_S_ (ix3 b h r)
    = Finset.fold max (⊥ : EReal) (fun j => (X (ix4 b h r j) : EReal)) Finset.univ := by
  rw [← ofBits_neg_inf]
  pointwise [val_main_cst_0]

/-- The reference's row maximum, from the row's scores. -/
theorem max_at (x : FVec Ideal S8320x2048 .bf16) (k : FVec Ideal S2x1024x2048 .f32) (b h : Fin 4) (r : Fin 2048)
    (s : Fin 256 → EReal) (hs : ∀ j, val_main_v11 (F := Ideal) x k (ix4 b h r j) = s j) :
    val_main_v12 (F := Ideal) x k (ix3 b h r) = Finset.fold max (⊥ : EReal) s Finset.univ := by
  unfold val_main_v12
  generalize val_main_v11 (F := Ideal) x k = X at hs ⊢
  obtain rfl : s = fun j => X (ix4 b h r j) := funext fun j => (hs j).symm
  exact reduce_at X b h r

/-- The weight from the scores `X` and the row maxima `Y`, at an index. -/
theorem exp_at (X : FVec Ideal AttnRefIdeal.S4x4x2048x256 .f32) (Y : FVec Ideal AttnRefIdeal.S4x4x2048 .f32) (b h : Fin 4)
    (r : Fin 2048) (j : Fin 256) :
    Host.exp (subf X (broadcastInDim AttnRefIdeal.S4x4x2048x256 ![0, 1, 2, 3]
      AttnRefIdeal.Gen.bcast_S4x4x2048x1_S4x4x2048x256_0_1_2_3 (broadcastInDim AttnRefIdeal.S4x4x2048x1 ![0, 1, 2]
        AttnRefIdeal.Gen.bcast_S4x4x2048_S4x4x2048x1_0_1_2 (maximumf (val_main_v13 (F := Ideal)) Y)))) (ix4 b h r j)
    = Ideal.exp (X (ix4 b h r j) - max (⊥ : EReal) (Y (ix3 b h r))) := by
  rw [← ofBits_neg_inf]
  pointwise [val_main_v13, val_main_cst_1]

/-- The reference's unnormalized weight, from the row's scores. -/
theorem weight_at (x : FVec Ideal S8320x2048 .bf16) (k : FVec Ideal S2x1024x2048 .f32) (b h : Fin 4) (r : Fin 2048)
    (s : Fin 256 → EReal) (hs : ∀ j, val_main_v11 (F := Ideal) x k (ix4 b h r j) = s j) (j : Fin 256) :
    val_main_v18 (F := Ideal) x k (ix4 b h r j)
    = Ideal.exp (s j - max (⊥ : EReal) (Finset.fold max (⊥ : EReal) s Finset.univ)) := by
  have hm := max_at x k b h r s hs
  have hj := hs j
  unfold val_main_v18 val_main_v17 val_main_v16 val_main_v15 val_main_v14
  generalize val_main_v11 (F := Ideal) x k = X at hj ⊢
  generalize val_main_v12 (F := Ideal) x k = Y at hm ⊢
  generalize Finset.fold max (⊥ : EReal) s Finset.univ = M at hm ⊢
  refine (exp_at X Y b h r j).trans ?_
  rw [hj, hm]

/-- The reference's softmax. -/
theorem softmax_at (x : FVec Ideal S8320x2048 .bf16) (k : FVec Ideal S2x1024x2048 .f32) (b h : Fin 4) (r : Fin 2048) (j : Fin 256) :
    val_main_v22 (F := Ideal) x k (ix4 b h r j)
    = Ideal.div (val_main_v18 (F := Ideal) x k (ix4 b h r j)) (0 + ∑ l : Fin 256, val_main_v18 (F := Ideal) x k (ix4 b h r l)) := by
  unfold val_main_v22 val_main_v21 val_main_v20 val_main_v19
  generalize val_main_v18 (F := Ideal) x k = X
  pointwise [val_main_cst_2]

/-- The reference's result at a row of the prompt. -/
theorem ref_at (x : FVec Ideal S8320x2048 .bf16) (k v : FVec Ideal S2x1024x2048 .f32) (i : S8320x2048.Idx) (hi : (i 0 : ℕ) < 8192) :
    val_main_v28 (F := Ideal) x k v i
    = ∑ j : Fin 256, v (ix3 0 ⟨(i 0 : ℕ) / 2048 * 256 + j, by omega⟩ (i 1))
        * val_main_v22 (F := Ideal) x k (ix4 ⟨(i 0 : ℕ) / 2048, by omega⟩ ⟨(i 1 : ℕ) / 512, by have := (i 1).isLt; change (i 1 : ℕ) < 2048 at this; omega⟩
            ⟨(i 0 : ℕ) % 2048, by omega⟩ j) := by
  pointwise [val_main_v28, val_main_v27, val_main_cst_3, val_main_v26, val_main_v25, val_main_v24, val_main_v23, val_main_v8, val_main_v7, val_main_v6]
  rw [dif_pos hi]

/-! ## The kernel's block -/

/-- One head of the kernel: its queries, keys and values to its output columns. -/
theorem head_at (q : Vec Ideal S512x512 .bf16) (k v : Vec Ideal S256x512 .bf16) (a b : Fin 512) :
    k0_pay4 (F := Ideal) q k v (ix2 a b)
    = Ideal.div
        (∑ j : Fin 256, Ideal.exp ((∑ d : Fin 512, q (ix2 a d) * k (ix2 j d)) * Ideal.ofBits .f32 0x3D3504F3#32
          - Finset.fold max (⊥ : EReal) (fun j : Fin 256 => (∑ d : Fin 512, q (ix2 a d) * k (ix2 j d)) * Ideal.ofBits .f32 0x3D3504F3#32) Finset.univ)
          * v (ix2 j b))
        (∑ j : Fin 256, Ideal.exp ((∑ d : Fin 512, q (ix2 a d) * k (ix2 j d)) * Ideal.ofBits .f32 0x3D3504F3#32
          - Finset.fold max (⊥ : EReal) (fun j : Fin 256 => (∑ d : Fin 512, q (ix2 a d) * k (ix2 j d)) * Ideal.ofBits .f32 0x3D3504F3#32) Finset.univ)) := by
  rw [← ofBits_neg_inf]
  pointwise [k0_pay4]

/-- The same, from the row's scores `s` and the column's values `w`. -/
theorem head_of (q : Vec Ideal S512x512 .bf16) (k v : Vec Ideal S256x512 .bf16) (a b : Fin 512) (s w : Fin 256 → EReal)
    (hs : ∀ j, (∑ d : Fin 512, q (ix2 a d) * k (ix2 j d)) * Ideal.ofBits .f32 0x3D3504F3#32 = s j)
    (hw : ∀ j, v (ix2 j b) = w j) :
    k0_pay4 (F := Ideal) q k v (ix2 a b)
    = Ideal.div (∑ j, Ideal.exp (s j - Finset.fold max (⊥ : EReal) s Finset.univ) * w j)
        (∑ j, Ideal.exp (s j - Finset.fold max (⊥ : EReal) s Finset.univ)) := by
  obtain rfl : s = fun j => (∑ d : Fin 512, q (ix2 a d) * k (ix2 j d)) * Ideal.ofBits .f32 0x3D3504F3#32 := funext fun j => (hs j).symm
  obtain rfl : w = fun j => v (ix2 j b) := funext fun j => (hw j).symm
  exact head_at q k v a b

/-- The windows' block indices at every grid point: four query tiles per batch. -/
theorem idx : ∀ t : Fin cfg0.N, win0_0.index t = ![t.val, 0] ∧ win0_1.index t = ![0, t.val / 4, 0]
    ∧ win0_2.index t = ![0, t.val / 4, 0] ∧ win0_3.index t = ![t.val, 0] :=
  (by decide +kernel : ∀ t : Fin grid0.N, _)

/-- Two points of the same batch stage the same keys, and so copy the same. -/
theorem keys_congr (c : Dev nD) (t t' : Fin cfg0.N) (h : t.val / 4 = t'.val / 4) :
    k0_pay2 (F := Ideal) (iblk m c 1 t) = k0_pay2 (F := Ideal) (iblk m c 1 t') := by
  funext y
  pointwise [k0_pay2]
  blk_point [iblk, V, idx t, idx t', h]

/-- Two points of the same batch stage the same values, and so copy the same. -/
theorem values_congr (c : Dev nD) (t t' : Fin cfg0.N) (h : t.val / 4 = t'.val / 4) :
    k0_pay3 (F := Ideal) (iblk m c 2 t) = k0_pay3 (F := Ideal) (iblk m c 2 t') := by
  funext y
  pointwise [k0_pay3]
  blk_point [iblk, V, idx t, idx t', h]

/-- The key scratch after every point holds the copy of that point's own keys. -/
theorem keys (c : Dev nD) (t : Fin cfg0.N) : (outsAt0 m c t.val t.isLt).2.1 = k0_pay2 (F := Ideal) (iblk m c 1 t) :=
  (Pipeline.eq_of_write_hold (fun n h => (outsAt0 m c n h).2.1) 4 (fun t => k0_pay2 (F := Ideal) (iblk m c 1 t))
    (fun t h => by rw [outsAt0_A m c t h]; frame_out)
    (fun t h => by rw [outsAt0_B m c t h]; rfl) t).trans (keys_congr m c _ t (by simp))

/-- The value scratch after every point holds the copy of that point's own values. -/
theorem values (c : Dev nD) (t : Fin cfg0.N) : (outsAt0 m c t.val t.isLt).2.2 = k0_pay3 (F := Ideal) (iblk m c 2 t) :=
  (Pipeline.eq_of_write_hold (fun n h => (outsAt0 m c n h).2.2) 4 (fun t => k0_pay3 (F := Ideal) (iblk m c 2 t))
    (fun t h => by rw [outsAt0_A m c t h]; frame_out)
    (fun t h => by rw [outsAt0_B m c t h]; rfl) t).trans (values_congr m c _ t (by simp))

/-- The 512 columns from `o` on of an array of 2048 columns. -/
def cols {n : ℕ} (o : ℕ) (ho : o ≤ 1536) (X : Vec Ideal ⟨2, ![n, 2048]⟩ .bf16) : Vec Ideal ⟨2, ![n, 512]⟩ .bf16 := fun i =>
  X (ix2 (i 0) ⟨o + (i 1 : ℕ), by have := (i 1).isLt; change (i 1 : ℕ) < 512 at this; omega⟩)

/-- The kernel's block from its queries, keys and values: the four heads side by side. -/
def heads (q : Vec Ideal S512x2048 .bf16) (k v : Vec Ideal S256x2048 .bf16) : Vec Ideal S512x2048 .bf16 := fun y =>
  have ho : (y 1 : ℕ) / 512 * 512 ≤ 1536 := by have := (y 1).isLt; change (y 1 : ℕ) < 2048 at this; omega
  k0_pay4 (F := Ideal) (cols _ ho q) (cols _ ho k) (cols _ ho v) (ix2 (y 0) ⟨(y 1 : ℕ) % 512, by omega⟩)

/-- What the head at column `o` stores at `x` is what the four heads hold there. -/
theorem piece (q : Vec Ideal S512x2048 .bf16) (k v : Vec Ideal S256x2048 .bf16) (o : ℕ) (ho : o ≤ 1536) (hd : o % 512 = 0)
    (x : S512x512.Idx) (y : S512x2048.Idx) (h0 : (y 0 : ℕ) = x 0) (h1 : (y 1 : ℕ) = o + x 1) :
    k0_pay4 (F := Ideal) (cols o ho q) (cols o ho k) (cols o ho v) x = heads q k v y := by
  have hx := (x 1).isLt
  change (x 1 : ℕ) < 512 at hx
  obtain rfl : o = (y 1 : ℕ) / 512 * 512 := by omega
  unfold heads
  congr 1
  funext a
  match a with
  | ⟨0, _⟩ => exact Fin.ext h0.symm
  | ⟨1, _⟩ => exact Fin.ext (by show (x 1 : ℕ) = (y 1 : ℕ) % 512; omega)

/-- A load of 512 columns of a block is those columns. -/
theorem ld_cols {n : ℕ} (o : ℕ) (ho : o ≤ 1536) (X : Vec Ideal ⟨2, ![n, 2048]⟩ .bf16)
    (inb : ∀ a, (![0, o] : Fin 2 → ℕ) a + (![n, 512] : Fin 2 → ℕ) a ≤ (⟨2, ![n, 2048]⟩ : Shape).size a) :
    View.ld X (Rect.unit (s := ⟨2, ![n, 2048]⟩) ![0, o] ![n, 512] inb) = cols o ho X := by
  funext i
  refine congrArg X (funext fun a => Fin.ext ?_)
  match a with
  | ⟨0, _⟩ => show 0 + 1 * (i 0 : ℕ) = i 0; omega
  | ⟨1, _⟩ => show o + 1 * (i 1 : ℕ) = o + i 1; omega

/-- The second head's arithmetic is the first's, printed in two parts. -/
theorem head1_eq (q : Vec Ideal S512x512 .bf16) (k v : Vec Ideal S256x512 .bf16) :
    k0_pay7 (F := Ideal) (k0_pay5 q k) (k0_pay6 q k) v = k0_pay4 q k v := rfl

/-- So is the third head's. -/
theorem head2_eq (q : Vec Ideal S512x512 .bf16) (k v : Vec Ideal S256x512 .bf16) :
    k0_pay8 (F := Ideal) q k v = k0_pay4 q k v := rfl

/-- So is the fourth head's, printed in two parts. -/
theorem head3_eq (q : Vec Ideal S512x512 .bf16) (k v : Vec Ideal S256x512 .bf16) :
    k0_pay1 (F := Ideal) (k0_pay9 q k) (k0_pay10 q k) v = k0_pay4 q k v := rfl

/-- What the body leaves in its block: the four heads over the point's queries and the copied keys and values. -/
theorem body (c : Dev nD) (t : Fin cfg0.N) (y : S512x2048.Idx) :
    (outsAt0 m c t.val t.isLt).1 y = heads (X0_0 m c t) (k0_pay2 (F := Ideal) (iblk m c 1 t)) (k0_pay3 (F := Ideal) (iblk m c 2 t)) y := by
  by_cases h : t.val % 4 = 0
  · rw [outsAt0_A m c t h]; frame_out
    simp (disch := decide) only [View.readCov_fill]
    canon_tiles x hx
    · rw [ld_cols 1536 (by decide), ld_cols 1536 (by decide), ld_cols 1536 (by decide), head3_eq]
      exact piece _ _ _ 1536 _ (by decide) x y (by omega) (by omega)
    · rw [ld_cols 1024 (by decide), ld_cols 1024 (by decide), ld_cols 1024 (by decide), head2_eq]
      exact piece _ _ _ 1024 _ (by decide) x y (by omega) (by omega)
    · rw [ld_cols 512 (by decide), ld_cols 512 (by decide), ld_cols 512 (by decide), head1_eq]
      exact piece _ _ _ 512 _ (by decide) x y (by omega) (by omega)
    · rw [ld_cols 0 (by decide), ld_cols 0 (by decide), ld_cols 0 (by decide)]
      exact piece _ _ _ 0 _ (by decide) x y (by omega) (by omega)
  · have hk : (outsAt0 m c (t.val - 1) (Nat.lt_of_le_of_lt (Nat.sub_le _ _) t.isLt)).2.1 = k0_pay2 (F := Ideal) (iblk m c 1 t) :=
      (keys m c ⟨t.val - 1, Nat.lt_of_le_of_lt (Nat.sub_le _ _) t.isLt⟩).trans (keys_congr m c _ t (by simp only; omega))
    have hv : (outsAt0 m c (t.val - 1) (Nat.lt_of_le_of_lt (Nat.sub_le _ _) t.isLt)).2.2 = k0_pay3 (F := Ideal) (iblk m c 2 t) :=
      (values m c ⟨t.val - 1, Nat.lt_of_le_of_lt (Nat.sub_le _ _) t.isLt⟩).trans (values_congr m c _ t (by simp only; omega))
    rw [outsAt0_B m c t h]; frame_out
    simp only [hk, hv, read_unread_whole]
    canon_tiles x hx
    · rw [ld_cols 1536 (by decide), ld_cols 1536 (by decide), ld_cols 1536 (by decide), head3_eq]
      exact piece _ _ _ 1536 _ (by decide) x y (by omega) (by omega)
    · rw [ld_cols 1024 (by decide), ld_cols 1024 (by decide), ld_cols 1024 (by decide), head2_eq]
      exact piece _ _ _ 1024 _ (by decide) x y (by omega) (by omega)
    · rw [ld_cols 512 (by decide), ld_cols 512 (by decide), ld_cols 512 (by decide), head1_eq]
      exact piece _ _ _ 512 _ (by decide) x y (by omega) (by omega)
    · rw [ld_cols 0 (by decide), ld_cols 0 (by decide), ld_cols 0 (by decide)]
      exact piece _ _ _ 0 _ (by decide) x y (by omega) (by omega)

/-! ## The point's block against the reference -/

/-- A point's query block is its rows of the array: no block the grid reaches is cut. -/
theorem queries (c : Dev nD) (t : Fin cfg0.N) (y : S512x2048.Idx) :
    X0_0 m c t y = m ((c : Thread nD τ).loc main_arg0)
      (ix2 ⟨t.val * 512 + y 0, by have := lt_of_lt_of_eq t.isLt N_0; have := (y 0).isLt; change (y 0 : ℕ) < 512 at this; omega⟩ (y 1)) := by
  unfold X0_0 Pipeline.Window.fill
  rw [dif_pos (moved0_0 t y)]
  blk_point [iblk, V, idx t]

/-- A point's scores are the reference's: query row `y 0` of the block is row `t % 4 * 512 + y 0` of batch `t / 4`. -/
theorem scores (c : Dev nD) (t : Fin cfg0.N) (a : Fin 512) (h : Fin 4) (ho : h.val * 512 ≤ 1536) (j : Fin 256) :
    (∑ d : Fin 512, cols (n := 512) _ ho (X0_0 m c t) (ix2 a d) * cols (n := 256) _ ho (k0_pay2 (F := Ideal) (iblk m c 1 t)) (ix2 j d))
      * Ideal.ofBits .f32 0x3D3504F3#32
    = score (m ((c : Thread nD τ).loc main_arg0)) (m ((c : Thread nD τ).loc main_arg1))
        ⟨t.val / 4, by have := lt_of_lt_of_eq t.isLt N_0; omega⟩ h ⟨t.val % 4 * 512 + a, by omega⟩ j := by
  have ht := lt_of_lt_of_eq t.isLt N_0
  unfold cols score
  simp only [queries]
  pointwise [k0_pay2]
  blk_point [iblk, V, idx t]

/-- A point's values are the reference's. -/
theorem values_at (c : Dev nD) (t : Fin cfg0.N) (h : Fin 4) (ho : h.val * 512 ≤ 1536) (j : Fin 256) (d : Fin 512) :
    cols (n := 256) _ ho (k0_pay3 (F := Ideal) (iblk m c 2 t)) (ix2 j d)
    = m ((c : Thread nD τ).loc main_arg2) (ix3 0 ⟨t.val / 4 * 256 + j, by have := lt_of_lt_of_eq t.isLt N_0; omega⟩ ⟨h.val * 512 + d, by omega⟩) := by
  have ht := lt_of_lt_of_eq t.isLt N_0
  unfold cols
  pointwise [k0_pay3]
  blk_point [iblk, V, idx t]

/-- What the body leaves at index `y` of its block is the reference's value at the place of `y` in the array. -/
theorem point (c : Dev nD) (t : Fin cfg0.N) (y : S512x2048.Idx) (i : S8320x2048.Idx)
    (hi0 : (i 0 : ℕ) = t.val * 512 + y 0) (hi1 : (i 1 : ℕ) = y 1)
    (hq : ∀ i, IsReal (m ((c : Thread nD τ).loc main_arg0) i)) (hk : ∀ i, IsReal (m ((c : Thread nD τ).loc main_arg1) i)) :
    heads (X0_0 m c t) (k0_pay2 (F := Ideal) (iblk m c 1 t)) (k0_pay3 (F := Ideal) (iblk m c 2 t)) y
    = val_main_v28 (F := Ideal) (m ((c : Thread nD τ).loc main_arg0)) (m ((c : Thread nD τ).loc main_arg1))
        (m ((c : Thread nD τ).loc main_arg2)) i := by
  have ht := lt_of_lt_of_eq t.isLt N_0
  have hy0 := (y 0).isLt
  change (y 0 : ℕ) < 512 at hy0
  have hy1 := (y 1).isLt
  change (y 1 : ℕ) < 2048 at hy1
  have hs := fun j => scores m c t (y 0) ⟨(y 1 : ℕ) / 512, by omega⟩ (by show (y 1 : ℕ) / 512 * 512 ≤ 1536; omega) j
  have hv := fun j => values_at m c t ⟨(y 1 : ℕ) / 512, by omega⟩ (by show (y 1 : ℕ) / 512 * 512 ≤ 1536; omega) j ⟨(y 1 : ℕ) % 512, by omega⟩
  have eb : (i 0 : ℕ) / 2048 = t.val / 4 := by omega
  have er : (i 0 : ℕ) % 2048 = t.val % 4 * 512 + (y 0 : ℕ) := by omega
  have eh : (i 1 : ℕ) / 512 = (y 1 : ℕ) / 512 := by omega
  have ei : (i 1 : ℕ) = (y 1 : ℕ) / 512 * 512 + (y 1 : ℕ) % 512 := by omega
  have hr : ∀ j, IsReal (score (m ((c : Thread nD τ).loc main_arg0)) (m ((c : Thread nD τ).loc main_arg1))
      ⟨t.val / 4, by omega⟩ ⟨(y 1 : ℕ) / 512, by omega⟩ ⟨t.val % 4 * 512 + (y 0 : ℕ), by omega⟩ j) := fun j =>
    (isReal_sum _ _ fun d => (hq _).mul (hk _)).mul isReal_scale
  unfold heads
  refine (head_of _ _ _ _ _ _ _ hs hv).trans ((softmax_row (by decide) _ _ hr).trans ?_)
  rw [ref_at _ _ _ i (by omega)]
  have hw := fun l => weight_at (m ((c : Thread nD τ).loc main_arg0)) (m ((c : Thread nD τ).loc main_arg1))
      ⟨t.val / 4, by omega⟩ ⟨(y 1 : ℕ) / 512, by omega⟩ ⟨t.val % 4 * 512 + (y 0 : ℕ), by omega⟩ _ (fun j => score_at _ _ _ _ _ j) l
  refine Finset.sum_congr rfl fun j _ => ?_
  rw [softmax_at]
  simp only [eb, er, eh, hw]
  congr 2
  refine congrArg (ix3 0 _) (Fin.ext ?_)
  exact ei.symm

/-- The result array after the run, at every row of the prompt, is the reference's value. -/
theorem final (c : Dev nD) (hq : ∀ i, IsReal (m ((c : Thread nD τ).loc main_arg0) i)) (hk : ∀ i, IsReal (m ((c : Thread nD τ).loc main_arg1) i))
    (i : S8320x2048.Idx) (hi : (i 0 : ℕ) < 8192) :
    (dats m 0 c).arrAt 3 (cfgs 0).N i
    = val_main_v28 (F := Ideal) (m ((c : Thread nD τ).loc main_arg0)) (m ((c : Thread nD τ).loc main_arg1))
        (m ((c : Thread nD τ).loc main_arg2)) i := by
  refine ((dats m 0 c).arrAt_apply_of_coversWhere 3 (val_main_v28 (F := Ideal) (m ((c : Thread nD τ).loc main_arg0))
    (m ((c : Thread nD τ).loc main_arg1)) (m ((c : Thread nD τ).loc main_arg2))) (P := fun i => (i 0 : ℕ) < 8192)
    (fun β => β 0 < 16) (by decide +kernel) (fun t hf y => ?_)
    (fun j => by blk_simp [Pipeline.Window.cell_apply]; omega) i).trans (if_pos hi)
  blk_simp
  rw [after0_3, body]
  exact point m c t _ _ (by blk_simp [idx t] <;> omega) (by blk_simp [idx t] <;> omega) hq hk

end Cert.AttnIdeal.Value

end
-- ==== Proof.Up.lean ====
/- The up projection of one layer with its squared rectifier: the tiled kernel's result array is the plain expression. -/
module

public import proofs.«01_k».proof.Proof.Gen.UpIdeal.Frame
public import proofs.«01_k».proof.Proof.Gen.UpRefIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.UpIdeal.Value

open Cert.UpIdeal Cert.UpIdeal.Gen Idealize.ShloMosaic Idealize.ShloMosaic.TcCoe
open Cert.UpRefIdeal.Read (val_main_v0 val_main_v1 val_main_v2 val_main_v3 val_main_v4 val_main_v5 val_main_v6 val_main_call0_v0 val_main_call0_cst)

variable (m : (ℓ : Loc nD τ sig) → Buf (Elt Ideal) ℓ)

/-- The squared rectifier of the activations' product with layer 0's weights, as the reference computes it. -/
abbrev relu2 (x : FVec Ideal S8320x2048 .bf16) (w : FVec Ideal S2x2048x8192 .f32) : FVec Ideal S8320x8192 .bf16 :=
  val_main_v6 (F := Ideal) x w

/-- The windows' block indices at every grid point: eight row tiles per column tile. -/
theorem idx : ∀ t : Fin cfg0.N, win0_0.index t = ![t.val % 8, 0]
    ∧ win0_1.index t = ![0, 0, t.val / 8] ∧ win0_2.index t = ![t.val % 8, t.val / 8] :=
  (by decide +kernel : ∀ t : Fin grid0.N, _)

/-- Two points of the same run of eight stage the same column tile of the weights, and so copy the same. -/
theorem copy_congr (c : Dev nD) (t t' : Fin cfg0.N) (h : t.val / 8 = t'.val / 8) :
    k0_pay1 (F := Ideal) (iblk m c 1 t) = k0_pay1 (F := Ideal) (iblk m c 1 t') := by
  funext y
  pointwise [k0_pay1]
  blk_point [iblk, V, idx t, idx t', h]

/-- The scratch after every point holds the copy of that point's own column tile: the run's first point writes it, the
    others carry it. -/
theorem held (c : Dev nD) (t : Fin cfg0.N) : (outsAt0 m c t.val t.isLt).2 = k0_pay1 (F := Ideal) (iblk m c 1 t) :=
  (Pipeline.eq_of_write_hold (fun n h => (outsAt0 m c n h).2) 8 (fun t => k0_pay1 (F := Ideal) (iblk m c 1 t))
    (fun t h => by rw [outsAt0_A m c t h]; frame_out)
    (fun t h => by rw [outsAt0_B m c t h]; rfl) t).trans (copy_congr m c _ t (by simp))

/-- What the body leaves in its block: its payload over the copied weights and the row tile. -/
theorem body (c : Dev nD) (t : Fin cfg0.N) :
    (outsAt0 m c t.val t.isLt).1 = k0_pay2 (F := Ideal) (k0_pay1 (F := Ideal) (iblk m c 1 t)) (iblk m c 0 t) := by
  by_cases h : t.val % 8 = 0
  · rw [outsAt0_A m c t h]; frame_out
  · have hp : (outsAt0 m c (t.val - 1) (Nat.lt_of_le_of_lt (Nat.sub_le _ _) t.isLt)).2 = k0_pay1 (F := Ideal) (iblk m c 1 t) :=
      (held m c ⟨t.val - 1, Nat.lt_of_le_of_lt (Nat.sub_le _ _) t.isLt⟩).trans (copy_congr m c _ t (by simp only; omega))
    rw [outsAt0_B m c t h]; frame_out
    rw [hp, read_unread_whole]

/-- What the body stores at index `y` of its block is the reference's value at the place of `y` in the array. -/
theorem point (c : Dev nD) (t : Fin cfg0.N) (y) :
    k0_pay2 (F := Ideal) (k0_pay1 (F := Ideal) (iblk m c 1 t)) (iblk m c 0 t) y
    = relu2 (m ((c : Thread nD τ).loc main_arg0)) (m ((c : Thread nD τ).loc main_arg1))
      (((cfg0.win 2).blk t).view.emb y) := by
  pointwise [k0_pay2, k0_pay1, relu2, val_main_v6, val_main_v5, val_main_v4, val_main_call0_v0, val_main_call0_cst, val_main_v3, val_main_v2, val_main_v1, val_main_v0]
  blk_point [iblk, V, idx t]

/-- The result array after the run is the reference's value. -/
theorem final (c : Dev nD) : (dats m 0 c).arrAt 2 (cfgs 0).N
    = relu2 (m ((c : Thread nD τ).loc main_arg0)) (m ((c : Thread nD τ).loc main_arg1)) := by
  refine (dats m 0 c).arrAt_eq_of_covers 2 _ (by decide +kernel) fun t _ y => ?_
  blk_simp
  rw [after0_2, body]
  exact point m c t y

end Cert.UpIdeal.Value

end
-- ==== Proof.NormRow.lean ====
module

public import Idealize.ShloMosaic.Lib.Pipeline.ValueKit

/-!
A row of 2048 entries divided by the root of its mean square, with a gain per lane: the norm that follows each of the
layer's contractions.
-/

@[expose] public section

noncomputable section

namespace Cert.NormRow

open Idealize.ShloMosaic

/-- Lane `j` of the row `d`, normed, with the gains `g`. -/
def rmsNorm (d g : Fin 2048 → EReal) (j : Fin 2048) : EReal :=
  d j * Ideal.rsqrt (Ideal.div (∑ l, d l * d l) (Ideal.ofBits .f32 1157627904#32) + Ideal.ofBits .f32 897988541#32) * g j

/-- Two normed rows agree where their rows and their gains do. -/
theorem norm_congr {d d' g g' : Fin 2048 → EReal} (hd : ∀ l, d l = d' l) (hg : ∀ l, g l = g' l) {j j' : Fin 2048} (hj : j = j') :
    rmsNorm d g j = rmsNorm d' g' j' := by
  rw [funext hd, funext hg, hj]

/-- A load of 320 rows of a block, from its row `o` on, read at a row and a lane. -/
theorem ld_rows {e : EltTy} (X : Vec Ideal ⟨2, ![640, 2048]⟩ e) (o : ℕ)
    (inb : ∀ a, (![o, 0] : Fin 2 → ℕ) a + (![320, 2048] : Fin 2 → ℕ) a ≤ (⟨2, ![640, 2048]⟩ : Shape).size a)
    (a : Fin 640) (a' : Fin 320) (k : Fin 2048) (h : (a : ℕ) = o + a') :
    View.ld X (Rect.unit (s := ⟨2, ![640, 2048]⟩) ![o, 0] ![320, 2048] inb) (ix2 a' k) = X (ix2 a k) := by
  refine congrArg X (funext fun b => Fin.ext ?_)
  match b with
  | ⟨0, _⟩ => show o + 1 * (a' : ℕ) = a; omega
  | ⟨1, _⟩ => show 0 + 1 * (k : ℕ) = k; omega

end Cert.NormRow

end
-- ==== Proof.Down.lean ====
module

public import proofs.«01_k».proof.Proof.Gen.DownIdeal.Frame
public import proofs.«01_k».proof.Proof.Gen.DownRefIdeal.Read
public import Idealize.ShloMosaic.Lib.Pipeline.ValueKit
public import Idealize.ShloMosaic.Lib.Pipeline.ReadBack
public import proofs.«01_k».proof.Proof.NormRow

/-!
The second contraction of the feed-forward pair, summed over four blocks of lanes in a scratch array, then its norm, the
residual and the next layer's norm: the two arrays after the run of the idealized kernel are the reference's two values.
-/

@[expose] public section

set_option maxRecDepth 16384

noncomputable section

namespace Cert.DownIdeal.Value

open Cert.DownIdeal Cert.DownIdeal.Gen Cert.NormRow
open Idealize.ShloMosaic Idealize.ShloMosaic.TcCoe
open Cert.DownRefIdeal.Read

variable (m : (ℓ : Loc nD τ sig) → Buf (Elt Ideal) ℓ)

/-- Each window's block at a grid point. -/
theorem idx : ∀ t : Fin cfg0.N, win0_0.index t = ![t.val / 4, t.val % 4] ∧ win0_1.index t = ![0, t.val % 4, 0]
    ∧ win0_2.index t = ![0, 0] ∧ win0_4.index t = ![0, 0] ∧ win0_3.index t = ![t.val / 4, 0] ∧ win0_5.index t = ![t.val / 4, 0]
    ∧ win0_6.index t = ![t.val / 4, 0] := (by decide +kernel : ∀ t : Fin grid0.N, _)

/-! ## The reference, from one row of its contraction -/

theorem dot_at (X : Vec Ideal S8320x8192 .bf16) (W : Vec Ideal S2x8192x2048 .f32) (i : Fin 8320) (j : Fin 2048) :
    val_main_v3 (F := Ideal) X W (ix2 i j) = ∑ k : Fin 8192, X (ix2 i k) * W (ix3 0 k j) := by
  pointwise [val_main_v3, val_main_v2, val_main_v1, val_main_v0]

theorem sum_at (X : Vec Ideal S8320x8192 .bf16) (W : Vec Ideal S2x8192x2048 .f32) (g : Vec Ideal S2x2048 .f32)
    (r : Vec Ideal S8320x2048 .f32) (i : Fin 8320) (j : Fin 2048) :
    val_main_v19 (F := Ideal) X W g r (ix2 i j)
    = r (ix2 i j) + rmsNorm (fun l => val_main_v3 (F := Ideal) X W (ix2 i l)) (fun l => g (ix2 0 l)) j := by
  unfold val_main_v19 val_main_v18 val_main_v15 val_main_v14 val_main_v13 val_main_v12 val_main_v10 val_main_v8 val_main_v7 val_main_v6
  generalize val_main_v3 (F := Ideal) X W = D
  unfold rmsNorm
  pointwise [val_main_v17, val_main_v16, val_main_v5, val_main_v4, val_main_v11, val_main_v9, val_main_cst, val_main_cst_0, val_main_cst_1]

theorem next_at (X : Vec Ideal S8320x8192 .bf16) (W : Vec Ideal S2x8192x2048 .f32) (g : Vec Ideal S2x2048 .f32)
    (r : Vec Ideal S8320x2048 .f32) (n : Vec Ideal S2x2048 .f32) (i : Fin 8320) (j : Fin 2048) :
    val_main_v35 (F := Ideal) X W g r n (ix2 i j)
    = rmsNorm (fun l => val_main_v19 (F := Ideal) X W g r (ix2 i l)) (fun l => n (ix2 1 l)) j := by
  unfold val_main_v35 val_main_v34 val_main_v31 val_main_v30 val_main_v29 val_main_v28 val_main_v26 val_main_v24 val_main_v23 val_main_v22
  generalize val_main_v19 (F := Ideal) X W g r = D
  unfold rmsNorm
  pointwise [val_main_v33, val_main_v32, val_main_v21, val_main_v20, val_main_v27, val_main_v25, val_main_cst_2, val_main_cst_3, val_main_cst_4]

/-! ## The body -/

/-- What one block of lanes adds to an entry. -/
def part (x0 : Vec Ideal S640x2048 .bf16) (x1 : Vec Ideal S1x2048x2048 .bf16) (a : Fin 640) (b : Fin 2048) : EReal :=
  ∑ k : Fin 2048, x0 (ix2 a k) * x1 (ix3 0 k b)

/-- One row of the first output's block, from the sum `s` of the first three blocks of lanes. -/
def row (s : Vec Ideal S640x2048 .f32) (x0 : Vec Ideal S640x2048 .bf16) (x1 : Vec Ideal S1x2048x2048 .bf16) (x2 : Vec Ideal S1x2048 .f32)
    (x3 : Vec Ideal S640x2048 .f32) (a : Fin 640) (b : Fin 2048) : EReal :=
  x3 (ix2 a b) + rmsNorm (fun l => s (ix2 a l) + part x0 x1 a l) (fun l => x2 (ix2 0 l)) b

theorem pay1_at (j) : k0_pay1 (F := Ideal) j = 0 := by
  pointwise [k0_pay1]

theorem pay2_at (s : Vec Ideal S640x2048 .f32) (x0 : Vec Ideal S640x2048 .bf16) (x1 : Vec Ideal S1x2048x2048 .bf16) (a : Fin 640) (b : Fin 2048) :
    k0_pay2 (F := Ideal) s x0 x1 (ix2 a b) = s (ix2 a b) + part x0 x1 a b := by
  unfold part
  pointwise [k0_pay2]

theorem pay4_at (s : Vec Ideal S320x2048 .f32) (v0 : Vec Ideal S320x2048 .bf16) (v1 : Vec Ideal S1x2048x2048 .bf16)
    (v4 : Vec Ideal S320x2048 .f32) (v5 : Vec Ideal S1x2048 .f32) (a : Fin 320) (b : Fin 2048) :
    k0_pay4 (F := Ideal) s v0 v1 v4 v5 (ix2 a b)
    = v4 (ix2 a b) + rmsNorm (fun l => s (ix2 a l) + ∑ k : Fin 2048, v0 (ix2 a k) * v1 (ix3 0 k l)) (fun l => v5 (ix2 0 l)) b := by
  unfold rmsNorm
  pointwise [k0_pay4]

theorem pay6_at (s : Vec Ideal S320x2048 .f32) (v0 : Vec Ideal S320x2048 .bf16) (v1 : Vec Ideal S1x2048x2048 .bf16)
    (v4 : Vec Ideal S320x2048 .f32) (v5 v6 : Vec Ideal S1x2048 .f32) (a : Fin 320) (b : Fin 2048) :
    k0_pay6 (F := Ideal) (k0_pay5 (F := Ideal) s v0 v1 v4 v5 v6) (ix2 a b)
    = rmsNorm (fun l => k0_pay4 (F := Ideal) s v0 v1 v4 v5 (ix2 a l)) (fun l => v6 (ix2 0 l)) b := by
  unfold k0_pay5
  generalize k0_pay4 (F := Ideal) s v0 v1 v4 v5 = Z
  unfold rmsNorm
  pointwise [k0_pay6]

/-- One half of the block: the rows it loads are the block's rows from some row on. -/
theorem half1 (s : Vec Ideal S640x2048 .f32) (x0 : Vec Ideal S640x2048 .bf16) (x1 : Vec Ideal S1x2048x2048 .bf16) (x2 : Vec Ideal S1x2048 .f32)
    (x3 : Vec Ideal S640x2048 .f32)
    (vs : Vec Ideal S320x2048 .f32) (v0 : Vec Ideal S320x2048 .bf16) (v4 : Vec Ideal S320x2048 .f32) (a : Fin 640) (a' : Fin 320) (b : Fin 2048)
    (es : ∀ k : Fin 2048, vs (ix2 a' k) = s (ix2 a k))
    (e0 : ∀ k : Fin 2048, v0 (ix2 a' k) = x0 (ix2 a k)) (e3 : ∀ k : Fin 2048, v4 (ix2 a' k) = x3 (ix2 a k)) :
    k0_pay4 (F := Ideal) vs v0 x1 v4 x2 (ix2 a' b) = row s x0 x1 x2 x3 a b := by
  rw [pay4_at, row, e3]
  simp only [e0, es, part]

theorem half2 (s : Vec Ideal S640x2048 .f32) (x0 : Vec Ideal S640x2048 .bf16) (x1 : Vec Ideal S1x2048x2048 .bf16) (x2 : Vec Ideal S1x2048 .f32)
    (x3 : Vec Ideal S640x2048 .f32) (x4 : Vec Ideal S1x2048 .f32)
    (vs : Vec Ideal S320x2048 .f32) (v0 : Vec Ideal S320x2048 .bf16) (v4 : Vec Ideal S320x2048 .f32) (a : Fin 640) (a' : Fin 320) (b : Fin 2048)
    (es : ∀ k : Fin 2048, vs (ix2 a' k) = s (ix2 a k))
    (e0 : ∀ k : Fin 2048, v0 (ix2 a' k) = x0 (ix2 a k)) (e3 : ∀ k : Fin 2048, v4 (ix2 a' k) = x3 (ix2 a k)) :
    k0_pay6 (F := Ideal) (k0_pay5 (F := Ideal) vs v0 x1 v4 x2 x4) (ix2 a' b)
    = rmsNorm (fun l => row s x0 x1 x2 x3 a l) (fun l => x4 (ix2 0 l)) b := by
  rw [pay6_at]
  simp only [half1 s x0 x1 x2 x3 vs v0 v4 a a' _ es e0 e3]

/-- The scratch array after the first block of lanes, and after the second and the third. -/
theorem scr_A (c : Dev nD) (t : Fin cfg0.N) (h : t.val % 4 = 0) (a : Fin 640) (b : Fin 2048) :
    (outsAt0 m c t.val t.isLt).2.2 (ix2 a b) = part (iblk m c 0 t) (iblk m c 1 t) a b := by
  rw [outsAt0_A m c t h (by omega) (by omega)]; frame_out
  refine (pay2_at _ (iblk m c 0 t) (iblk m c 1 t) a b).trans ?_
  rw [pay1_at, zero_add]

theorem scr_B (c : Dev nD) (t : Fin cfg0.N) (h0 : ¬ t.val % 4 = 0) (h1 : t.val % 4 ≤ 2) (a : Fin 640) (b : Fin 2048) :
    (outsAt0 m c t.val t.isLt).2.2 (ix2 a b)
    = (outsAt0 m c (t.val - 1) (Nat.lt_of_le_of_lt (Nat.sub_le _ _) t.isLt)).2.2 (ix2 a b) + part (iblk m c 0 t) (iblk m c 1 t) a b := by
  rw [outsAt0_B m c t h0 h1 (by omega)]; frame_out
  rw [read_unread_whole]
  exact pay2_at _ (iblk m c 0 t) (iblk m c 1 t) a b

/-- The second half's arithmetic is the first's, printed in parts. -/
theorem second_eq (s : Vec Ideal S320x2048 .f32) (v0 : Vec Ideal S320x2048 .bf16) (v1 : Vec Ideal S1x2048x2048 .bf16)
    (v4 : Vec Ideal S320x2048 .f32) (v5 v6 : Vec Ideal S1x2048 .f32) :
    k0_pay3 (F := Ideal) (k0_pay7 (F := Ideal) s v0 v1 v4 v5) (k0_pay8 (F := Ideal) v6) (k0_pay9 (F := Ideal) s v0 v1 v4 v5)
    = k0_pay6 (F := Ideal) (k0_pay5 (F := Ideal) s v0 v1 v4 v5 v6) := rfl

theorem out5 (c : Dev nD) (t : Fin cfg0.N) (h : t.val % 4 = 3) (a : Fin 640) (b : Fin 2048) :
    (outsAt0 m c t.val t.isLt).1 (ix2 a b)
    = row (outsAt0 m c (t.val - 1) (Nat.lt_of_le_of_lt (Nat.sub_le _ _) t.isLt)).2.2 (iblk m c 0 t) (iblk m c 1 t) (iblk m c 2 t) (iblk m c 3 t) a b := by
  rw [outsAt0_C m c t (by omega) (by omega) h]; frame_out
  rw [read_unread_whole]
  generalize (outsAt0 m c (t.val - 1) (Nat.lt_of_le_of_lt (Nat.sub_le _ _) t.isLt)).2.2 = s
  generalize (iblk m c 0 t) = x0
  generalize (iblk m c 1 t) = x1
  generalize (iblk m c 2 t) = x2
  generalize (iblk m c 3 t) = x3
  canon_tiles x h
  all_goals
    obtain ⟨a', b', rfl⟩ : ∃ (a' : Fin 320) (b' : Fin 2048), x = ix2 a' b' := ⟨x 0, x 1, eq_ix2 x⟩
    obtain rfl : b = b' := Fin.ext h1
  · exact half1 s x0 x1 x2 x3 _ _ _ a a' b (fun k => ld_rows s 320 _ a a' k h0) (fun k => ld_rows x0 320 _ a a' k h0) (fun k => ld_rows x3 320 _ a a' k h0)
  · have h0 := h0.trans (Nat.zero_add _).symm
    exact half1 s x0 x1 x2 x3 _ _ _ a a' b (fun k => ld_rows s 0 _ a a' k h0) (fun k => ld_rows x0 0 _ a a' k h0) (fun k => ld_rows x3 0 _ a a' k h0)

theorem out6 (c : Dev nD) (t : Fin cfg0.N) (h : t.val % 4 = 3) (a : Fin 640) (b : Fin 2048) :
    (outsAt0 m c t.val t.isLt).2.1 (ix2 a b)
    = rmsNorm (fun l => row (outsAt0 m c (t.val - 1) (Nat.lt_of_le_of_lt (Nat.sub_le _ _) t.isLt)).2.2 (iblk m c 0 t) (iblk m c 1 t)
        (iblk m c 2 t) (iblk m c 3 t) a l) (fun l => (show Vec Ideal S1x2048 .f32 from iblk m c 4 t) (ix2 0 l)) b := by
  rw [outsAt0_C m c t (by omega) (by omega) h]; frame_out
  rw [read_unread_whole]
  generalize (outsAt0 m c (t.val - 1) (Nat.lt_of_le_of_lt (Nat.sub_le _ _) t.isLt)).2.2 = s
  generalize (iblk m c 0 t) = x0
  generalize (iblk m c 1 t) = x1
  generalize (iblk m c 2 t) = x2
  generalize (iblk m c 3 t) = x3
  generalize (iblk m c 4 t) = x4
  rw [second_eq]
  canon_tiles x h
  all_goals
    obtain ⟨a', b', rfl⟩ : ∃ (a' : Fin 320) (b' : Fin 2048), x = ix2 a' b' := ⟨x 0, x 1, eq_ix2 x⟩
    obtain rfl : b = b' := Fin.ext h1
  · exact half2 s x0 x1 x2 x3 x4 _ _ _ a a' b (fun k => ld_rows s 320 _ a a' k h0) (fun k => ld_rows x0 320 _ a a' k h0) (fun k => ld_rows x3 320 _ a a' k h0)
  · have h0 := h0.trans (Nat.zero_add _).symm
    exact half2 s x0 x1 x2 x3 x4 _ _ _ a a' b (fun k => ld_rows s 0 _ a a' k h0) (fun k => ld_rows x0 0 _ a a' k h0) (fun k => ld_rows x3 0 _ a a' k h0)

/-! ## The points -/

/-- One block of lanes of a row, read off the arguments. -/
theorem part_at (c : Dev nD) (t : Fin cfg0.N) (a : Fin 640) (b : Fin 2048) (i : Fin 8320) (q : Fin 4) (hi : (i : ℕ) = t.val / 4 * 640 + a)
    (hq : t.val % 4 = q) :
    part (iblk m c 0 t) (iblk m c 1 t) a b
    = ∑ k : Fin 2048, (show Vec Ideal S8320x8192 .bf16 from m ((c : Thread nD τ).loc main_arg0)) (ix2 i ⟨q * 2048 + k, by omega⟩)
        * (show Vec Ideal S2x8192x2048 .f32 from m ((c : Thread nD τ).loc main_arg1)) (ix3 0 ⟨q * 2048 + k, by omega⟩ b) := by
  unfold part
  blk_point [iblk, V, idx t]

/-- The four blocks of lanes together are the reference's contraction. -/
theorem sum_parts (c : Dev nD) (t : Fin cfg0.N) (h : t.val % 4 = 3) (a : Fin 640) (b : Fin 2048) (i : Fin 8320)
    (hi : (i : ℕ) = t.val / 4 * 640 + a) :
    (outsAt0 m c (t.val - 1) (Nat.lt_of_le_of_lt (Nat.sub_le _ _) t.isLt)).2.2 (ix2 a b) + part (iblk m c 0 t) (iblk m c 1 t) a b
    = val_main_v3 (F := Ideal) (m ((c : Thread nD τ).loc main_arg0)) (m ((c : Thread nD τ).loc main_arg1)) (ix2 i b) := by
  have hlt : ∀ s, t.val - s < cfg0.N := fun s => Nat.lt_of_le_of_lt (Nat.sub_le _ _) t.isLt
  have e1 := scr_B m c ⟨t.val - 1, hlt 1⟩ (by simp only; omega) (by simp only; omega) a b
  have e2 := scr_B m c ⟨t.val - 1 - 1, hlt 2⟩ (by simp only; omega) (by simp only; omega) a b
  have e3 := scr_A m c ⟨t.val - 1 - 1 - 1, hlt 3⟩ (by simp only; omega) a b
  have p0 := part_at m c ⟨t.val - 1 - 1 - 1, hlt 3⟩ a b i 0 (by simp only; omega) (by simp only [Fin.val_zero]; omega)
  have p1 := part_at m c ⟨t.val - 1 - 1, hlt 2⟩ a b i 1 (by simp only; omega) (by simp only [Fin.val_one]; omega)
  have p2 := part_at m c ⟨t.val - 1, hlt 1⟩ a b i 2 (by simp only; omega) (by simp only [Fin.val_two]; omega)
  have p3 := part_at m c t a b i 3 hi h
  dsimp only at e1 e2 e3
  rw [e1, e2, e3, p0, p1, p2, p3, dot_at, ← Fin.sum_univ_four (fun q : Fin 4 => ∑ k : Fin 2048,
    (show Vec Ideal S8320x8192 .bf16 from m ((c : Thread nD τ).loc main_arg0)) (ix2 i ⟨q * 2048 + k, by omega⟩)
        * (show Vec Ideal S2x8192x2048 .f32 from m ((c : Thread nD τ).loc main_arg1)) (ix3 0 ⟨q * 2048 + k, by omega⟩ b))]
  exact Fin.sum_mul_add_congr fun q k hl => rfl

/-- A row of the point that ends a run is the reference's row. -/
theorem row_at (c : Dev nD) (t : Fin cfg0.N) (h : t.val % 4 = 3) (a : Fin 640) (b : Fin 2048) (i : Fin 8320)
    (hi : (i : ℕ) = t.val / 4 * 640 + a) :
    row (outsAt0 m c (t.val - 1) (Nat.lt_of_le_of_lt (Nat.sub_le _ _) t.isLt)).2.2 (iblk m c 0 t) (iblk m c 1 t) (iblk m c 2 t) (iblk m c 3 t) a b
    = val_main_v19 (F := Ideal) (m ((c : Thread nD τ).loc main_arg0)) (m ((c : Thread nD τ).loc main_arg1))
        (m ((c : Thread nD τ).loc main_arg2)) (m ((c : Thread nD τ).loc main_arg3)) (ix2 i b) := by
  rw [sum_at, row]
  refine congrArg₂ (· + ·) ?_ (norm_congr (fun l => sum_parts m c t h a l i hi) (fun l => ?_) rfl)
  · blk_ext [iblk, V, idx t]
  · blk_point [iblk, V, idx t]

theorem point5 (c : Dev nD) (t : Fin cfg0.N) (h : t.val % 4 = 3) (y : S640x2048.Idx) (i : S8320x2048.Idx)
    (hi0 : (i 0 : ℕ) = t.val / 4 * 640 + y 0) (hi1 : (i 1 : ℕ) = y 1) :
    (outsAt0 m c t.val t.isLt).1 y
    = val_main_v19 (F := Ideal) (m ((c : Thread nD τ).loc main_arg0)) (m ((c : Thread nD τ).loc main_arg1))
        (m ((c : Thread nD τ).loc main_arg2)) (m ((c : Thread nD τ).loc main_arg3)) i := by
  obtain ⟨a, b, rfl⟩ : ∃ (a : Fin 640) (b : Fin 2048), y = ix2 a b := ⟨y 0, y 1, eq_ix2 y⟩
  obtain ⟨i, j, rfl⟩ : ∃ (i' : Fin 8320) (j : Fin 2048), i = ix2 i' j := ⟨i 0, i 1, eq_ix2 i⟩
  obtain rfl : j = b := Fin.ext hi1
  exact (out5 m c t h a j).trans (row_at m c t h a j i hi0)

theorem point6 (c : Dev nD) (t : Fin cfg0.N) (h : t.val % 4 = 3) (y : S640x2048.Idx) (i : S8320x2048.Idx)
    (hi0 : (i 0 : ℕ) = t.val / 4 * 640 + y 0) (hi1 : (i 1 : ℕ) = y 1) :
    (outsAt0 m c t.val t.isLt).2.1 y
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) i := by
  obtain ⟨a, b, rfl⟩ : ∃ (a : Fin 640) (b : Fin 2048), y = ix2 a b := ⟨y 0, y 1, eq_ix2 y⟩
  obtain ⟨i, j, rfl⟩ : ∃ (i' : Fin 8320) (j : Fin 2048), i = ix2 i' j := ⟨i 0, i 1, eq_ix2 i⟩
  obtain rfl : j = b := Fin.ext hi1
  refine (out6 m c t h a j).trans ?_
  rw [next_at]
  exact norm_congr (fun l => row_at m c t h a l i hi0) (fun l => by blk_point [iblk, V, idx t]) rfl

theorem final_sum (c : Dev nD) : (dats m 0 c).arrAt 5 (cfgs 0).N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  exact point5 m c t ((flush0_5 t).mp hf) _ _ (by blk_simp [idx t] <;> omega) (by blk_simp [idx t] <;> omega)

theorem final_next (c : Dev nD) : (dats m 0 c).arrAt 6 (cfgs 0).N
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  exact point6 m c t ((flush0_6 t).mp hf) _ _ (by blk_simp [idx t] <;> omega) (by blk_simp [idx t] <;> omega)

end Cert.DownIdeal.Value

end
-- ==== Proof.Win.lean ====
/- The input projection `h · w_in` of one layer: the tiled kernel's result array is the plain product. -/
module

public import proofs.«01_k».proof.Proof.Gen.WinIdeal.Frame
public import proofs.«01_k».proof.Proof.Gen.WinRefIdeal.Read
public import Idealize.ShloMosaic.Lib.Pipeline.ValueKit

@[expose] public section

set_option maxRecDepth 16384

noncomputable section

namespace Cert.WinIdeal.Value

open Cert.WinIdeal Cert.WinIdeal.Gen Idealize.ShloMosaic Idealize.ShloMosaic.TcCoe
open Cert.WinRefIdeal.Read (val_main_v0 val_main_v1 val_main_v2 val_main_v3 val_main_v4)

variable (m : (ℓ : Loc nD τ sig) → Buf (Elt Ideal) ℓ)

/-- The plain product of the activations with layer 0's weights, as the reference computes it. -/
abbrev product (x : FVec Ideal S8320x2048 .bf16) (w : FVec Ideal S2x2048x8192 .bf16) : FVec Ideal S8320x8192 .f32 :=
  val_main_v4 (F := Ideal) x w

/-- The windows' block indices at every grid point: eight row tiles per column tile. -/
theorem idx : ∀ t : Fin cfg0.N, win0_0.index t = ![t.val % 8, 0]
    ∧ win0_1.index t = ![0, 0, t.val / 8] ∧ win0_2.index t = ![t.val % 8, t.val / 8] :=
  (by decide +kernel : ∀ t : Fin grid0.N, _)

/-- What the body stores at index `y` of its block is the product at the place of `y` in the array. -/
theorem point (c : Dev nD) (t : Fin cfg0.N) (y) : k0_pay1 (iblk m c 1 t) (iblk m c 0 t) y
    = product (m ((c : Thread nD τ).loc main_arg0)) (m ((c : Thread nD τ).loc main_arg1))
      (((cfg0.win 2).blk t).view.emb y) := by
  pointwise [k0_pay1, product, val_main_v4, val_main_v3, val_main_v2, val_main_v1, val_main_v0]
  blk_point [iblk, V, idx t]

/-- The result array after the run is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.WinIdeal.Value

end
-- ==== Proof.Wxq.lean ====
/- The query projection of one layer's cross-attention: the tiled kernel's result array is the plain product. -/
module

public import proofs.«01_k».proof.Proof.Gen.WxqIdeal.Frame
public import proofs.«01_k».proof.Proof.Gen.WxqRefIdeal.Read
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.WxqIdeal.Value

open Cert.WxqIdeal Cert.WxqIdeal.Gen Idealize.ShloMosaic Idealize.ShloMosaic.TcCoe
open Cert.WxqRefIdeal.Read (val_main_v0 val_main_v1 val_main_v2 val_main_v3 val_main_v4)

variable (m : (ℓ : Loc nD τ sig) → Buf (Elt Ideal) ℓ)

/-- The activations' product with layer 0's weights, as the reference computes it. -/
abbrev product (x : FVec Ideal S8320x2048 .bf16) (w : FVec Ideal S2x2048x2048 .f32) : FVec Ideal S8320x2048 .bf16 :=
  val_main_v4 (F := Ideal) x w

/-- The windows' block indices at every grid point: eight row tiles per column tile. -/
theorem idx : ∀ t : Fin cfg0.N, win0_0.index t = ![t.val % 8, 0]
    ∧ win0_1.index t = ![0, 0, t.val / 8] ∧ win0_2.index t = ![t.val % 8, t.val / 8] :=
  (by decide +kernel : ∀ t : Fin grid0.N, _)

/-- Two points of the same run of eight stage the same column tile of the weights, and so copy the same. -/
theorem copy_congr (c : Dev nD) (t t' : Fin cfg0.N) (h : t.val / 8 = t'.val / 8) :
    k0_pay1 (F := Ideal) (iblk m c 1 t) = k0_pay1 (F := Ideal) (iblk m c 1 t') := by
  funext y
  pointwise [k0_pay1]
  blk_point [iblk, V, idx t, idx t', h]

/-- The scratch after every point holds the copy of that point's own column tile: the run's first point writes it, the
    others carry it. -/
theorem held (c : Dev nD) (t : Fin cfg0.N) : (outsAt0 m c t.val t.isLt).2 = k0_pay1 (F := Ideal) (iblk m c 1 t) :=
  (Pipeline.eq_of_write_hold (fun n h => (outsAt0 m c n h).2) 8 (fun t => k0_pay1 (F := Ideal) (iblk m c 1 t))
    (fun t h => by rw [outsAt0_A m c t h]; frame_out)
    (fun t h => by rw [outsAt0_B m c t h]; rfl) t).trans (copy_congr m c _ t (by simp))

/-- What the body leaves in its block: its payload over the copied weights and the row tile. -/
theorem body (c : Dev nD) (t : Fin cfg0.N) :
    (outsAt0 m c t.val t.isLt).1 = k0_pay2 (F := Ideal) (k0_pay1 (F := Ideal) (iblk m c 1 t)) (iblk m c 0 t) := by
  by_cases h : t.val % 8 = 0
  · rw [outsAt0_A m c t h]; frame_out
  · have hp : (outsAt0 m c (t.val - 1) (Nat.lt_of_le_of_lt (Nat.sub_le _ _) t.isLt)).2 = k0_pay1 (F := Ideal) (iblk m c 1 t) :=
      (held m c ⟨t.val - 1, Nat.lt_of_le_of_lt (Nat.sub_le _ _) t.isLt⟩).trans (copy_congr m c _ t (by simp only; omega))
    rw [outsAt0_B m c t h]; frame_out
    rw [hp, read_unread_whole]

/-- What the body stores at index `y` of its block is the reference's value at the place of `y` in the array. -/
theorem point (c : Dev nD) (t : Fin cfg0.N) (y) :
    k0_pay2 (F := Ideal) (k0_pay1 (F := Ideal) (iblk m c 1 t)) (iblk m c 0 t) y
    = product (m ((c : Thread nD τ).loc main_arg0)) (m ((c : Thread nD τ).loc main_arg1))
      (((cfg0.win 2).blk t).view.emb y) := by
  pointwise [k0_pay2, k0_pay1, product, val_main_v4, val_main_v3, val_main_v2, val_main_v1, val_main_v0]
  blk_point [iblk, V, idx t]

/-- The result array after the run is the reference's value. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2, body]
  exact point m c t y

end Cert.WxqIdeal.Value

end
-- ==== Proof.Wout.lean ====
module

public import proofs.«01_k».proof.Proof.Gen.WoutIdeal.Frame
public import proofs.«01_k».proof.Proof.Gen.WoutRefIdeal.Read
public import Idealize.ShloMosaic.Lib.Pipeline.ValueKit
public import proofs.«01_k».proof.Proof.NormRow

/-!
The contraction of a mixer's output, its norm, the residual and the next layer's norm: the two arrays after the run of
the idealized kernel are the reference's two values.
-/

@[expose] public section

set_option maxRecDepth 16384

noncomputable section

namespace Cert.WoutIdeal.Value

open Cert.WoutIdeal Cert.WoutIdeal.Gen Cert.NormRow
open Idealize.ShloMosaic Idealize.ShloMosaic.TcCoe
open Cert.WoutRefIdeal.Read

variable (m : (ℓ : Loc nD τ sig) → Buf (Elt Ideal) ℓ)

/-- Each window's block at a grid point. -/
theorem idx : ∀ t : Fin cfg0.N, win0_0.index t = ![t.val, 0] ∧ win0_1.index t = ![0, 0, 0]
    ∧ win0_2.index t = ![0, 0] ∧ win0_4.index t = ![0, 0] ∧ win0_3.index t = ![t.val, 0] ∧ win0_5.index t = ![t.val, 0]
    ∧ win0_6.index t = ![t.val, 0] := (by decide +kernel : ∀ t : Fin grid0.N, _)

/-! ## The reference, from one row of its contraction -/

theorem dot_at (X : Vec Ideal S8320x2048 .bf16) (W : Vec Ideal S2x2048x2048 .f32) (i : Fin 8320) (j : Fin 2048) :
    val_main_v3 (F := Ideal) X W (ix2 i j) = ∑ k : Fin 2048, X (ix2 i k) * W (ix3 0 k j) := by
  pointwise [val_main_v3, val_main_v2, val_main_v1, val_main_v0]

theorem sum_at (X : Vec Ideal S8320x2048 .bf16) (W : Vec Ideal S2x2048x2048 .f32) (g : Vec Ideal S2x2048 .f32)
    (r : Vec Ideal S8320x2048 .f32) (i : Fin 8320) (j : Fin 2048) :
    val_main_v19 (F := Ideal) X W g r (ix2 i j)
    = r (ix2 i j) + rmsNorm (fun l => val_main_v3 (F := Ideal) X W (ix2 i l)) (fun l => g (ix2 0 l)) j := by
  unfold val_main_v19 val_main_v18 val_main_v15 val_main_v14 val_main_v13 val_main_v12 val_main_v10 val_main_v8 val_main_v7 val_main_v6
  generalize val_main_v3 (F := Ideal) X W = D
  unfold rmsNorm
  pointwise [val_main_v17, val_main_v16, val_main_v5, val_main_v4, val_main_v11, val_main_v9, val_main_cst, val_main_cst_0, val_main_cst_1]

theorem next_at (X : Vec Ideal S8320x2048 .bf16) (W : Vec Ideal S2x2048x2048 .f32) (g : Vec Ideal S2x2048 .f32)
    (r : Vec Ideal S8320x2048 .f32) (n : Vec Ideal S2x2048 .f32) (i : Fin 8320) (j : Fin 2048) :
    val_main_v35 (F := Ideal) X W g r n (ix2 i j)
    = rmsNorm (fun l => val_main_v19 (F := Ideal) X W g r (ix2 i l)) (fun l => n (ix2 0 l)) j := by
  unfold val_main_v35 val_main_v34 val_main_v31 val_main_v30 val_main_v29 val_main_v28 val_main_v26 val_main_v24 val_main_v23 val_main_v22
  generalize val_main_v19 (F := Ideal) X W g r = D
  unfold rmsNorm
  pointwise [val_main_v33, val_main_v32, val_main_v21, val_main_v20, val_main_v27, val_main_v25, val_main_cst_2, val_main_cst_3, val_main_cst_4]

/-! ## The body -/

/-- One row of the first output's block. -/
def row (x0 : Vec Ideal S640x2048 .bf16) (x1 : Vec Ideal S1x2048x2048 .bf16) (x2 : Vec Ideal S1x2048 .f32) (x3 : Vec Ideal S640x2048 .f32)
    (a : Fin 640) (b : Fin 2048) : EReal :=
  x3 (ix2 a b) + rmsNorm (fun l => ∑ k : Fin 2048, x0 (ix2 a k) * x1 (ix3 0 k l)) (fun l => x2 (ix2 0 l)) b

theorem pay1_at (v0 : Vec Ideal S320x2048 .bf16) (v1 : Vec Ideal S1x2048x2048 .bf16) (v4 : Vec Ideal S320x2048 .f32)
    (v5 : Vec Ideal S1x2048 .f32) (a : Fin 320) (b : Fin 2048) :
    k0_pay1 (F := Ideal) v0 v1 v4 v5 (ix2 a b)
    = v4 (ix2 a b) + rmsNorm (fun l => ∑ k : Fin 2048, v0 (ix2 a k) * v1 (ix3 0 k l)) (fun l => v5 (ix2 0 l)) b := by
  unfold rmsNorm
  pointwise [k0_pay1]

theorem pay2_at (v0 : Vec Ideal S320x2048 .bf16) (v1 : Vec Ideal S1x2048x2048 .bf16) (v4 : Vec Ideal S320x2048 .f32)
    (v5 v6 : Vec Ideal S1x2048 .f32) (a : Fin 320) (b : Fin 2048) :
    k0_pay2 (F := Ideal) v0 v1 v4 v5 v6 (ix2 a b)
    = rmsNorm (fun l => k0_pay1 (F := Ideal) v0 v1 v4 v5 (ix2 a l)) (fun l => v6 (ix2 0 l)) b := by
  unfold k0_pay2
  generalize k0_pay1 (F := Ideal) v0 v1 v4 v5 = Z
  unfold rmsNorm
  pointwise []

/-- One half of the block: the rows it loads are the block's rows from some row on. -/
theorem half1 (x0 : Vec Ideal S640x2048 .bf16) (x1 : Vec Ideal S1x2048x2048 .bf16) (x2 : Vec Ideal S1x2048 .f32) (x3 : Vec Ideal S640x2048 .f32)
    (v0 : Vec Ideal S320x2048 .bf16) (v4 : Vec Ideal S320x2048 .f32) (a : Fin 640) (a' : Fin 320) (b : Fin 2048)
    (e0 : ∀ k : Fin 2048, v0 (ix2 a' k) = x0 (ix2 a k)) (e3 : ∀ k : Fin 2048, v4 (ix2 a' k) = x3 (ix2 a k)) :
    k0_pay1 (F := Ideal) v0 x1 v4 x2 (ix2 a' b) = row x0 x1 x2 x3 a b := by
  rw [pay1_at, row, e3]
  simp only [e0]

theorem half2 (x0 : Vec Ideal S640x2048 .bf16) (x1 : Vec Ideal S1x2048x2048 .bf16) (x2 : Vec Ideal S1x2048 .f32) (x3 : Vec Ideal S640x2048 .f32)
    (x4 : Vec Ideal S1x2048 .f32)
    (v0 : Vec Ideal S320x2048 .bf16) (v4 : Vec Ideal S320x2048 .f32) (a : Fin 640) (a' : Fin 320) (b : Fin 2048)
    (e0 : ∀ k : Fin 2048, v0 (ix2 a' k) = x0 (ix2 a k)) (e3 : ∀ k : Fin 2048, v4 (ix2 a' k) = x3 (ix2 a k)) :
    k0_pay2 (F := Ideal) v0 x1 v4 x2 x4 (ix2 a' b)
    = rmsNorm (fun l => row x0 x1 x2 x3 a l) (fun l => x4 (ix2 0 l)) b := by
  rw [pay2_at]
  simp only [half1 x0 x1 x2 x3 v0 v4 a a' _ e0 e3]

theorem ld_whole1 (x1 : Vec Ideal S1x2048x2048 .bf16) : View.ld x1 r0_1 = x1 := by
  exact View.ld_unit_zero (by decide) _ x1

theorem ld_whole2 (x2 : Vec Ideal S1x2048 .f32) : View.ld x2 r0_2 = x2 := by
  exact View.ld_unit_zero (by decide) _ x2

theorem out5 (x0 : Vec Ideal S640x2048 .bf16) (x1 : Vec Ideal S1x2048x2048 .bf16) (x2 : Vec Ideal S1x2048 .f32) (x3 : Vec Ideal S640x2048 .f32)
    (x4 : Vec Ideal S1x2048 .f32) (a : Fin 640) (b : Fin 2048) :
    out0_5 (F := Ideal) x0 x1 x2 x3 x4 (ix2 a b) = row x0 x1 x2 x3 a b := by
  unfold out0_5
  rw [ld_whole1, ld_whole2]
  canon_tiles x h
  all_goals
    obtain ⟨a', b', rfl⟩ : ∃ (a' : Fin 320) (b' : Fin 2048), x = ix2 a' b' := ⟨x 0, x 1, eq_ix2 x⟩
    obtain rfl : b = b' := Fin.ext h1
  · exact half1 x0 x1 x2 x3 (View.ld x0 r0_3) (View.ld x3 r0_3) a a' b
      (fun k => ld_rows x0 320 _ a a' k h0) (fun k => ld_rows x3 320 _ a a' k h0)
  · exact half1 x0 x1 x2 x3 (View.ld x0 r0_0) (View.ld x3 r0_0) a a' b
      (fun k => ld_rows x0 0 _ a a' k (h0.trans (Nat.zero_add _).symm)) (fun k => ld_rows x3 0 _ a a' k (h0.trans (Nat.zero_add _).symm))

theorem out6 (x0 : Vec Ideal S640x2048 .bf16) (x1 : Vec Ideal S1x2048x2048 .bf16) (x2 : Vec Ideal S1x2048 .f32) (x3 : Vec Ideal S640x2048 .f32)
    (x4 : Vec Ideal S1x2048 .f32) (a : Fin 640) (b : Fin 2048) :
    out0_6 (F := Ideal) x0 x1 x2 x3 x4 (ix2 a b) = rmsNorm (fun l => row x0 x1 x2 x3 a l) (fun l => x4 (ix2 0 l)) b := by
  unfold out0_6
  rw [ld_whole1, ld_whole2, ld_whole2]
  canon_tiles x h
  all_goals
    obtain ⟨a', b', rfl⟩ : ∃ (a' : Fin 320) (b' : Fin 2048), x = ix2 a' b' := ⟨x 0, x 1, eq_ix2 x⟩
    obtain rfl : b = b' := Fin.ext h1
  · exact half2 x0 x1 x2 x3 x4 (View.ld x0 r0_3) (View.ld x3 r0_3) a a' b
      (fun k => ld_rows x0 320 _ a a' k h0) (fun k => ld_rows x3 320 _ a a' k h0)
  · exact half2 x0 x1 x2 x3 x4 (View.ld x0 r0_0) (View.ld x3 r0_0) a a' b
      (fun k => ld_rows x0 0 _ a a' k (h0.trans (Nat.zero_add _).symm)) (fun k => ld_rows x3 0 _ a a' k (h0.trans (Nat.zero_add _).symm))

/-! ## The points -/

/-- A row of a grid point's block is the reference's row. -/
theorem row_at (c : Dev nD) (t : Fin cfg0.N) (a : Fin 640) (b : Fin 2048) (i : Fin 8320) (hi : (i : ℕ) = t.val * 640 + a) :
    row (iblk m c 0 t) (iblk m c 1 t) (iblk m c 2 t) (iblk m c 3 t) a b
    = val_main_v19 (F := Ideal) (m ((c : Thread nD τ).loc main_arg0)) (m ((c : Thread nD τ).loc main_arg1))
        (m ((c : Thread nD τ).loc main_arg2)) (m ((c : Thread nD τ).loc main_arg3)) (ix2 i b) := by
  rw [sum_at, row]
  refine congrArg₂ (· + ·) ?_ (norm_congr (fun l => ?_) (fun l => ?_) rfl)
  · blk_ext [iblk, V, idx t]
  · rw [dot_at]; blk_point [iblk, V, idx t]
  · blk_point [iblk, V, idx t]

theorem point5 (c : Dev nD) (t : Fin cfg0.N) (y : S640x2048.Idx) (i : S8320x2048.Idx) (hi0 : (i 0 : ℕ) = t.val * 640 + y 0) (hi1 : (i 1 : ℕ) = y 1) :
    out0_5 (F := Ideal) (iblk m c 0 t) (iblk m c 1 t) (iblk m c 2 t) (iblk m c 3 t) (iblk m c 4 t) y
    = val_main_v19 (F := Ideal) (m ((c : Thread nD τ).loc main_arg0)) (m ((c : Thread nD τ).loc main_arg1))
        (m ((c : Thread nD τ).loc main_arg2)) (m ((c : Thread nD τ).loc main_arg3)) i := by
  obtain ⟨a, b, rfl⟩ : ∃ (a : Fin 640) (b : Fin 2048), y = ix2 a b := ⟨y 0, y 1, eq_ix2 y⟩
  obtain ⟨i, j, rfl⟩ : ∃ (i' : Fin 8320) (j : Fin 2048), i = ix2 i' j := ⟨i 0, i 1, eq_ix2 i⟩
  obtain rfl : j = b := Fin.ext hi1
  exact (out5 (iblk m c 0 t) (iblk m c 1 t) (iblk m c 2 t) (iblk m c 3 t) (iblk m c 4 t) a j).trans (row_at m c t a j i hi0)

theorem point6 (c : Dev nD) (t : Fin cfg0.N) (y : S640x2048.Idx) (i : S8320x2048.Idx) (hi0 : (i 0 : ℕ) = t.val * 640 + y 0) (hi1 : (i 1 : ℕ) = y 1) :
    out0_6 (F := Ideal) (iblk m c 0 t) (iblk m c 1 t) (iblk m c 2 t) (iblk m c 3 t) (iblk m c 4 t) y
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) i := by
  obtain ⟨a, b, rfl⟩ : ∃ (a : Fin 640) (b : Fin 2048), y = ix2 a b := ⟨y 0, y 1, eq_ix2 y⟩
  obtain ⟨i, j, rfl⟩ : ∃ (i' : Fin 8320) (j : Fin 2048), i = ix2 i' j := ⟨i 0, i 1, eq_ix2 i⟩
  obtain rfl : j = b := Fin.ext hi1
  refine (out6 (iblk m c 0 t) (iblk m c 1 t) (iblk m c 2 t) (iblk m c 3 t) (iblk m c 4 t) a j).trans ?_
  rw [next_at]
  exact norm_congr (fun l => row_at m c t a l i hi0) (fun l => by blk_point [iblk, V, idx t]) rfl

theorem final_sum (c : Dev nD) : (dats m 0 c).arrAt 5 (cfgs 0).N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  exact point5 m c t _ _ (by blk_simp [idx t] <;> omega) (by blk_simp [idx t] <;> omega)

theorem final_next (c : Dev nD) : (dats m 0 c).arrAt 6 (cfgs 0).N
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point6 m c t _ _ (by blk_simp [idx t] <;> omega) (by blk_simp [idx t] <;> omega)

end Cert.WoutIdeal.Value

end
-- ==== Proof.Last.lean ====
module

public import proofs.«01_k».proof.Proof.Gen.LastIdeal.Frame
public import proofs.«01_k».proof.Proof.Gen.LastRefIdeal.Read
public import Idealize.ShloMosaic.Lib.Pipeline.ValueKit
public import Idealize.ShloMosaic.Lib.Pipeline.ReadBack
public import proofs.«01_k».proof.Proof.NormRow
public import proofs.«01_k».proof.Proof.Down

/-!
The last layer's second feed-forward contraction, with no norm after it: the array after the run of the idealized kernel is
the reference's value, the model's first two results row by row.
-/

@[expose] public section

set_option maxRecDepth 16384

noncomputable section

namespace Cert.LastIdeal.Value

open Cert.LastIdeal Cert.LastIdeal.Gen Cert.NormRow
open Idealize.ShloMosaic Idealize.ShloMosaic.TcCoe
open Cert.LastRefIdeal.Read

variable (m : (ℓ : Loc nD τ sig) → Buf (Elt Ideal) ℓ)

/-- Each window's block at a grid point. -/
theorem idx : ∀ t : Fin cfg0.N, win0_0.index t = ![t.val / 4, t.val % 4] ∧ win0_1.index t = ![1, t.val % 4, 0]
    ∧ win0_2.index t = ![0, 0] ∧ win0_3.index t = ![t.val / 4, 0] ∧ win0_4.index t = ![t.val / 4, 0] := (by decide +kernel : ∀ t : Fin grid0.N, _)

/-! ## The reference, from one row of its contraction -/

theorem dot_at (X : Vec Ideal S8320x8192 .bf16) (W : Vec Ideal S2x8192x2048 .f32) (i : Fin 8320) (j : Fin 2048) :
    val_main_v3 (F := Ideal) X W (ix2 i j) = ∑ k : Fin 8192, X (ix2 i k) * W (ix3 1 k j) := by
  pointwise [val_main_v3, val_main_v2, val_main_v1, val_main_v0]

theorem sum_at (X : Vec Ideal S8320x8192 .bf16) (W : Vec Ideal S2x8192x2048 .f32) (g : Vec Ideal S2x2048 .f32)
    (r : Vec Ideal S8320x2048 .f32) (i : Fin 8320) (j : Fin 2048) :
    val_main_v19 (F := Ideal) X W g r (ix2 i j)
    = r (ix2 i j) + rmsNorm (fun l => val_main_v3 (F := Ideal) X W (ix2 i l)) (fun l => g (ix2 1 l)) j := by
  unfold val_main_v19 val_main_v18 val_main_v15 val_main_v14 val_main_v13 val_main_v12 val_main_v10 val_main_v8 val_main_v7 val_main_v6
  generalize val_main_v3 (F := Ideal) X W = D
  unfold rmsNorm
  pointwise [val_main_v17, val_main_v16, val_main_v5, val_main_v4, val_main_v11, val_main_v9, val_main_cst, val_main_cst_0, val_main_cst_1]

/-! ## The body: its arithmetic is that of the call with a next norm (Down.lean), up to its first result -/

open Cert.DownIdeal.Value (part row pay1_at pay2_at half1)

/-- The scratch array after the first block of lanes, and after the second and the third. -/
theorem scr_A (c : Dev nD) (t : Fin cfg0.N) (h : t.val % 4 = 0) (a : Fin 640) (b : Fin 2048) :
    (outsAt0 m c t.val t.isLt).2 (ix2 a b) = part (iblk m c 0 t) (iblk m c 1 t) a b := by
  rw [outsAt0_A m c t h (by omega) (by omega)]; frame_out
  refine (pay2_at _ (iblk m c 0 t) (iblk m c 1 t) a b).trans ?_
  exact (congrArg (· + _) (pay1_at (ix2 a b))).trans (zero_add _)

theorem scr_B (c : Dev nD) (t : Fin cfg0.N) (h0 : ¬ t.val % 4 = 0) (h1 : t.val % 4 ≤ 2) (a : Fin 640) (b : Fin 2048) :
    (outsAt0 m c t.val t.isLt).2 (ix2 a b)
    = (outsAt0 m c (t.val - 1) (Nat.lt_of_le_of_lt (Nat.sub_le _ _) t.isLt)).2 (ix2 a b) + part (iblk m c 0 t) (iblk m c 1 t) a b := by
  rw [outsAt0_B m c t h0 h1 (by omega)]; frame_out
  rw [read_unread_whole]
  exact pay2_at _ (iblk m c 0 t) (iblk m c 1 t) a b

theorem out4 (c : Dev nD) (t : Fin cfg0.N) (h : t.val % 4 = 3) (a : Fin 640) (b : Fin 2048) :
    (outsAt0 m c t.val t.isLt).1 (ix2 a b)
    = row (outsAt0 m c (t.val - 1) (Nat.lt_of_le_of_lt (Nat.sub_le _ _) t.isLt)).2 (iblk m c 0 t) (iblk m c 1 t) (iblk m c 2 t) (iblk m c 3 t) a b := by
  rw [outsAt0_C m c t (by omega) (by omega) h]; frame_out
  rw [read_unread_whole]
  generalize (outsAt0 m c (t.val - 1) (Nat.lt_of_le_of_lt (Nat.sub_le _ _) t.isLt)).2 = s
  generalize (iblk m c 0 t) = x0
  generalize (iblk m c 1 t) = x1
  generalize (iblk m c 2 t) = x2
  generalize (iblk m c 3 t) = x3
  canon_tiles x h
  all_goals
    obtain ⟨a', b', rfl⟩ : ∃ (a' : Fin 320) (b' : Fin 2048), x = ix2 a' b' := ⟨x 0, x 1, eq_ix2 x⟩
    obtain rfl : b = b' := Fin.ext h1
  · exact half1 s x0 x1 x2 x3 _ _ _ a a' b (fun k => ld_rows s 320 _ a a' k h0) (fun k => ld_rows x0 320 _ a a' k h0) (fun k => ld_rows x3 320 _ a a' k h0)
  · have h0 := h0.trans (Nat.zero_add _).symm
    exact half1 s x0 x1 x2 x3 _ _ _ a a' b (fun k => ld_rows s 0 _ a a' k h0) (fun k => ld_rows x0 0 _ a a' k h0) (fun k => ld_rows x3 0 _ a a' k h0)

/-! ## The points -/

/-- One block of lanes of a row, read off the arguments. -/
theorem part_at (c : Dev nD) (t : Fin cfg0.N) (a : Fin 640) (b : Fin 2048) (i : Fin 8320) (q : Fin 4) (hi : (i : ℕ) = t.val / 4 * 640 + a)
    (hq : t.val % 4 = q) :
    part (iblk m c 0 t) (iblk m c 1 t) a b
    = ∑ k : Fin 2048, (show Vec Ideal S8320x8192 .bf16 from m ((c : Thread nD τ).loc main_arg0)) (ix2 i ⟨q * 2048 + k, by omega⟩)
        * (show Vec Ideal S2x8192x2048 .f32 from m ((c : Thread nD τ).loc main_arg1)) (ix3 1 ⟨q * 2048 + k, by omega⟩ b) := by
  unfold part
  blk_point [iblk, V, idx t]

/-- The four blocks of lanes together are the reference's contraction. -/
theorem sum_parts (c : Dev nD) (t : Fin cfg0.N) (h : t.val % 4 = 3) (a : Fin 640) (b : Fin 2048) (i : Fin 8320)
    (hi : (i : ℕ) = t.val / 4 * 640 + a) :
    (outsAt0 m c (t.val - 1) (Nat.lt_of_le_of_lt (Nat.sub_le _ _) t.isLt)).2 (ix2 a b) + part (iblk m c 0 t) (iblk m c 1 t) a b
    = val_main_v3 (F := Ideal) (m ((c : Thread nD τ).loc main_arg0)) (m ((c : Thread nD τ).loc main_arg1)) (ix2 i b) := by
  have hlt : ∀ s, t.val - s < cfg0.N := fun s => Nat.lt_of_le_of_lt (Nat.sub_le _ _) t.isLt
  have e1 := scr_B m c ⟨t.val - 1, hlt 1⟩ (by simp only; omega) (by simp only; omega) a b
  have e2 := scr_B m c ⟨t.val - 1 - 1, hlt 2⟩ (by simp only; omega) (by simp only; omega) a b
  have e3 := scr_A m c ⟨t.val - 1 - 1 - 1, hlt 3⟩ (by simp only; omega) a b
  have p0 := part_at m c ⟨t.val - 1 - 1 - 1, hlt 3⟩ a b i 0 (by simp only; omega) (by simp only [Fin.val_zero]; omega)
  have p1 := part_at m c ⟨t.val - 1 - 1, hlt 2⟩ a b i 1 (by simp only; omega) (by simp only [Fin.val_one]; omega)
  have p2 := part_at m c ⟨t.val - 1, hlt 1⟩ a b i 2 (by simp only; omega) (by simp only [Fin.val_two]; omega)
  have p3 := part_at m c t a b i 3 hi h
  dsimp only at e1 e2 e3
  rw [e1, e2, e3, p0, p1, p2, p3, dot_at, ← Fin.sum_univ_four (fun q : Fin 4 => ∑ k : Fin 2048,
    (show Vec Ideal S8320x8192 .bf16 from m ((c : Thread nD τ).loc main_arg0)) (ix2 i ⟨q * 2048 + k, by omega⟩)
        * (show Vec Ideal S2x8192x2048 .f32 from m ((c : Thread nD τ).loc main_arg1)) (ix3 1 ⟨q * 2048 + k, by omega⟩ b))]
  exact Fin.sum_mul_add_congr fun q k hl => rfl

/-- A row of the point that ends a run is the reference's row. -/
theorem row_at (c : Dev nD) (t : Fin cfg0.N) (h : t.val % 4 = 3) (a : Fin 640) (b : Fin 2048) (i : Fin 8320)
    (hi : (i : ℕ) = t.val / 4 * 640 + a) :
    row (outsAt0 m c (t.val - 1) (Nat.lt_of_le_of_lt (Nat.sub_le _ _) t.isLt)).2 (iblk m c 0 t) (iblk m c 1 t) (iblk m c 2 t) (iblk m c 3 t) a b
    = val_main_v19 (F := Ideal) (m ((c : Thread nD τ).loc main_arg0)) (m ((c : Thread nD τ).loc main_arg1))
        (m ((c : Thread nD τ).loc main_arg2)) (m ((c : Thread nD τ).loc main_arg3)) (ix2 i b) := by
  rw [sum_at, row]
  refine congrArg₂ (· + ·) ?_ (norm_congr (fun l => sum_parts m c t h a l i hi) (fun l => ?_) rfl)
  · blk_ext [iblk, V, idx t]
  · blk_point [iblk, V, idx t]

theorem point4 (c : Dev nD) (t : Fin cfg0.N) (h : t.val % 4 = 3) (y : S640x2048.Idx) (i : S8320x2048.Idx)
    (hi0 : (i 0 : ℕ) = t.val / 4 * 640 + y 0) (hi1 : (i 1 : ℕ) = y 1) :
    (outsAt0 m c t.val t.isLt).1 y
    = val_main_v19 (F := Ideal) (m ((c : Thread nD τ).loc main_arg0)) (m ((c : Thread nD τ).loc main_arg1))
        (m ((c : Thread nD τ).loc main_arg2)) (m ((c : Thread nD τ).loc main_arg3)) i := by
  obtain ⟨a, b, rfl⟩ : ∃ (a : Fin 640) (b : Fin 2048), y = ix2 a b := ⟨y 0, y 1, eq_ix2 y⟩
  obtain ⟨i, j, rfl⟩ : ∃ (i' : Fin 8320) (j : Fin 2048), i = ix2 i' j := ⟨i 0, i 1, eq_ix2 i⟩
  obtain rfl : j = b := Fin.ext hi1
  exact (out4 m c t h a j).trans (row_at m c t h a j i hi0)

theorem final (c : Dev nD) : (dats m 0 c).arrAt 4 (cfgs 0).N
    = val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point4 m c t ((flush0_4 t).mp hf) _ _ (by blk_simp [idx t] <;> omega) (by blk_simp [idx t] <;> omega)

end Cert.LastIdeal.Value

end
-- ==== Proof.MemFirst.lean ====
module

public import proofs.«01_k».proof.Proof.Gen.MemFirstIdeal.Frame
public import proofs.«01_k».proof.Proof.Gen.MemFirstRefIdeal.Read
public import Idealize.ShloMosaic.Lib.Pipeline.ValueKit
public import Idealize.ShloMosaic.Lib.Pipeline.ValueKit.Held
public import Idealize.ShloMosaic.Lib.Pipeline.ReadBack
public import proofs.«01_k».proof.Proof.NormRow

/-!
The memory rows normed with the first layer's gains, times its weights: the first layer's rows of the result.
-/

@[expose] public section

set_option maxRecDepth 16384

noncomputable section

namespace Cert.MemFirstIdeal.Value

open Cert.MemFirstIdeal Cert.MemFirstIdeal.Gen Cert.NormRow
open Idealize.ShloMosaic Idealize.ShloMosaic.TcCoe
open Cert.MemFirstRefIdeal.Read

variable (m : (ℓ : Loc nD τ sig) → Buf (Elt Ideal) ℓ)

/-- Each window's block at a grid point: two column tiles per row tile. -/
theorem idx : ∀ t : Fin cfg0.N, win0_0.index t = ![t.val / 2, 0] ∧ win0_1.index t = ![0, 0] ∧ win0_2.index t = ![0, 0, t.val % 2]
    ∧ win0_3.index t = ![0, t.val / 2, t.val % 2] := (by decide +kernel : ∀ t : Fin grid0.N, _)

/-! ## The reference -/

theorem norm_at (x : Vec Ideal S4x256x2048 .f32) (g : Vec Ideal S2x2048 .f32) (b : Fin 4) (r : Fin 256) (k : Fin 2048) :
    val_main_v14 (F := Ideal) x g (ix3 b r k) = rmsNorm (fun l => x (ix3 b r l)) (fun l => g (ix2 0 l)) k := by
  unfold rmsNorm
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem dot_at (x : Vec Ideal S4x256x2048 .f32) (g : Vec Ideal S2x2048 .f32) (w : Vec Ideal S2x2048x2048 .f32) (b : Fin 4) (r : Fin 256)
    (j : Fin 2048) :
    val_main_v17 (F := Ideal) x g w (ix3 b r j) = ∑ k : Fin 2048, val_main_v14 (F := Ideal) x g (ix3 b r k) * w (ix3 0 k j) := by
  unfold val_main_v17
  generalize val_main_v14 (F := Ideal) x g = D
  pointwise [val_main_v16, val_main_v15]

/-- The written layer's rows: row `i` is row `i % 256` of batch `i / 256`. -/
theorem layer_at (x : Vec Ideal S4x256x2048 .f32) (g : Vec Ideal S2x2048 .f32) (w : Vec Ideal S2x2048x2048 .f32) (i : Fin 1024) (j : Fin 2048) :
    val_main_v20 (F := Ideal) x g w (ix3 0 i j)
    = val_main_v17 (F := Ideal) x g w (ix3 ⟨i / 256, by omega⟩ ⟨i % 256, by omega⟩ j) := by
  unfold val_main_v20 val_main_v18
  generalize val_main_v17 (F := Ideal) x g w = D
  pointwise [val_main_v19]

/-! ## The body -/

theorem pay1_at (x : Vec Ideal S512x2048 .f32) (g : Vec Ideal S1x2048 .f32) (a : Fin 512) (k : Fin 2048) :
    k0_pay1 (F := Ideal) x g (ix2 a k) = rmsNorm (fun l => x (ix2 a l)) (fun l => g (ix2 0 l)) k := by
  unfold rmsNorm
  pointwise [k0_pay1]

theorem pay2_at (h : Vec Ideal S512x2048 .bf16) (w : Vec Ideal S1x2048x1024 .f32) (a : Fin 512) (b : Fin 1024) :
    k0_pay2 (F := Ideal) h w (ix3 0 a b) = ∑ k : Fin 2048, h (ix2 a k) * w (ix3 0 k b) := by
  pointwise [k0_pay2]

/-- The normed row tile of a point. -/
def rows (c : Dev nD) (t : Fin cfg0.N) : Vec Ideal S512x2048 .bf16 := k0_pay1 (F := Ideal) (iblk m c 0 t) (iblk m c 1 t)

/-- Row `a` of it is the reference's normed row. -/
theorem rows_at (c : Dev nD) (t : Fin cfg0.N) (a : Fin 512) (k : Fin 2048) (b : Fin 4) (r : Fin 256) (h : (b : ℕ) * 256 + r = t.val / 2 * 512 + a) :
    rows m c t (ix2 a k)
    = val_main_v14 (F := Ideal) (m ((c : Thread nD τ).loc main_arg0)) (m ((c : Thread nD τ).loc main_arg1)) (ix3 b r k) := by
  unfold rows
  rw [norm_at, pay1_at]
  refine norm_congr (fun l => ?_) (fun l => ?_) rfl
  · blk_point [iblk, V, idx t]
    all_goals omega
  · blk_point [iblk, V, idx t]

/-- Both points of a row tile make the same normed rows. -/
theorem rows_congr (c : Dev nD) (t t' : Fin cfg0.N) (h : t.val / 2 = t'.val / 2) : rows m c t = rows m c t' := by
  have e : t.val / 2 * 512 + 512 ≤ 1024 := by
    have ht := t.isLt; have : cfg0.N = 4 := rfl; omega
  funext y
  obtain ⟨a, k, rfl⟩ : ∃ (a : Fin 512) (k : Fin 2048), y = ix2 a k := ⟨y 0, y 1, eq_ix2 y⟩
  have ha := a.isLt
  rw [rows_at m c t a k ⟨(t.val / 2 * 512 + a) / 256, by omega⟩ ⟨(t.val / 2 * 512 + a) % 256, by omega⟩ (by simp only; omega),
    rows_at m c t' a k ⟨(t.val / 2 * 512 + a) / 256, by omega⟩ ⟨(t.val / 2 * 512 + a) % 256, by omega⟩ (by simp only; omega)]

/-- The scratch array holds the point's normed rows: the first column tile makes them, the second keeps them. -/
theorem held (c : Dev nD) (t : Fin cfg0.N) : (outsAt0 m c t.val t.isLt).2 = rows m c t :=
  (Pipeline.eq_of_write_hold (fun n h => (outsAt0 m c n h).2) 2 (fun t => rows m c t)
    (fun t h => by rw [outsAt0_A m c t h]; frame_out; rfl)
    (fun t h => by rw [outsAt0_B m c t h]; rfl) t).trans (rows_congr m c _ t (by simp))

/-- What the body leaves in its block: its column tile's product with those rows. -/
theorem body (c : Dev nD) (t : Fin cfg0.N) : (outsAt0 m c t.val t.isLt).1 = k0_pay2 (F := Ideal) (rows m c t) (iblk m c 2 t) := by
  by_cases h : t.val % 2 = 0
  · rw [outsAt0_A m c t h]; frame_out; rfl
  · have hp : (outsAt0 m c (t.val - 1) (Nat.lt_of_le_of_lt (Nat.sub_le _ _) t.isLt)).2 = rows m c t :=
      (held m c ⟨t.val - 1, Nat.lt_of_le_of_lt (Nat.sub_le _ _) t.isLt⟩).trans (rows_congr m c _ t (by simp only; omega))
    rw [outsAt0_B m c t h]; frame_out
    rw [hp, read_unread_whole]

theorem point (c : Dev nD) (t : Fin cfg0.N) (y : S1x512x1024.Idx) (i : S2x1024x2048.Idx)
    (h0 : (i 0 : ℕ) = 0) (h1 : (i 1 : ℕ) = t.val / 2 * 512 + y 1) (h2 : (i 2 : ℕ) = t.val % 2 * 1024 + y 2) :
    k0_pay2 (F := Ideal) (rows m c t) (iblk m c 2 t) y
    = val_main_v20 (F := Ideal) (m ((c : Thread nD τ).loc main_arg0)) (m ((c : Thread nD τ).loc main_arg1)) (m ((c : Thread nD τ).loc main_arg2)) i := by
  obtain ⟨z, a, b, rfl⟩ : ∃ (z : Fin 1) (a : Fin 512) (b : Fin 1024), y = ix3 z a b := ⟨y 0, y 1, y 2, eq_ix3 y⟩
  obtain ⟨l, i, j, rfl⟩ : ∃ (l : Fin 2) (i' : Fin 1024) (j : Fin 2048), i = ix3 l i' j := ⟨i 0, i 1, i 2, eq_ix3 i⟩
  obtain rfl : z = 0 := Subsingleton.elim _ _
  obtain rfl : l = 0 := Fin.ext h0
  replace h1 : (i : ℕ) = t.val / 2 * 512 + a := h1
  replace h2 : (j : ℕ) = t.val % 2 * 1024 + b := h2
  rw [layer_at, dot_at, pay2_at]
  refine Finset.sum_congr rfl fun k _ => congrArg₂ (· * ·) (rows_at m c t a k _ _ (by simp only; omega)) ?_
  blk_point [iblk, V, idx t]

/-- The first layer's rows after the run are the reference's. -/
theorem final (c : Dev nD) (i : S2x1024x2048.Idx) (hi : (i 0 : ℕ) = 0) : (dats m 0 c).arrAt 3 (cfgs 0).N i
    = val_main_v20 (F := Ideal) (m ((c : Thread nD τ).loc main_arg0)) (m ((c : Thread nD τ).loc main_arg1)) (m ((c : Thread nD τ).loc main_arg2)) i := by
  have h : (dats m 0 c).arrAt 3 (cfgs 0).N = fun i : S2x1024x2048.Idx => if (i 0 : ℕ) = 0 then val_main_v20 (F := Ideal) (m ((c : Thread nD τ).loc main_arg0)) (m ((c : Thread nD τ).loc main_arg1)) (m ((c : Thread nD τ).loc main_arg2)) i else V m c main_v4 i := by
    refine (dats m 0 c).arrAt_eq_of_coversWhere 3 _ (fun β => β (0 : Fin _) = 0) (by decide +kernel) (fun t _ y => ?_)
      (fun j => by blk_simp [Pipeline.Window.cell_apply]; rw [Nat.div_one])
    blk_simp
    rw [after0_3, body]
    exact point m c t _ _ (by blk_simp [idx t] <;> omega) (by blk_simp [idx t] <;> omega) (by blk_simp [idx t] <;> omega)
  rw [h]
  exact if_pos hi

end Cert.MemFirstIdeal.Value

end
-- ==== Proof.MemSecond.lean ====
module

public import proofs.«01_k».proof.Proof.Gen.MemSecondIdeal.Frame
public import proofs.«01_k».proof.Proof.Gen.MemSecondRefIdeal.Read
public import Idealize.ShloMosaic.Lib.Pipeline.ValueKit
public import Idealize.ShloMosaic.Lib.Pipeline.ValueKit.Held
public import Idealize.ShloMosaic.Lib.Pipeline.ReadBack
public import proofs.«01_k».proof.Proof.NormRow

/-!
The memory rows normed with the second layer's gains, times its weights, written beside the first layer's rows, which are kept.
-/

@[expose] public section

set_option maxRecDepth 16384

noncomputable section

namespace Cert.MemSecondIdeal.Value

open Cert.MemSecondIdeal Cert.MemSecondIdeal.Gen Cert.NormRow
open Idealize.ShloMosaic Idealize.ShloMosaic.TcCoe
open Cert.MemSecondRefIdeal.Read

variable (m : (ℓ : Loc nD τ sig) → Buf (Elt Ideal) ℓ)

/-- Each window's block at a grid point: two column tiles per row tile. -/
theorem idx : ∀ t : Fin cfg0.N, win0_0.index t = ![t.val / 2, 0] ∧ win0_1.index t = ![0, 0] ∧ win0_2.index t = ![1, 0, t.val % 2]
    ∧ win0_3.index t = ![1, t.val / 2, t.val % 2] := (by decide +kernel : ∀ t : Fin grid0.N, _)

/-! ## The reference -/

theorem norm_at (x : Vec Ideal S4x256x2048 .f32) (g : Vec Ideal S2x2048 .f32) (b : Fin 4) (r : Fin 256) (k : Fin 2048) :
    val_main_v14 (F := Ideal) x g (ix3 b r k) = rmsNorm (fun l => x (ix3 b r l)) (fun l => g (ix2 1 l)) k := by
  unfold rmsNorm
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem dot_at (x : Vec Ideal S4x256x2048 .f32) (g : Vec Ideal S2x2048 .f32) (w : Vec Ideal S2x2048x2048 .f32) (b : Fin 4) (r : Fin 256)
    (j : Fin 2048) :
    val_main_v17 (F := Ideal) x g w (ix3 b r j) = ∑ k : Fin 2048, val_main_v14 (F := Ideal) x g (ix3 b r k) * w (ix3 1 k j) := by
  unfold val_main_v17
  generalize val_main_v14 (F := Ideal) x g = D
  pointwise [val_main_v16, val_main_v15]

/-- The written layer's rows: row `i` is row `i % 256` of batch `i / 256`. -/
theorem layer_at (x : Vec Ideal S4x256x2048 .f32) (g : Vec Ideal S2x2048 .f32) (w : Vec Ideal S2x2048x2048 .f32) (p : Vec Ideal S2x1024x2048 .f32) (i : Fin 1024) (j : Fin 2048) :
    val_main_v20 (F := Ideal) x g w p (ix3 1 i j)
    = val_main_v17 (F := Ideal) x g w (ix3 ⟨i / 256, by omega⟩ ⟨i % 256, by omega⟩ j) := by
  unfold val_main_v20 val_main_v18
  generalize val_main_v17 (F := Ideal) x g w = D
  pointwise [val_main_v19]

/-! ## The body -/

theorem pay1_at (x : Vec Ideal S512x2048 .f32) (g : Vec Ideal S1x2048 .f32) (a : Fin 512) (k : Fin 2048) :
    k0_pay1 (F := Ideal) x g (ix2 a k) = rmsNorm (fun l => x (ix2 a l)) (fun l => g (ix2 0 l)) k := by
  unfold rmsNorm
  pointwise [k0_pay1]

theorem pay2_at (h : Vec Ideal S512x2048 .bf16) (w : Vec Ideal S1x2048x1024 .f32) (a : Fin 512) (b : Fin 1024) :
    k0_pay2 (F := Ideal) h w (ix3 0 a b) = ∑ k : Fin 2048, h (ix2 a k) * w (ix3 0 k b) := by
  pointwise [k0_pay2]

/-- The normed row tile of a point. -/
def rows (c : Dev nD) (t : Fin cfg0.N) : Vec Ideal S512x2048 .bf16 := k0_pay1 (F := Ideal) (iblk m c 0 t) (iblk m c 1 t)

/-- Row `a` of it is the reference's normed row. -/
theorem rows_at (c : Dev nD) (t : Fin cfg0.N) (a : Fin 512) (k : Fin 2048) (b : Fin 4) (r : Fin 256) (h : (b : ℕ) * 256 + r = t.val / 2 * 512 + a) :
    rows m c t (ix2 a k)
    = val_main_v14 (F := Ideal) (m ((c : Thread nD τ).loc main_arg0)) (m ((c : Thread nD τ).loc main_arg1)) (ix3 b r k) := by
  unfold rows
  rw [norm_at, pay1_at]
  refine norm_congr (fun l => ?_) (fun l => ?_) rfl
  · blk_point [iblk, V, idx t]
    all_goals omega
  · blk_point [iblk, V, idx t]

/-- Both points of a row tile make the same normed rows. -/
theorem rows_congr (c : Dev nD) (t t' : Fin cfg0.N) (h : t.val / 2 = t'.val / 2) : rows m c t = rows m c t' := by
  have e : t.val / 2 * 512 + 512 ≤ 1024 := by
    have ht := t.isLt; have : cfg0.N = 4 := rfl; omega
  funext y
  obtain ⟨a, k, rfl⟩ : ∃ (a : Fin 512) (k : Fin 2048), y = ix2 a k := ⟨y 0, y 1, eq_ix2 y⟩
  have ha := a.isLt
  rw [rows_at m c t a k ⟨(t.val / 2 * 512 + a) / 256, by omega⟩ ⟨(t.val / 2 * 512 + a) % 256, by omega⟩ (by simp only; omega),
    rows_at m c t' a k ⟨(t.val / 2 * 512 + a) / 256, by omega⟩ ⟨(t.val / 2 * 512 + a) % 256, by omega⟩ (by simp only; omega)]

/-- The scratch array holds the point's normed rows: the first column tile makes them, the second keeps them. -/
theorem held (c : Dev nD) (t : Fin cfg0.N) : (outsAt0 m c t.val t.isLt).2 = rows m c t :=
  (Pipeline.eq_of_write_hold (fun n h => (outsAt0 m c n h).2) 2 (fun t => rows m c t)
    (fun t h => by rw [outsAt0_A m c t h]; frame_out; rfl)
    (fun t h => by rw [outsAt0_B m c t h]; rfl) t).trans (rows_congr m c _ t (by simp))

/-- What the body leaves in its block: its column tile's product with those rows. -/
theorem body (c : Dev nD) (t : Fin cfg0.N) : (outsAt0 m c t.val t.isLt).1 = k0_pay2 (F := Ideal) (rows m c t) (iblk m c 2 t) := by
  by_cases h : t.val % 2 = 0
  · rw [outsAt0_A m c t h]; frame_out; rfl
  · have hp : (outsAt0 m c (t.val - 1) (Nat.lt_of_le_of_lt (Nat.sub_le _ _) t.isLt)).2 = rows m c t :=
      (held m c ⟨t.val - 1, Nat.lt_of_le_of_lt (Nat.sub_le _ _) t.isLt⟩).trans (rows_congr m c _ t (by simp only; omega))
    rw [outsAt0_B m c t h]; frame_out
    rw [hp, read_unread_whole]

theorem point (c : Dev nD) (t : Fin cfg0.N) (y : S1x512x1024.Idx) (i : S2x1024x2048.Idx)
    (h0 : (i 0 : ℕ) = 1) (h1 : (i 1 : ℕ) = t.val / 2 * 512 + y 1) (h2 : (i 2 : ℕ) = t.val % 2 * 1024 + y 2) :
    k0_pay2 (F := Ideal) (rows m c t) (iblk m c 2 t) y
    = val_main_v20 (F := Ideal) (m ((c : Thread nD τ).loc main_arg0)) (m ((c : Thread nD τ).loc main_arg1)) (m ((c : Thread nD τ).loc main_arg2)) (m ((c : Thread nD τ).loc main_arg3)) i := by
  obtain ⟨z, a, b, rfl⟩ : ∃ (z : Fin 1) (a : Fin 512) (b : Fin 1024), y = ix3 z a b := ⟨y 0, y 1, y 2, eq_ix3 y⟩
  obtain ⟨l, i, j, rfl⟩ : ∃ (l : Fin 2) (i' : Fin 1024) (j : Fin 2048), i = ix3 l i' j := ⟨i 0, i 1, i 2, eq_ix3 i⟩
  obtain rfl : z = 0 := Subsingleton.elim _ _
  obtain rfl : l = 1 := Fin.ext h0
  replace h1 : (i : ℕ) = t.val / 2 * 512 + a := h1
  replace h2 : (j : ℕ) = t.val % 2 * 1024 + b := h2
  rw [layer_at, dot_at, pay2_at]
  refine Finset.sum_congr rfl fun k _ => congrArg₂ (· * ·) (rows_at m c t a k _ _ (by simp only; omega)) ?_
  blk_point [iblk, V, idx t]

/-- The layer that is not written is the array given. -/
theorem kept (x : Vec Ideal S4x256x2048 .f32) (g : Vec Ideal S2x2048 .f32) (w : Vec Ideal S2x2048x2048 .f32) (p : Vec Ideal S2x1024x2048 .f32)
    (i : S2x1024x2048.Idx) (h : ¬ (i 0 : ℕ) = 1) : p i = val_main_v20 (F := Ideal) x g w p i := by
  obtain ⟨l, i, j, rfl⟩ : ∃ (l : Fin 2) (i' : Fin 1024) (j : Fin 2048), i = ix3 l i' j := ⟨i 0, i 1, i 2, eq_ix3 i⟩
  replace h : ¬ (l : ℕ) = 1 := h
  obtain rfl : l = 0 := Fin.ext (by have := l.isLt; simp only [Fin.val_zero]; omega)
  unfold val_main_v20
  generalize val_main_v18 (F := Ideal) x g w = D
  pointwise [val_main_v19]

/-- The array after the run is the reference's. -/
theorem final (c : Dev nD) : (dats m 0 c).arrAt 3 (cfgs 0).N
    = val_main_v20 (F := Ideal) (m ((c : Thread nD τ).loc main_arg0)) (m ((c : Thread nD τ).loc main_arg1)) (m ((c : Thread nD τ).loc main_arg2)) (m ((c : Thread nD τ).loc main_arg3)) := by
  have h : (dats m 0 c).arrAt 3 (cfgs 0).N = fun i : S2x1024x2048.Idx => if (i 0 : ℕ) = 1 then val_main_v20 (F := Ideal) (m ((c : Thread nD τ).loc main_arg0)) (m ((c : Thread nD τ).loc main_arg1)) (m ((c : Thread nD τ).loc main_arg2)) (m ((c : Thread nD τ).loc main_arg3)) i else V m c main_v4 i := by
    refine (dats m 0 c).arrAt_eq_of_coversWhere 3 _ (fun β => β (0 : Fin _) = 1) (by decide +kernel) (fun t _ y => ?_)
      (fun j => by blk_simp [Pipeline.Window.cell_apply]; rw [Nat.div_one])
    blk_simp
    rw [after0_3, body]
    exact point m c t _ _ (by blk_simp [idx t] <;> omega) (by blk_simp [idx t] <;> omega) (by blk_simp [idx t] <;> omega)
  rw [h]
  funext i
  by_cases hi : (i 0 : ℕ) = 1
  · exact if_pos hi
  · rw [if_neg hi, ← kept _ _ _ _ i hi]
    unfold V
    after_results
    rfl

end Cert.MemSecondIdeal.Value

end
-- ==== Proof.Finite.lean ====
module

public import proofs.«01_k».proof.Proof.Gen.Pre_finite_scores
public import proofs.«01_k».proof.Proof.Gen.On_prompt_rows
public import proofs.«01_k».proof.Proof.Gen.On_first_layer
public import proofs.«01_k».proof.Proof.SoftmaxRow
public import Idealize.ShloMosaic.Lib.WordCmp
public import Idealize.ShloMosaic.Lib.Affine

/-!
What the attention's precondition and its mask say of their arguments: the queries and the keys are real numbers, and
the mask selects the first 8192 rows.
-/

@[expose] public section

noncomputable section

namespace Cert.Finite

open Idealize.ShloMosaic Cert.Pre_finite_scores Cert.SoftmaxRow

/-- A comparison of an absolute value with infinity that holds says the value is real. -/
theorem isReal_of_cmp {x : EReal} (h : Ideal.cmp .olt (max x (-x)) (Ideal.ofBits .f32 0x7F800000#32) = 1) : IsReal x := by
  rw [Ideal.cmp_olt_eq_one, ofBits_inf] at h
  exact isReal_of_abs_lt_top h

theorem reals (q : FVec Ideal S8320x2048 .bf16) (k v : FVec Ideal S2x1024x2048 .f32) (h : fn (F := Ideal) q k v = fun _ => 1#1) :
    (∀ i, IsReal (q i)) ∧ ∀ i, IsReal (k i) := by
  obtain ⟨h1, h2⟩ := IntOp.andi_eq_one.mp (congrFun h (fun a => a.elim0))
  exact ⟨fun i => isReal_of_cmp (Host.reduce_andi_all _ _ _ _ _ h1 i), fun i => isReal_of_cmp (Host.reduce_andi_all _ _ _ _ _ h2 i)⟩

theorem rows (q : FVec Ideal S8320x2048 .bf16) (k v : FVec Ideal S2x1024x2048 .f32) (i : S8320x2048.Idx)
    (h : Cert.On_prompt_rows.fn (F := Ideal) q k v i = 1#1) : (i 0 : ℕ) < 8192 := by
  have h' : IntOp.cmpi .slt (BitVec.ofNat 32 (i 0 : ℕ)) 8192#32 = 1#1 := h
  have hi : (i 0 : ℕ) < 8320 := (i 0).isLt
  exact (WordCmp.cmpi_slt_ofNat_eq_one_iff (b := 8192) (by omega) (by decide)).mp h'

theorem layer (x : FVec Ideal Cert.On_first_layer.S4x256x2048 .f32) (g : FVec Ideal Cert.On_first_layer.S2x2048 .f32)
    (w : FVec Ideal Cert.On_first_layer.S2x2048x2048 .f32) (i : Cert.On_first_layer.S2x1024x2048.Idx)
    (h : Cert.On_first_layer.fn (F := Ideal) x g w i = 1#1) : (i 0 : ℕ) = 0 := by
  have h' : IntOp.cmpi .slt (BitVec.ofNat 32 (i 0 : ℕ)) 1#32 = 1#1 := h
  have hi : (i 0 : ℕ) < 2 := (i 0).isLt
  have := (WordCmp.cmpi_slt_ofNat_eq_one_iff (b := 1) (by omega) (by decide)).mp h'
  omega

end Cert.Finite

end
-- ==== Proof.MixWhole.lean ====
module

public import proofs.«01_k».proof.Proof.Gen.MixIdeal.Frame.RunA
public import Idealize.ShloMosaic.Lib.Claim
public import Idealize.ShloMosaic.Lib.Pipeline.Frame

/-!
The sample mixers' call over the whole memory: what a grid point's stores leave in each result's block, the pipeline's facts from it, and so
the state every run ends in, with the arguments as they were and every counter at zero.
-/

@[expose] public section

set_option maxRecDepth 16384

noncomputable section

namespace Cert.MixIdeal.Whole

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's stores at grid point `t`, found from the blocks its operands hold there. -/
def stores (c : Dev nD) (t : Fin cfg0.N) :=
  kernelRun0_A c (grid0.coords t)
    (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t)
    (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t)
    (ms0_24 t) (hs0_24 t) (ms0_25 t) (hs0_25 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-! ## Every result's block is covered by its stores -/

theorem covered18 (c : Dev nD) (t : Fin cfg0.N) (y : (S8x2048).Idx) : ∃ p ∈ (stores m c t).1, y ∈ p.1.set :=
  View.cover_of_tiledL (stores m c t).1 S8x128.size (by sl_kernel_rfl) y

theorem covered19 (c : Dev nD) (t : Fin cfg0.N) (y : (S1x8x4x128x128).Idx) : ∃ p ∈ (stores m c t).2.1, y ∈ p.1.set :=
  View.cover_of_tiledL (stores m c t).2.1 S1x1x1x128x128.size (by sl_kernel_rfl) y

theorem covered20 (c : Dev nD) (t : Fin cfg0.N) (y : (S1x8x4x128x128).Idx) : ∃ p ∈ (stores m c t).2.2.1, y ∈ p.1.set :=
  View.cover_of_tiledL (stores m c t).2.2.1 S1x1x1x128x128.size (by sl_kernel_rfl) y

theorem covered21 (c : Dev nD) (t : Fin cfg0.N) (y : (S1x8x4x128).Idx) : ∃ p ∈ (stores m c t).2.2.2.1, y ∈ p.1.set :=
  View.cover_of_tiledL (stores m c t).2.2.2.1 S1x1x1x128.size (by sl_kernel_rfl) y

theorem covered22 (c : Dev nD) (t : Fin cfg0.N) (y : (S1x8x128).Idx) : ∃ p ∈ (stores m c t).2.2.2.2.1, y ∈ p.1.set :=
  View.cover_of_tiledL (stores m c t).2.2.2.2.1 S1x8x128.size (by sl_kernel_rfl) y

theorem covered23 (c : Dev nD) (t : Fin cfg0.N) (y : (S1x8x4x128x128).Idx) : ∃ p ∈ (stores m c t).2.2.2.2.2.1, y ∈ p.1.set :=
  View.cover_of_tiledL (stores m c t).2.2.2.2.2.1 S1x1x1x128x128.size (by sl_kernel_rfl) y

theorem covered24 (c : Dev nD) (t : Fin cfg0.N) (y : (S1x3x8x1536).Idx) : ∃ p ∈ (stores m c t).2.2.2.2.2.2.1, y ∈ p.1.set :=
  View.cover_of_tiledL (stores m c t).2.2.2.2.2.2.1 S1x1x8x512.size (by sl_kernel_rfl) y

theorem covered25 (c : Dev nD) (t : Fin cfg0.N) (y : (S1x8x2x128x128).Idx) : ∃ p ∈ (stores m c t).2.2.2.2.2.2.2.1, y ∈ p.1.set :=
  View.cover_of_tiledL (stores m c t).2.2.2.2.2.2.2.1 S1x1x1x128x128.size (by sl_kernel_rfl) y

/-! ## What the stores leave -/

def left18 (c : Dev nD) (t : Fin cfg0.N) : Vec F S8x2048 .bf16 :=
  VO0_18.read (Elt F) (VO0_18.writes (Elt F) VO0_18.junk (stores m c t).1)

def left19 (c : Dev nD) (t : Fin cfg0.N) : Vec F S1x8x4x128x128 .f32 :=
  VO0_19.read (Elt F) (VO0_19.writes (Elt F) VO0_19.junk (stores m c t).2.1)

def left20 (c : Dev nD) (t : Fin cfg0.N) : Vec F S1x8x4x128x128 .f32 :=
  VO0_20.read (Elt F) (VO0_20.writes (Elt F) VO0_20.junk (stores m c t).2.2.1)

def left21 (c : Dev nD) (t : Fin cfg0.N) : Vec F S1x8x4x128 .f32 :=
  VO0_21.read (Elt F) (VO0_21.writes (Elt F) VO0_21.junk (stores m c t).2.2.2.1)

def left22 (c : Dev nD) (t : Fin cfg0.N) : Vec F S1x8x128 .f32 :=
  VO0_22.read (Elt F) (VO0_22.writes (Elt F) VO0_22.junk (stores m c t).2.2.2.2.1)

def left23 (c : Dev nD) (t : Fin cfg0.N) : Vec F S1x8x4x128x128 .f32 :=
  VO0_23.read (Elt F) (VO0_23.writes (Elt F) VO0_23.junk (stores m c t).2.2.2.2.2.1)

def left24 (c : Dev nD) (t : Fin cfg0.N) : Vec F S1x3x8x1536 .f32 :=
  VO0_24.read (Elt F) (VO0_24.writes (Elt F) VO0_24.junk (stores m c t).2.2.2.2.2.2.1)

def left25 (c : Dev nD) (t : Fin cfg0.N) : Vec F S1x8x2x128x128 .f32 :=
  VO0_25.read (Elt F) (VO0_25.writes (Elt F) VO0_25.junk (stores m c t).2.2.2.2.2.2.2.1)

/-- The pipeline's data: an operand's block stays, a result's becomes what the stores leave, and nothing is owed. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => left18 m c t
    | ⟨19, _⟩ => left19 m c t
    | ⟨20, _⟩ => left20 m c t
    | ⟨21, _⟩ => left21 m c t
    | ⟨22, _⟩ => left22 m c t
    | ⟨23, _⟩ => left23 m c t
    | ⟨24, _⟩ => left24 m c t
    | ⟨25, _⟩ => left25 m c t
    | ⟨_ + 26, h⟩ => absurd h (Nat.not_lt.2 (Nat.le_add_left _ _))
  Φ _ := Pipeline.ΦA spec0 c
  q _ := fullShare
  owed _ := 0

theorem entry (c : Dev nD) (w : Fin cfg0.W) : (data m 0 c).A w = V m c (Pipeline.arrRef spec0 w) := by
  dsimp only [data]

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]
theorem after4 (c : Dev nD) (t : Fin cfg0.N) : (data m 0 c).after 4 t = iblk m c 4 t := by dsimp only [data]
theorem after5 (c : Dev nD) (t : Fin cfg0.N) : (data m 0 c).after 5 t = iblk m c 5 t := by dsimp only [data]
theorem after6 (c : Dev nD) (t : Fin cfg0.N) : (data m 0 c).after 6 t = iblk m c 6 t := by dsimp only [data]
theorem after7 (c : Dev nD) (t : Fin cfg0.N) : (data m 0 c).after 7 t = iblk m c 7 t := by dsimp only [data]
theorem after8 (c : Dev nD) (t : Fin cfg0.N) : (data m 0 c).after 8 t = iblk m c 8 t := by dsimp only [data]
theorem after9 (c : Dev nD) (t : Fin cfg0.N) : (data m 0 c).after 9 t = iblk m c 9 t := by dsimp only [data]
theorem after10 (c : Dev nD) (t : Fin cfg0.N) : (data m 0 c).after 10 t = iblk m c 10 t := by dsimp only [data]
theorem after11 (c : Dev nD) (t : Fin cfg0.N) : (data m 0 c).after 11 t = iblk m c 11 t := by dsimp only [data]
theorem after12 (c : Dev nD) (t : Fin cfg0.N) : (data m 0 c).after 12 t = iblk m c 12 t := by dsimp only [data]
theorem after13 (c : Dev nD) (t : Fin cfg0.N) : (data m 0 c).after 13 t = iblk m c 13 t := by dsimp only [data]
theorem after14 (c : Dev nD) (t : Fin cfg0.N) : (data m 0 c).after 14 t = iblk m c 14 t := by dsimp only [data]
theorem after15 (c : Dev nD) (t : Fin cfg0.N) : (data m 0 c).after 15 t = iblk m c 15 t := by dsimp only [data]
theorem after16 (c : Dev nD) (t : Fin cfg0.N) : (data m 0 c).after 16 t = iblk m c 16 t := by dsimp only [data]
theorem after17 (c : Dev nD) (t : Fin cfg0.N) : (data m 0 c).after 17 t = iblk m c 17 t := by dsimp only [data]
theorem after18 (c : Dev nD) (t : Fin cfg0.N) : (data m 0 c).after 18 t = left18 m c t := by dsimp only [data]
theorem after19 (c : Dev nD) (t : Fin cfg0.N) : (data m 0 c).after 19 t = left19 m c t := by dsimp only [data]
theorem after20 (c : Dev nD) (t : Fin cfg0.N) : (data m 0 c).after 20 t = left20 m c t := by dsimp only [data]
theorem after21 (c : Dev nD) (t : Fin cfg0.N) : (data m 0 c).after 21 t = left21 m c t := by dsimp only [data]
theorem after22 (c : Dev nD) (t : Fin cfg0.N) : (data m 0 c).after 22 t = left22 m c t := by dsimp only [data]
theorem after23 (c : Dev nD) (t : Fin cfg0.N) : (data m 0 c).after 23 t = left23 m c t := by dsimp only [data]
theorem after24 (c : Dev nD) (t : Fin cfg0.N) : (data m 0 c).after 24 t = left24 m c t := by dsimp only [data]
theorem after25 (c : Dev nD) (t : Fin cfg0.N) : (data m 0 c).after 25 t = left25 m c t := by dsimp only [data]

theorem held0 (c : Dev nD) (t : Fin cfg0.N) (d) : (data m 0 c).before 0 t d = iblk m c 0 t :=
  before0_0_of m (data m 0 c) (entry m c 0) (after0 m c) t d
theorem held1 (c : Dev nD) (t : Fin cfg0.N) (d) : (data m 0 c).before 1 t d = iblk m c 1 t :=
  before0_1_of m (data m 0 c) (entry m c 1) (after1 m c) t d
theorem held2 (c : Dev nD) (t : Fin cfg0.N) (d) : (data m 0 c).before 2 t d = iblk m c 2 t :=
  before0_2_of m (data m 0 c) (entry m c 2) (after2 m c) t d
theorem held3 (c : Dev nD) (t : Fin cfg0.N) (d) : (data m 0 c).before 3 t d = iblk m c 3 t :=
  before0_3_of m (data m 0 c) (entry m c 3) (after3 m c) t d
theorem held4 (c : Dev nD) (t : Fin cfg0.N) (d) : (data m 0 c).before 4 t d = iblk m c 4 t :=
  before0_4_of m (data m 0 c) (entry m c 4) (after4 m c) t d
theorem held5 (c : Dev nD) (t : Fin cfg0.N) (d) : (data m 0 c).before 5 t d = iblk m c 5 t :=
  before0_5_of m (data m 0 c) (entry m c 5) (after5 m c) t d
theorem held6 (c : Dev nD) (t : Fin cfg0.N) (d) : (data m 0 c).before 6 t d = iblk m c 6 t :=
  before0_6_of m (data m 0 c) (entry m c 6) (after6 m c) t d
theorem held7 (c : Dev nD) (t : Fin cfg0.N) (d) : (data m 0 c).before 7 t d = iblk m c 7 t :=
  before0_7_of m (data m 0 c) (entry m c 7) (after7 m c) t d
theorem held8 (c : Dev nD) (t : Fin cfg0.N) (d) : (data m 0 c).before 8 t d = iblk m c 8 t :=
  before0_8_of m (data m 0 c) (entry m c 8) (after8 m c) t d
theorem held9 (c : Dev nD) (t : Fin cfg0.N) (d) : (data m 0 c).before 9 t d = iblk m c 9 t :=
  before0_9_of m (data m 0 c) (entry m c 9) (after9 m c) t d
theorem held10 (c : Dev nD) (t : Fin cfg0.N) (d) : (data m 0 c).before 10 t d = iblk m c 10 t :=
  before0_10_of m (data m 0 c) (entry m c 10) (after10 m c) t d
theorem held11 (c : Dev nD) (t : Fin cfg0.N) (d) : (data m 0 c).before 11 t d = iblk m c 11 t :=
  before0_11_of m (data m 0 c) (entry m c 11) (after11 m c) t d
theorem held12 (c : Dev nD) (t : Fin cfg0.N) (d) : (data m 0 c).before 12 t d = iblk m c 12 t :=
  before0_12_of m (data m 0 c) (entry m c 12) (after12 m c) t d
theorem held13 (c : Dev nD) (t : Fin cfg0.N) (d) : (data m 0 c).before 13 t d = iblk m c 13 t :=
  before0_13_of m (data m 0 c) (entry m c 13) (after13 m c) t d
theorem held14 (c : Dev nD) (t : Fin cfg0.N) (d) : (data m 0 c).before 14 t d = iblk m c 14 t :=
  before0_14_of m (data m 0 c) (entry m c 14) (after14 m c) t d
theorem held15 (c : Dev nD) (t : Fin cfg0.N) (d) : (data m 0 c).before 15 t d = iblk m c 15 t :=
  before0_15_of m (data m 0 c) (entry m c 15) (after15 m c) t d
theorem held16 (c : Dev nD) (t : Fin cfg0.N) (d) : (data m 0 c).before 16 t d = iblk m c 16 t :=
  before0_16_of m (data m 0 c) (entry m c 16) (after16 m c) t d
theorem held17 (c : Dev nD) (t : Fin cfg0.N) (d) : (data m 0 c).before 17 t d = iblk m c 17 t :=
  before0_17_of m (data m 0 c) (entry m c 17) (after17 m c) t d

/-! ## The body at a grid point -/

def taken (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d))
    ∗ (∃ d, owns (c : Thread nD τ) (ms0_17 t) fullShare ((data m 0 c).before 17 t d))
    ∗ (∃ d, owns (c : Thread nD τ) (ms0_18 t) fullShare ((data m 0 c).before 18 t d))
    ∗ (∃ d, owns (c : Thread nD τ) (ms0_19 t) fullShare ((data m 0 c).before 19 t d))
    ∗ (∃ d, owns (c : Thread nD τ) (ms0_20 t) fullShare ((data m 0 c).before 20 t d))
    ∗ (∃ d, owns (c : Thread nD τ) (ms0_21 t) fullShare ((data m 0 c).before 21 t d))
    ∗ (∃ d, owns (c : Thread nD τ) (ms0_22 t) fullShare ((data m 0 c).before 22 t d))
    ∗ (∃ d, owns (c : Thread nD τ) (ms0_23 t) fullShare ((data m 0 c).before 23 t d))
    ∗ (∃ d, owns (c : Thread nD τ) (ms0_24 t) fullShare ((data m 0 c).before 24 t d))
    ∗ (∃ d, owns (c : Thread nD τ) (ms0_25 t) fullShare ((data m 0 c).before 25 t d)))

def given (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ owns (c : Thread nD τ) (ms0_8 t) fullShare ((data m 0 c).after 8 t)
    ∗ owns (c : Thread nD τ) (ms0_9 t) fullShare ((data m 0 c).after 9 t)
    ∗ owns (c : Thread nD τ) (ms0_10 t) fullShare ((data m 0 c).after 10 t)
    ∗ owns (c : Thread nD τ) (ms0_11 t) fullShare ((data m 0 c).after 11 t)
    ∗ owns (c : Thread nD τ) (ms0_12 t) fullShare ((data m 0 c).after 12 t)
    ∗ owns (c : Thread nD τ) (ms0_13 t) fullShare ((data m 0 c).after 13 t)
    ∗ owns (c : Thread nD τ) (ms0_14 t) fullShare ((data m 0 c).after 14 t)
    ∗ owns (c : Thread nD τ) (ms0_15 t) fullShare ((data m 0 c).after 15 t)
    ∗ owns (c : Thread nD τ) (ms0_16 t) fullShare ((data m 0 c).after 16 t)
    ∗ owns (c : Thread nD τ) (ms0_17 t) fullShare ((data m 0 c).after 17 t)
    ∗ owns (c : Thread nD τ) (ms0_18 t) fullShare ((data m 0 c).after 18 t)
    ∗ owns (c : Thread nD τ) (ms0_19 t) fullShare ((data m 0 c).after 19 t)
    ∗ owns (c : Thread nD τ) (ms0_20 t) fullShare ((data m 0 c).after 20 t)
    ∗ owns (c : Thread nD τ) (ms0_21 t) fullShare ((data m 0 c).after 21 t)
    ∗ owns (c : Thread nD τ) (ms0_22 t) fullShare ((data m 0 c).after 22 t)
    ∗ owns (c : Thread nD τ) (ms0_23 t) fullShare ((data m 0 c).after 23 t)
    ∗ owns (c : Thread nD τ) (ms0_24 t) fullShare ((data m 0 c).after 24 t)
    ∗ owns (c : Thread nD τ) (ms0_25 t) fullShare ((data m 0 c).after 25 t))

set_option maxHeartbeats 4000000 in
theorem body (c : Dev nD) (t : Fin cfg0.N) :
    taken m c t ⊢ wp frame (wpE (defs₀ (F := F)) Variants.none c none) Set.univ (bodyAt0 t) (fun _ => given m c t) := by
  unfold taken given bodyAt0
  simp only [held0, held1, held2, held3, held4, held5, held6, held7, held8, held9, held10, held11, held12, held13, held14, held15, held16, held17]
  rw [show (data m 0 c).Φ t.succ = (data m 0 c).Φ t.castSucc from rfl,
    show (data m 0 c).owesAt () t.succ = (data m 0 c).owesAt () t.castSucc from rfl,
    after0, after1, after2, after3, after4, after5, after6, after7, after8, after9, after10, after11, after12, after13, after14, after15, after16, after17, after18, after19, after20, after21, after22, after23, after24, after25]
  unfold left18 left19 left20 left21 left22 left23 left24 left25
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (stores m c t).2.2.2.2.2.2.2.2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (covered18 m c t)
  isplitl [H19]
  · unfold owns; iexists _; isplitr
    swap; · iexact H19
    ipureintro; exact View.read_writes_of_cover _ _ _ _ _ (covered19 m c t)
  isplitl [H20]
  · unfold owns; iexists _; isplitr
    swap; · iexact H20
    ipureintro; exact View.read_writes_of_cover _ _ _ _ _ (covered20 m c t)
  isplitl [H21]
  · unfold owns; iexists _; isplitr
    swap; · iexact H21
    ipureintro; exact View.read_writes_of_cover _ _ _ _ _ (covered21 m c t)
  isplitl [H22]
  · unfold owns; iexists _; isplitr
    swap; · iexact H22
    ipureintro; exact View.read_writes_of_cover _ _ _ _ _ (covered22 m c t)
  isplitl [H23]
  · unfold owns; iexists _; isplitr
    swap; · iexact H23
    ipureintro; exact View.read_writes_of_cover _ _ _ _ _ (covered23 m c t)
  isplitl [H24]
  · unfold owns; iexists _; isplitr
    swap; · iexact H24
    ipureintro; exact View.read_writes_of_cover _ _ _ _ _ (covered24 m c t)
  unfold owns; iexists _; isplitr
  swap; · iexact H25
  ipureintro; exact View.read_writes_of_cover _ _ _ _ _ (covered25 m c t)

set_option maxHeartbeats 1600000 in
theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body m c t) rfl .rfl fun _ => .rfl

/-! ## Every run -/

set_option backward.isDefEq.respectTransparency.types false in
set_option maxHeartbeats 800000 in
/-- Every run ends with the pipeline's arrays at the data's final contents, and every counter at zero. -/
theorem ends : θ_run defs (onTc (τ := τ) (main (F := F))) (s₀ m ρ) (fun r => (Pipeline.FramePost cfgs (data m) 0 (Pipeline.afterTail₀ cfgs (data m) 0 (V0 m) [hostOps1])) r ∧ r.2.sem = fun _ => 0) :=
  Pipeline.θ_run_frame_around (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hmain := hmain m Variants.none) (hA := entry m) (hΦ := fun _ _ => rfl)

theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0) :=
  θ_run_and (frame_of m ρ (data m) (entry m) ((θ_run defs _ _).mono (fun _ h => h.1) (ends m ρ)))
    ((θ_run defs _ _).mono (fun _ h => h.2) (ends m ρ))

end Cert.MixIdeal.Whole

end
-- ==== Proof.MixFun.lean ====
module

public import Idealize.ShloMosaic.Lib.Pipeline.ValueKit

/-!
The steps of the four recurrences on single entries, and the sums of a product with one column kept.
-/

@[expose] public section

noncomputable section

namespace Cert.MixFun

open Idealize.ShloMosaic

/-- log (1 + exp z). -/
def softplus (z : EReal) : EReal :=
  if z ≠ z then z else max z 0 + Ideal.log1p (Ideal.exp (-(FloatOps.absf (F := Ideal) (φ := .f32) z)))

/-- log of the sigmoid. -/
def logSig (z : EReal) : EReal := -softplus (-z)

def scale : EReal := Ideal.ofBits .f32 1035273459#32

/-- A head's key turned by the position's angle, with the cosines `c` and the sines `s`. -/
def turned (x : Fin 128 → EReal) (c s : Fin 64 → EReal) (a : Fin 128) : EReal :=
  if h : (a : ℕ) < 64 then x a * c ⟨a, h⟩ - x ⟨64 + a, by omega⟩ * s ⟨a, h⟩
  else x ⟨a - 64, by omega⟩ * s ⟨a - 64, by omega⟩ + x a * c ⟨a - 64, by omega⟩

/-- The new stabilizer from the old one and the two gates. -/
def stab (s f i : EReal) : EReal := max (s + logSig f) i

def decay (s f i : EReal) : EReal := Ideal.exp (s + logSig f - stab s f i)

def inputGate (s f i : EReal) : EReal := Ideal.exp (i - stab s f i)

/-- The decay of the gated linear attention. -/
def linDecay (z : EReal) : EReal := Ideal.exp (logSig z * Ideal.ofBits .f32 1031798784#32)

/-- A sum that keeps one column. -/
theorem pick (j : ℕ) (hj : j < 128) (f : Fin 128 → EReal) :
    ∑ x : Fin 128, Scalar.select (IntOp.cmpi .eq (BitVec.ofNat 32 ↑x) (BitVec.ofNat 32 j)) (f x) 0 = f ⟨j, hj⟩ := by
  rw [Finset.sum_eq_single (⟨j, hj⟩ : Fin 128)]
  · simp [Scalar.select, IntOp.cmpi]
  · intro b _ hb
    have : BitVec.ofNat 32 (b : ℕ) ≠ BitVec.ofNat 32 j := by
      intro h
      apply hb
      have h' := congrArg BitVec.toNat h
      simp only [BitVec.toNat_ofNat] at h'
      have hb' := b.isLt
      rw [Nat.mod_eq_of_lt (by omega), Nat.mod_eq_of_lt (by omega)] at h'
      exact Fin.ext h'
    simp [Scalar.select, IntOp.cmpi, beq_eq_false_iff_ne.mpr this]
  · simp

/-- The same over the eight samples of a block. -/
theorem pick8 (j : ℕ) (hj : j < 8) (f : Fin 8 → EReal) :
    ∑ x : Fin 8, Scalar.select (IntOp.cmpi .eq (BitVec.ofNat 32 ↑x) (BitVec.ofNat 32 j)) (f x) 0 = f ⟨j, hj⟩ := by
  rw [Finset.sum_eq_single (⟨j, hj⟩ : Fin 8)]
  · simp [Scalar.select, IntOp.cmpi]
  · intro b _ hb
    have : BitVec.ofNat 32 (b : ℕ) ≠ BitVec.ofNat 32 j := by
      intro h
      apply hb
      have h' := congrArg BitVec.toNat h
      simp only [BitVec.toNat_ofNat] at h'
      have hb' := b.isLt
      rw [Nat.mod_eq_of_lt (by omega), Nat.mod_eq_of_lt (by omega)] at h'
      exact Fin.ext h'
    simp [Scalar.select, IntOp.cmpi, beq_eq_false_iff_ne.mpr this]
  · simp

end Cert.MixFun

end
-- ==== Proof.MixRef.lean ====
module

public import proofs.«01_k».proof.Proof.Gen.MixRefIdeal.Read
public import Idealize.ShloMosaic.Lib.Pipeline.ValueKit
public import proofs.«01_k».proof.Proof.MixFun

/-!
The six arrays of the reference, entry by entry: the written layer's entries are the recurrences' steps, the other
layer's are the array's given.
-/

@[expose] public section

set_option maxRecDepth 16384

noncomputable section

namespace Cert.MixRef

open Cert.MixRefIdeal Cert.MixFun
open Idealize.ShloMosaic Idealize.ShloMosaic.TcCoe
open Cert.MixRefIdeal.Read

/-! ## Retention -/

theorem ret_at (x0 : Vec Ideal S8320x8192 .f32) (s p : Vec Ideal S2x128x4x128x128 .f32) (i : Fin 128) (h : Fin 4) (a b : Fin 128) :
    val_main_v138 (F := Ideal) x0 s p (ix5 1 i h a b)
    = val_main_v39 (F := Ideal) (ix1 h) * s (ix5 1 i h a b)
      + val_main_v34 (F := Ideal) x0 (ix3 i h a) * x0 (ix2 ⟨8192 + i, by omega⟩ ⟨1024 + (h * 128 + b), by omega⟩) := by
  unfold val_main_v138 val_main_v137 val_main_v53 val_main_v52 val_main_v51 val_main_v50 val_main_v46 val_main_v45 val_main_v44 val_main_v43 val_main_v40
  generalize val_main_v39 (F := Ideal) = G
  generalize val_main_v34 (F := Ideal) x0 = K
  pointwise [val_main_v136, val_main_v49, val_main_v48, val_main_v47, val_main_v42, val_main_v41, val_main_v0]

theorem ret_kept (x0 : Vec Ideal S8320x8192 .f32) (s p : Vec Ideal S2x128x4x128x128 .f32) (i : Fin 128) (h : Fin 4) (a b : Fin 128) :
    val_main_v138 (F := Ideal) x0 s p (ix5 0 i h a b) = p (ix5 0 i h a b) := by
  unfold val_main_v138
  generalize val_main_v137 (F := Ideal) x0 s = G
  pointwise [val_main_v136]

theorem gamma0 : val_main_v39 (F := Ideal) (ix1 0) = Ideal.ofBits .f32 0x3F780000#32 := by
  pointwise [val_main_v39, val_main_v35, val_main_v36, val_main_v37, val_main_v38, val_main_cst_3, val_main_cst_4, val_main_cst_5, val_main_cst_6]

theorem gamma1 : val_main_v39 (F := Ideal) (ix1 1) = Ideal.ofBits .f32 0x3F7C0000#32 := by
  pointwise [val_main_v39, val_main_v35, val_main_v36, val_main_v37, val_main_v38, val_main_cst_3, val_main_cst_4, val_main_cst_5, val_main_cst_6]

theorem gamma2 : val_main_v39 (F := Ideal) (ix1 2) = Ideal.ofBits .f32 0x3F7E0000#32 := by
  pointwise [val_main_v39, val_main_v35, val_main_v36, val_main_v37, val_main_v38, val_main_cst_3, val_main_cst_4, val_main_cst_5, val_main_cst_6]

theorem gamma3 : val_main_v39 (F := Ideal) (ix1 3) = Ideal.ofBits .f32 0x3F7F0000#32 := by
  pointwise [val_main_v39, val_main_v35, val_main_v36, val_main_v37, val_main_v38, val_main_cst_3, val_main_cst_4, val_main_cst_5, val_main_cst_6]

theorem key_at (x0 : Vec Ideal S8320x8192 .f32) (i : Fin 128) (h : Fin 4) (a : Fin 128) :
    val_main_v34 (F := Ideal) x0 (ix3 i h a)
    = turned (fun l => x0 (ix2 ⟨8192 + i, by omega⟩ ⟨512 + (h * 128 + l), by omega⟩)) (fun l => val_main_v14 (F := Ideal) (ix1 l)) (fun l => val_main_v15 (F := Ideal) (ix1 l)) a * scale := by
  unfold turned scale
  by_cases ha : (a : ℕ) < 64
  · obtain ⟨a', rfl⟩ : ∃ a' : Fin 64, a = ⟨(a' : ℕ), Nat.lt_trans a'.isLt (by decide)⟩ := ⟨⟨a, ha⟩, rfl⟩
    rw [dif_pos ha]
    pointwise [val_main_v34, val_main_v33, val_main_cst_2, val_main_v32, val_main_v24, val_main_v20, val_main_v23, val_main_v22, val_main_v21, val_main_v19, val_main_v18, val_main_v16, val_main_v17, val_main_v2, val_main_v1, val_main_v0]
  · obtain ⟨a', rfl⟩ : ∃ a' : Fin 64, a = ⟨64 + (a' : ℕ), Nat.add_lt_add_left a'.isLt 64⟩ :=
      ⟨⟨a - 64, by have := a.isLt; omega⟩, Fin.ext (by have := a.isLt; simp only; omega)⟩
    rw [dif_neg ha]
    simp only [Nat.add_sub_cancel_left]
    pointwise [val_main_v34, val_main_v33, val_main_cst_2, val_main_v32, val_main_v31, val_main_v30, val_main_v29, val_main_v28, val_main_v27, val_main_v26, val_main_v25, val_main_v16, val_main_v17, val_main_v2, val_main_v1, val_main_v0]

/-! ## The matrix memory -/

theorem mint_at (x0 : Vec Ideal S8320x8192 .f32) (x1 x2 : Vec Ideal S2x4 .f32) (x14 : Vec Ideal S2x128x4 .f32) (i : Fin 128) (h : Fin 4) :
    val_main_v69 (F := Ideal) x0 x2 x14 (ix2 i h) = x14 (ix3 1 i h) + logSig (x0 (ix2 ⟨8192 + i, by omega⟩ ⟨7684 + h, by omega⟩) + x2 (ix2 1 h)) := by
  unfold logSig softplus
  pointwise [val_main_v69, val_main_v68, val_main_v67, val_main_v66, val_main_v65, val_main_v64, val_main_v63, val_main_v62, val_main_v61, val_main_v60, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst, val_main_v0]

theorem ipre_at (x0 : Vec Ideal S8320x8192 .f32) (x1 x2 : Vec Ideal S2x4 .f32) (x14 : Vec Ideal S2x128x4 .f32) (i : Fin 128) (h : Fin 4) :
    val_main_v59 (F := Ideal) x0 x1 (ix2 i h) = x0 (ix2 ⟨8192 + i, by omega⟩ ⟨7680 + h, by omega⟩) + x1 (ix2 1 h) := by
  pointwise [val_main_v59, val_main_v58, val_main_v57, val_main_v56, val_main_v55, val_main_v54, val_main_v0]

theorem stab_at (x0 : Vec Ideal S8320x8192 .f32) (x1 x2 : Vec Ideal S2x4 .f32) (x14 : Vec Ideal S2x128x4 .f32) (i : Fin 128) (h : Fin 4) :
    val_main_v70 (F := Ideal) x0 x1 x2 x14 (ix2 i h)
    = stab (x14 (ix3 1 i h)) (x0 (ix2 ⟨8192 + i, by omega⟩ ⟨7684 + h, by omega⟩) + x2 (ix2 1 h)) (x0 (ix2 ⟨8192 + i, by omega⟩ ⟨7680 + h, by omega⟩) + x1 (ix2 1 h)) := by
  rw [stab, ← mint_at x0 x1 x2 x14 i h, ← ipre_at x0 x1 x2 x14 i h]
  unfold val_main_v70
  generalize val_main_v69 (F := Ideal) x0 x2 x14 = A
  generalize val_main_v59 (F := Ideal) x0 x1 = B
  pointwise []

theorem decay_at (x0 : Vec Ideal S8320x8192 .f32) (x1 x2 : Vec Ideal S2x4 .f32) (x14 : Vec Ideal S2x128x4 .f32) (i : Fin 128) (h : Fin 4) :
    val_main_v72 (F := Ideal) x0 x1 x2 x14 (ix2 i h)
    = decay (x14 (ix3 1 i h)) (x0 (ix2 ⟨8192 + i, by omega⟩ ⟨7684 + h, by omega⟩) + x2 (ix2 1 h)) (x0 (ix2 ⟨8192 + i, by omega⟩ ⟨7680 + h, by omega⟩) + x1 (ix2 1 h)) := by
  rw [decay, ← stab_at, ← mint_at x0 x1 x2 x14 i h]
  unfold val_main_v72 val_main_v71
  generalize val_main_v69 (F := Ideal) x0 x2 x14 = A
  generalize val_main_v70 (F := Ideal) x0 x1 x2 x14 = B
  pointwise []

theorem mkey_at (x0 : Vec Ideal S8320x8192 .f32) (x1 x2 : Vec Ideal S2x4 .f32) (x14 : Vec Ideal S2x128x4 .f32) (i : Fin 128) (h : Fin 4) (a : Fin 128) :
    val_main_v81 (F := Ideal) x0 x1 x2 x14 (ix3 i h a)
    = x0 (ix2 ⟨8192 + i, by omega⟩ ⟨2560 + (h * 128 + a), by omega⟩) * scale
      * inputGate (x14 (ix3 1 i h)) (x0 (ix2 ⟨8192 + i, by omega⟩ ⟨7684 + h, by omega⟩) + x2 (ix2 1 h)) (x0 (ix2 ⟨8192 + i, by omega⟩ ⟨7680 + h, by omega⟩) + x1 (ix2 1 h)) := by
  rw [inputGate, ← stab_at, ← ipre_at x0 x1 x2 x14 i h, scale]
  unfold val_main_v81 val_main_v80 val_main_v79 val_main_v78 val_main_v77
  generalize val_main_v70 (F := Ideal) x0 x1 x2 x14 = A
  generalize val_main_v59 (F := Ideal) x0 x1 = B
  pointwise [val_main_v76, val_main_v75, val_main_v74, val_main_v73, val_main_cst_7, val_main_v0]

theorem mem_at (x0 : Vec Ideal S8320x8192 .f32) (x1 x2 : Vec Ideal S2x4 .f32) (x14 : Vec Ideal S2x128x4 .f32) (s p : Vec Ideal S2x128x4x128x128 .f32) (i : Fin 128) (h : Fin 4) (a b : Fin 128) :
    val_main_v141 (F := Ideal) x0 x1 x2 s x14 p (ix5 1 i h a b)
    = val_main_v72 (F := Ideal) x0 x1 x2 x14 (ix2 i h) * s (ix5 1 i h a b)
      + val_main_v81 (F := Ideal) x0 x1 x2 x14 (ix3 i h a) * x0 (ix2 ⟨8192 + i, by omega⟩ ⟨3072 + (h * 128 + b), by omega⟩) := by
  unfold val_main_v141 val_main_v140 val_main_v94 val_main_v93 val_main_v91 val_main_v87 val_main_v86 val_main_v85 val_main_v82
  generalize val_main_v72 (F := Ideal) x0 x1 x2 x14 = A
  generalize val_main_v81 (F := Ideal) x0 x1 x2 x14 = B
  pointwise [val_main_v139, val_main_v92, val_main_v90, val_main_v89, val_main_v88, val_main_v84, val_main_v83, val_main_v0]

theorem mem_kept (x0 : Vec Ideal S8320x8192 .f32) (x1 x2 : Vec Ideal S2x4 .f32) (x14 : Vec Ideal S2x128x4 .f32) (s p : Vec Ideal S2x128x4x128x128 .f32) (i : Fin 128) (h : Fin 4) (a b : Fin 128) :
    val_main_v141 (F := Ideal) x0 x1 x2 s x14 p (ix5 0 i h a b) = p (ix5 0 i h a b) := by
  unfold val_main_v141
  generalize val_main_v140 (F := Ideal) x0 x1 x2 s x14 = G
  pointwise [val_main_v139]

theorem sum_at (x0 : Vec Ideal S8320x8192 .f32) (x1 x2 : Vec Ideal S2x4 .f32) (x14 : Vec Ideal S2x128x4 .f32) (s p : Vec Ideal S2x128x4x128 .f32) (i : Fin 128) (h : Fin 4) (a : Fin 128) :
    val_main_v144 (F := Ideal) x0 x1 x2 s x14 p (ix4 1 i h a)
    = val_main_v72 (F := Ideal) x0 x1 x2 x14 (ix2 i h) * s (ix4 1 i h a) + val_main_v81 (F := Ideal) x0 x1 x2 x14 (ix3 i h a) := by
  unfold val_main_v144 val_main_v143 val_main_v100 val_main_v99 val_main_v98 val_main_v95
  generalize val_main_v72 (F := Ideal) x0 x1 x2 x14 = A
  generalize val_main_v81 (F := Ideal) x0 x1 x2 x14 = B
  pointwise [val_main_v142, val_main_v97, val_main_v96]

theorem sum_kept (x0 : Vec Ideal S8320x8192 .f32) (x1 x2 : Vec Ideal S2x4 .f32) (x14 : Vec Ideal S2x128x4 .f32) (s p : Vec Ideal S2x128x4x128 .f32) (i : Fin 128) (h : Fin 4) (a : Fin 128) :
    val_main_v144 (F := Ideal) x0 x1 x2 s x14 p (ix4 0 i h a) = p (ix4 0 i h a) := by
  unfold val_main_v144
  generalize val_main_v143 (F := Ideal) x0 x1 x2 s x14 = G
  pointwise [val_main_v142]

theorem lane_at (x0 : Vec Ideal S8320x8192 .f32) (x1 x2 : Vec Ideal S2x4 .f32) (x14 : Vec Ideal S2x128x4 .f32) (p : Vec Ideal S2x128x128 .f32) (i : Fin 128) (h : Fin 4) :
    val_main_v148 (F := Ideal) x0 x1 x2 x14 p (ix3 1 i h) = val_main_v70 (F := Ideal) x0 x1 x2 x14 (ix2 i h) := by
  unfold val_main_v148 val_main_v147
  generalize val_main_v70 (F := Ideal) x0 x1 x2 x14 = A
  pointwise [val_main_v146, val_main_v145]

theorem lane_kept (x0 : Vec Ideal S8320x8192 .f32) (x1 x2 : Vec Ideal S2x4 .f32) (x14 : Vec Ideal S2x128x4 .f32) (p : Vec Ideal S2x128x128 .f32) (i : Fin 128) (h : Fin 4) :
    val_main_v148 (F := Ideal) x0 x1 x2 x14 p (ix3 0 i h) = p (ix3 0 i ⟨h, by omega⟩) := by
  unfold val_main_v148
  generalize val_main_v147 (F := Ideal) x0 x1 x2 x14 = G
  pointwise [val_main_v146, val_main_v145]

/-! ## The rows of the gated delta rule's convolution -/

theorem tail_at (x0 : Vec Ideal S8320x8192 .f32) (x16 : Vec Ideal S2x128x3x1536 .f32) (x24 : Vec Ideal S2x3x128x1536 .f32) (w : Fin 3) (i : Fin 128) (a : Fin 1536) :
    val_main_v152 (F := Ideal) x0 x16 x24 (ix4 1 w i a)
    = if h : 1 + (w : ℕ) < 3 then x16 (ix4 1 i ⟨1 + w, h⟩ a) else x0 (ix2 ⟨8192 + i, by omega⟩ ⟨4096 + a, by omega⟩) := by
  pointwise [val_main_v152, val_main_v151, val_main_v150, val_main_v149, val_main_v106, val_main_v105, val_main_v104, val_main_v103, val_main_v102, val_main_v101, val_main_v0]

theorem tail_kept (x0 : Vec Ideal S8320x8192 .f32) (x16 : Vec Ideal S2x128x3x1536 .f32) (x24 : Vec Ideal S2x3x128x1536 .f32) (w : Fin 3) (i : Fin 128) (a : Fin 1536) :
    val_main_v152 (F := Ideal) x0 x16 x24 (ix4 0 w i a) = x24 (ix4 0 w i a) := by
  unfold val_main_v152
  generalize val_main_v151 (F := Ideal) x0 x16 = G
  pointwise [val_main_v150]

/-! ## The gated linear attention -/

theorem ldecay_at (x0 : Vec Ideal S8320x8192 .f32) (x8 : Vec Ideal S2x16x256 .f32) (x9 : Vec Ideal S2x256 .f32) (i : Fin 128) (l : Fin 256) :
    val_main_v119 (F := Ideal) x0 x8 x9 (ix2 i l)
    = linDecay (∑ x : Fin 16, x0 (ix2 ⟨8192 + i, by omega⟩ ⟨7696 + x, by omega⟩) * x8 (ix3 1 x l) + x9 (ix2 1 l)) := by
  unfold linDecay logSig softplus
  pointwise [val_main_v119, val_main_v118, val_main_v117, val_main_v116, val_main_v115, val_main_v114, val_main_v113, val_main_v112, val_main_v111, val_main_v110, val_main_v109, val_main_v108, val_main_v107, val_main_v0, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_v0, val_main_call1_call0_cst, val_main_cst_8]

theorem lin_at (x0 : Vec Ideal S8320x8192 .f32) (x8 : Vec Ideal S2x16x256 .f32) (x9 : Vec Ideal S2x256 .f32) (x17 : Vec Ideal S2x128x4x64x128 .f32) (x25 : Vec Ideal S2x128x2x128x128 .f32) (i : Fin 128) (p : Fin 2) (a b : Fin 128) :
    val_main_v156 (F := Ideal) x0 x8 x9 x17 x25 (ix5 1 i p a b)
    = val_main_v119 (F := Ideal) x0 x8 x9 (ix2 i ⟨(p * 2 + a / 64) * 64 + a % 64, by omega⟩) * x17 (ix5 1 i ⟨p * 2 + a / 64, by omega⟩ ⟨a % 64, by omega⟩ b)
      + x0 (ix2 ⟨8192 + i, by omega⟩ ⟨6400 + ((p * 2 + a / 64) * 64 + a % 64), by omega⟩) * x0 (ix2 ⟨8192 + i, by omega⟩ ⟨6656 + ((p * 2 + a / 64) * 128 + b), by omega⟩) := by
  unfold val_main_v156 val_main_v155 val_main_v153 val_main_v135 val_main_v127 val_main_v126 val_main_v123 val_main_v120
  generalize val_main_v119 (F := Ideal) x0 x8 x9 = A
  pointwise [val_main_v134, val_main_v133, val_main_v132, val_main_v131, val_main_v130, val_main_v129, val_main_v128, val_main_v154, val_main_v0, val_main_v121, val_main_v122, val_main_v124, val_main_v125]

theorem lin_kept (x0 : Vec Ideal S8320x8192 .f32) (x8 : Vec Ideal S2x16x256 .f32) (x9 : Vec Ideal S2x256 .f32) (x17 : Vec Ideal S2x128x4x64x128 .f32) (x25 : Vec Ideal S2x128x2x128x128 .f32) (i : Fin 128) (p : Fin 2) (a b : Fin 128) :
    val_main_v156 (F := Ideal) x0 x8 x9 x17 x25 (ix5 0 i p a b) = x25 (ix5 0 i p a b) := by
  unfold val_main_v156
  generalize val_main_v155 (F := Ideal) x0 x8 x9 x17 = G
  pointwise [val_main_v154]

end Cert.MixRef

end
-- ==== Proof.MixBlk.lean ====
module

public import proofs.«01_k».proof.Proof.MixWhole
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
What the sample mixers' operands hold at a grid point, in the call's own arguments: eight samples a point.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

/-- Argument arrays by their places. -/
abbrev A0 (c : Dev nD) : Vec Ideal S8320x8192 .f32 := m ((c : Thread nD τ).loc main_arg0)
abbrev A1 (c : Dev nD) : Vec Ideal S2x4 .f32 := m ((c : Thread nD τ).loc main_arg1)
abbrev A2 (c : Dev nD) : Vec Ideal S2x4 .f32 := m ((c : Thread nD τ).loc main_arg2)
abbrev A4 (c : Dev nD) : Vec Ideal S2x4x1536 .f32 := m ((c : Thread nD τ).loc main_arg4)
abbrev A5 (c : Dev nD) : Vec Ideal S2x4 .f32 := m ((c : Thread nD τ).loc main_arg5)
abbrev A6 (c : Dev nD) : Vec Ideal S2x4 .f32 := m ((c : Thread nD τ).loc main_arg6)
abbrev A8 (c : Dev nD) : Vec Ideal S2x16x256 .f32 := m ((c : Thread nD τ).loc main_arg8)
abbrev A9 (c : Dev nD) : Vec Ideal S2x256 .f32 := m ((c : Thread nD τ).loc main_arg9)
abbrev A11 (c : Dev nD) : Vec Ideal S2x128x4x128x128 .f32 := m ((c : Thread nD τ).loc main_arg11)
abbrev A12 (c : Dev nD) : Vec Ideal S2x128x4x128x128 .f32 := m ((c : Thread nD τ).loc main_arg12)
abbrev A13 (c : Dev nD) : Vec Ideal S2x128x4x128 .f32 := m ((c : Thread nD τ).loc main_arg13)
abbrev A14 (c : Dev nD) : Vec Ideal S2x128x4 .f32 := m ((c : Thread nD τ).loc main_arg14)
abbrev A15 (c : Dev nD) : Vec Ideal S2x128x4x128x128 .f32 := m ((c : Thread nD τ).loc main_arg15)
abbrev A16 (c : Dev nD) : Vec Ideal S2x128x3x1536 .f32 := m ((c : Thread nD τ).loc main_arg16)
abbrev A17 (c : Dev nD) : Vec Ideal S2x128x4x64x128 .f32 := m ((c : Thread nD τ).loc main_arg17)

theorem idx : ∀ t : Fin cfg0.N, win0_0.index t = ![1024 + t.val, 0] ∧ win0_11.index t = ![1, t.val, 0, 0, 0] ∧ win0_12.index t = ![1, t.val, 0, 0, 0]
    ∧ win0_13.index t = ![1, t.val, 0, 0] ∧ win0_14.index t = ![1, t.val, 0] ∧ win0_15.index t = ![1, t.val, 0, 0, 0]
    ∧ win0_16.index t = ![1, 0, t.val, 0] ∧ win0_17.index t = ![1, t.val, 0, 0, 0] := (by decide +kernel : ∀ t : Fin grid0.N, _)

theorem idxOut : ∀ t : Fin cfg0.N, win0_19.index t = ![1, t.val, 0, 0, 0] ∧ win0_20.index t = ![1, t.val, 0, 0, 0]
    ∧ win0_21.index t = ![1, t.val, 0, 0] ∧ win0_22.index t = ![1, t.val, 0] ∧ win0_23.index t = ![1, t.val, 0, 0, 0]
    ∧ win0_24.index t = ![1, 0, t.val, 0] ∧ win0_25.index t = ![1, t.val, 0, 0, 0] := (by decide +kernel : ∀ t : Fin grid0.N, _)

theorem idxRow : ∀ t : Fin cfg0.N, win0_1.index t = ![0, 0] ∧ win0_2.index t = ![0, 0] ∧ win0_3.index t = ![0, 0] ∧ win0_4.index t = ![0, 0]
    ∧ win0_5.index t = ![0, 0] ∧ win0_9.index t = ![0, 0] ∧ win0_10.index t = ![0, 0] := (by decide +kernel : ∀ t : Fin grid0.N, _)

/-- Sample `j` of grid point `t`. -/
abbrev smp (t : Fin cfg0.N) (j : Fin 8) : Fin 128 := ⟨t.val * 8 + j, by have ht := t.isLt; have : cfg0.N = 16 := rfl; have := j.isLt; omega⟩

theorem row0 (c : Dev nD) (t : Fin cfg0.N) (j : Fin 8) (k : Fin 8192) :
    iblk m c 0 t (ix2 j k) = A0 m c (ix2 ⟨8192 + (smp t j : ℕ), by have := (smp t j).isLt; omega⟩ k) := by
  blk_point [iblk, V, idx t]
  all_goals omega

theorem rowAt (c : Dev nD) (t : Fin cfg0.N) (j : Fin 8) (x y : ℕ) (qx : x < 8192) (qy : y < 8192) (h : x = y) :
    iblk m c 0 t (ix2 j ⟨x, qx⟩) = A0 m c (ix2 ⟨8192 + (smp t j : ℕ), by have := (smp t j).isLt; omega⟩ ⟨y, qy⟩) := by
  subst h
  exact row0 m c t j _

theorem st11 (c : Dev nD) (t : Fin cfg0.N) (j : Fin 8) (h : Fin 4) (a b : Fin 128) : iblk m c 11 t (ix5 0 j h a b) = A11 m c (ix5 1 (smp t j) h a b) := by
  blk_point [iblk, V, idx t]

theorem st12 (c : Dev nD) (t : Fin cfg0.N) (j : Fin 8) (h : Fin 4) (a b : Fin 128) : iblk m c 12 t (ix5 0 j h a b) = A12 m c (ix5 1 (smp t j) h a b) := by
  blk_point [iblk, V, idx t]

theorem st13 (c : Dev nD) (t : Fin cfg0.N) (j : Fin 8) (h : Fin 4) (a : Fin 128) : iblk m c 13 t (ix4 0 j h a) = A13 m c (ix4 1 (smp t j) h a) := by
  blk_point [iblk, V, idx t]

theorem st15 (c : Dev nD) (t : Fin cfg0.N) (j : Fin 8) (h : Fin 4) (a b : Fin 128) : iblk m c 15 t (ix5 0 j h a b) = A15 m c (ix5 1 (smp t j) h a b) := by
  blk_point [iblk, V, idx t]

end Cert.MixIdeal.Whole

end
-- ==== Proof.MixHost.lean ====
module

public import proofs.«01_k».proof.Proof.MixBlk
public import Idealize.ShloMosaic.Lib.StableHlo.ReadAt
public import Idealize.ShloMosaic.Lib.StableHlo.RunClose
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
What the operands the host prepares for the sample mixers hold, in the call's own arguments.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

set_option maxHeartbeats 2000000

variable (m : (ℓ : Loc nD τ sig) → Buf (Elt Ideal) ℓ)

/-! ## Operands the host prepares -/

theorem in14 (c : Dev nD) (i : Fin 128) (h : Fin 4) : V m c main_v18 (ix3 1 i ⟨h, by omega⟩) = A14 m c (ix3 1 i h) := by
  unfold V V0
  simp only [hostOps0, hostOps0_1, hostOps0_2, List.flatten_cons, List.flatten_nil, List.append_nil, List.cons_append, List.nil_append]
  after_reads_at

theorem in16 (c : Dev nD) (i : Fin 128) (d : Fin 3) (k : Fin 1536) : V m c main_v19 (ix4 1 d i k) = A16 m c (ix4 1 i d k) := by
  unfold V V0
  simp only [hostOps0, hostOps0_1, hostOps0_2, List.flatten_cons, List.flatten_nil, List.append_nil, List.cons_append, List.nil_append]
  after_reads_at

theorem in17 (c : Dev nD) (i : Fin 128) (h : Fin 2) (a b : Fin 128) :
    V m c main_v20 (ix5 1 i h a b) = A17 m c (ix5 1 i ⟨h * 2 + a / 64, by omega⟩ ⟨a % 64, by omega⟩ b) := by
  unfold V V0
  simp only [hostOps0, hostOps0_1, hostOps0_2, List.flatten_cons, List.flatten_nil, List.append_nil, List.cons_append, List.nil_append]
  after_reads_at

theorem inCos (c : Dev nD) (a : Fin 64) :
    V m c main_v15 (ix2 0 ⟨a, by omega⟩) = val_main_v14 (F := Ideal) (ix1 a) ∧ V m c main_v15 (ix2 0 ⟨64 + a, by omega⟩) = val_main_v14 (F := Ideal) (ix1 a) := by
  unfold V V0
  simp only [hostOps0, hostOps0_1, hostOps0_2, List.flatten_cons, List.flatten_nil, List.append_nil, List.cons_append, List.nil_append]
  constructor <;> after_reads_at <;> pointwise [val_main_v14, val_main_v13, val_main_v12, val_main_v11, val_main_v10, val_main_v9, val_main_v8, val_main_v7, val_main_v6, val_main_v5, val_main_v4, val_main_v3, val_main_cst, val_main_cst_0, val_main_cst_1]

theorem inSin (c : Dev nD) (a : Fin 64) :
    V m c main_v17 (ix2 0 ⟨a, by omega⟩) = - val_main_v15 (F := Ideal) (ix1 a) ∧ V m c main_v17 (ix2 0 ⟨64 + a, by omega⟩) = val_main_v15 (F := Ideal) (ix1 a) := by
  unfold V V0
  simp only [hostOps0, hostOps0_1, hostOps0_2, List.flatten_cons, List.flatten_nil, List.append_nil, List.cons_append, List.nil_append]
  constructor <;> after_reads_at <;> pointwise [val_main_v15, val_main_v13, val_main_v12, val_main_v11, val_main_v10, val_main_v9, val_main_v8, val_main_v7, val_main_v6, val_main_v5, val_main_v4, val_main_v3, val_main_cst, val_main_cst_0, val_main_cst_1]

theorem g0_0 (p : S1x4.rank = S1x128.rank) : Host.clampedStart S1x128 S1x4 p (fun k => BitVec.toInt ((![constantI S_ 32 0#32, constantI S_ 32 0#32] : Fin 2 → _) k (Shape.Idx.first h_S_))) 0 = 0 := rfl

theorem g0_1 (p : S1x4.rank = S1x128.rank) : Host.clampedStart S1x128 S1x4 p (fun k => BitVec.toInt ((![constantI S_ 32 0#32, constantI S_ 32 0#32] : Fin 2 → _) k (Shape.Idx.first h_S_))) 1 = 0 := rfl

theorem g4_0 (p : S1x4.rank = S1x128.rank) : Host.clampedStart S1x128 S1x4 p (fun k => BitVec.toInt ((![constantI S_ 32 0#32, constantI S_ 32 4#32] : Fin 2 → _) k (Shape.Idx.first h_S_))) 0 = 0 := rfl

theorem g4_1 (p : S1x4.rank = S1x128.rank) : Host.clampedStart S1x128 S1x4 p (fun k => BitVec.toInt ((![constantI S_ 32 0#32, constantI S_ 32 4#32] : Fin 2 → _) k (Shape.Idx.first h_S_))) 1 = 4 := rfl

theorem g12_0 (p : S1x4.rank = S1x128.rank) : Host.clampedStart S1x128 S1x4 p (fun k => BitVec.toInt ((![constantI S_ 32 0#32, constantI S_ 32 12#32] : Fin 2 → _) k (Shape.Idx.first h_S_))) 0 = 0 := rfl

theorem g12_1 (p : S1x4.rank = S1x128.rank) : Host.clampedStart S1x128 S1x4 p (fun k => BitVec.toInt ((![constantI S_ 32 0#32, constantI S_ 32 12#32] : Fin 2 → _) k (Shape.Idx.first h_S_))) 1 = 12 := rfl

theorem low_0 (p : S16x256.rank = S128x256.rank) : Host.clampedStart S128x256 S16x256 p (fun k => BitVec.toInt ((![constantI S_ 32 16#32, constantI S_ 32 0#32] : Fin 2 → _) k (Shape.Idx.first h_S_))) 0 = 16 := rfl

theorem low_1 (p : S16x256.rank = S128x256.rank) : Host.clampedStart S128x256 S16x256 p (fun k => BitVec.toInt ((![constantI S_ 32 16#32, constantI S_ 32 0#32] : Fin 2 → _) k (Shape.Idx.first h_S_))) 1 = 0 := rfl

theorem inGate0 (c : Dev nD) (h : Fin 4) : V m c main_v33 (ix2 0 ⟨h, by omega⟩) = A1 m c (ix2 1 h) := by
  unfold V V0
  simp only [hostOps0, hostOps0_1, hostOps0_2, List.flatten_cons, List.flatten_nil, List.append_nil, List.cons_append, List.nil_append]
  after_results_simp_entrywise
  pointwise []
  rw [dif_neg (by simp only [g0_0, g0_1, g4_0, g4_1, g12_0, g12_1]; omega)]
  rw [dif_neg fun hh => hh.2.1]
  rw [dif_pos (by simp only [g0_0, g0_1, g4_0, g4_1, g12_0, g12_1]; omega)]
  exact congrArg (fun l => A1 m c (ix2 1 l)) (Fin.ext (by simp only [g0_0, g0_1, g4_0, g4_1, g12_0, g12_1]; omega))

theorem inGate1 (c : Dev nD) (h : Fin 4) : V m c main_v33 (ix2 0 ⟨4 + h, by omega⟩) = A2 m c (ix2 1 h) := by
  unfold V V0
  simp only [hostOps0, hostOps0_1, hostOps0_2, List.flatten_cons, List.flatten_nil, List.append_nil, List.cons_append, List.nil_append]
  after_results_simp_entrywise
  pointwise []
  rw [dif_neg (by simp only [g0_0, g0_1, g4_0, g4_1, g12_0, g12_1]; omega)]
  rw [dif_pos (by simp only [g0_0, g0_1, g4_0, g4_1, g12_0, g12_1]; omega)]
  exact congrArg (fun l => A2 m c (ix2 1 l)) (Fin.ext (by simp only [g0_0, g0_1, g4_0, g4_1, g12_0, g12_1]; omega))

theorem inGate3 (c : Dev nD) (h : Fin 4) : V m c main_v33 (ix2 0 ⟨12 + h, by omega⟩) = A6 m c (ix2 1 h) := by
  unfold V V0
  simp only [hostOps0, hostOps0_1, hostOps0_2, List.flatten_cons, List.flatten_nil, List.append_nil, List.cons_append, List.nil_append]
  after_results_simp_entrywise
  pointwise []
  rw [dif_pos (by simp only [g0_0, g0_1, g4_0, g4_1, g12_0, g12_1]; omega)]
  exact congrArg (fun l => A6 m c (ix2 1 l)) (Fin.ext (by simp only [g0_0, g0_1, g4_0, g4_1, g12_0, g12_1]; omega))

theorem inLog (c : Dev nD) (h : Fin 4) : V m c main_v38 (ix2 0 ⟨12 + h, by omega⟩) = A5 m c (ix2 1 h) := by
  unfold V V0
  simp only [hostOps0, hostOps0_1, hostOps0_2, List.flatten_cons, List.flatten_nil, List.append_nil, List.cons_append, List.nil_append]
  after_results_simp_entrywise
  pointwise []
  rw [dif_pos (by simp only [g0_0, g0_1, g4_0, g4_1, g12_0, g12_1]; omega)]
  exact congrArg (fun l => A5 m c (ix2 1 l)) (Fin.ext (by simp only [g0_0, g0_1, g4_0, g4_1, g12_0, g12_1]; omega))

theorem inConv (c : Dev nD) (d : Fin 4) (k : Fin 1536) : V m c main_v49 (ix2 d k) = A4 m c (ix3 1 d k) := by
  unfold V V0
  simp only [hostOps0, hostOps0_1, hostOps0_2, List.flatten_cons, List.flatten_nil, List.append_nil, List.cons_append, List.nil_append]
  after_results_simp_entrywise
  pointwise []

theorem inLow (c : Dev nD) (r : Fin 16) (k : Fin 256) : V m c main_v53 (ix2 ⟨16 + r, by omega⟩ k) = A8 m c (ix3 1 r k) := by
  unfold V V0
  simp only [hostOps0, hostOps0_1, hostOps0_2, List.flatten_cons, List.flatten_nil, List.append_nil, List.cons_append, List.nil_append]
  after_results_simp_entrywise
  pointwise []
  rw [dif_pos (by simp only [low_0, low_1]; omega)]
  exact congrArg₂ (fun l d => A8 m c (ix3 1 l d)) (Fin.ext (by simp only [low_0, low_1]; omega)) (Fin.ext (by simp only [low_0, low_1]; omega))

theorem inBias (c : Dev nD) (k : Fin 256) : V m c main_v56 (ix2 0 k) = A9 m c (ix2 1 k) := by
  unfold V V0
  simp only [hostOps0, hostOps0_1, hostOps0_2, List.flatten_cons, List.flatten_nil, List.append_nil, List.cons_append, List.nil_append]
  after_results_simp_entrywise
  pointwise []

end Cert.MixIdeal.Whole

end
-- ==== Proof.MixTurn.lean ====
module

public import proofs.«01_k».proof.Proof.MixHost
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
The rotated key rows of the sample mixers, read from the grid point's rows.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem cosRow (c : Dev nD) (t : Fin cfg0.N) (a : Fin 128) : iblk m c 1 t (ix2 0 a) = V m c main_v15 (ix2 0 a) := by
  blk_point [iblk, idxRow t]

theorem sinRow (c : Dev nD) (t : Fin cfg0.N) (a : Fin 128) : iblk m c 2 t (ix2 0 a) = V m c main_v17 (ix2 0 a) := by
  blk_point [iblk, idxRow t]

theorem ldRow (c : Dev nD) (t : Fin cfg0.N) (j : Fin 8) (k : Fin 512) : View.ld (iblk m c 0 t) (Rect.unit ![0, 512] ![8, 512] inb_S8x8192_S8x512_0_512) (ix2 j k) = iblk m c 0 t (ix2 j ⟨512 + k, by omega⟩) := by
  pointwise []

theorem turn_eq (c : Dev nD) (f : Fin 128 → EReal) (a : Fin 128) :
    f a * V m c main_v15 (ix2 0 a) + f ⟨(a + 128 - 64) % 128, by omega⟩ * V m c main_v17 (ix2 0 a)
    = turned f (fun l => val_main_v14 (F := Ideal) (ix1 l)) (fun l => val_main_v15 (F := Ideal) (ix1 l)) a := by
  unfold turned
  by_cases ha : (a : ℕ) < 64
  · rw [dif_pos ha]
    have hc := (inCos m c ⟨a, ha⟩).1
    have hs := (inSin m c ⟨a, ha⟩).1
    have hm : (⟨(a + 128 - 64) % 128, by omega⟩ : Fin 128) = ⟨64 + a, by omega⟩ := Fin.ext (by simp only; omega)
    rw [hm, show V m c main_v15 (ix2 0 a) = _ from hc, show V m c main_v17 (ix2 0 a) = _ from hs, mul_neg, ← sub_eq_add_neg]
  · rw [dif_neg ha]
    have hc := (inCos m c ⟨a - 64, by omega⟩).2
    have hs := (inSin m c ⟨a - 64, by omega⟩).2
    have hm : (⟨(a + 128 - 64) % 128, by omega⟩ : Fin 128) = ⟨a - 64, by omega⟩ := Fin.ext (by simp only; omega)
    have ha' : (⟨64 + (a - 64), by omega⟩ : Fin 128) = a := Fin.ext (by simp only; omega)
    simp only [ha'] at hc hs
    rw [hm, hc, hs, add_comm]

end Cert.MixIdeal.Whole

end
-- ==== Proof.RetKey.lean ====
module

public import proofs.«01_k».proof.Proof.MixTurn
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
The rotated keys and the values of the retention state.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem key0 (u w : Vec Ideal S1x128 .f32) (X : Vec Ideal S8x512 .f32) (a : Fin 128) (j : Fin 8) :
    k0_pay5 (F := Ideal) u w X (ix2 a ⟨j, by omega⟩)
    = (X (ix2 j ⟨0 * 128 + a, by omega⟩) * u (ix2 0 a) + X (ix2 j ⟨0 * 128 + (a + 128 - 64) % 128, by omega⟩) * w (ix2 0 a)) * scale := by
  unfold scale
  pointwise [k0_pay5, k0_pay3, k0_pay4]

theorem kkey0 (c : Dev nD) (t : Fin cfg0.N) (a : Fin 128) (j : Fin 8) :
    k0_pay5 (F := Ideal) (iblk m c 1 t) (iblk m c 2 t) (View.ld (iblk m c 0 t) (Rect.unit ![0, 512] ![8, 512] inb_S8x8192_S8x512_0_512)) (ix2 a ⟨j, by omega⟩)
    = val_main_v34 (F := Ideal) (A0 m c) (ix3 (smp t j) 0 a) := by
  rw [key0, cosRow, sinRow, ldRow, ldRow, row0, row0, turn_eq m c (fun l => A0 m c (ix2 ⟨8192 + (smp t j : ℕ), by omega⟩ ⟨512 + (0 * 128 + l), by omega⟩)) a, MixRef.key_at]
  rfl

theorem kval0 (c : Dev nD) (t : Fin cfg0.N) (b : Fin 128) (j : Fin 8) :
    k0_pay6 (F := Ideal) (View.ld (iblk m c 0 t) (Rect.unit ![0, 1024] ![8, 512] inb_S8x8192_S8x512_0_1024)) (ix2 ⟨j, by omega⟩ b)
    = A0 m c (ix2 ⟨8192 + (smp t j : ℕ), by omega⟩ ⟨1024 + (0 * 128 + b), by omega⟩) := by
  rw [← row0]
  pointwise [k0_pay6]

theorem key1 (u w : Vec Ideal S1x128 .f32) (X : Vec Ideal S8x512 .f32) (a : Fin 128) (j : Fin 8) :
    k0_pay9 (F := Ideal) (k0_pay3 u) (k0_pay4 w) X (ix2 a ⟨j, by omega⟩)
    = (X (ix2 j ⟨1 * 128 + a, by omega⟩) * u (ix2 0 a) + X (ix2 j ⟨1 * 128 + (a + 128 - 64) % 128, by omega⟩) * w (ix2 0 a)) * scale := by
  unfold scale
  pointwise [k0_pay9, k0_pay3, k0_pay4]

theorem kkey1 (c : Dev nD) (t : Fin cfg0.N) (a : Fin 128) (j : Fin 8) :
    k0_pay9 (F := Ideal) (k0_pay3 (iblk m c 1 t)) (k0_pay4 (iblk m c 2 t)) (View.ld (iblk m c 0 t) (Rect.unit ![0, 512] ![8, 512] inb_S8x8192_S8x512_0_512)) (ix2 a ⟨j, by omega⟩)
    = val_main_v34 (F := Ideal) (A0 m c) (ix3 (smp t j) 1 a) := by
  rw [key1, cosRow, sinRow, ldRow, ldRow, row0, row0, turn_eq m c (fun l => A0 m c (ix2 ⟨8192 + (smp t j : ℕ), by omega⟩ ⟨512 + (1 * 128 + l), by omega⟩)) a, MixRef.key_at]
  rfl

theorem kval1 (c : Dev nD) (t : Fin cfg0.N) (b : Fin 128) (j : Fin 8) :
    k0_pay10 (F := Ideal) (View.ld (iblk m c 0 t) (Rect.unit ![0, 1024] ![8, 512] inb_S8x8192_S8x512_0_1024)) (ix2 ⟨j, by omega⟩ b)
    = A0 m c (ix2 ⟨8192 + (smp t j : ℕ), by omega⟩ ⟨1024 + (1 * 128 + b), by omega⟩) := by
  rw [← row0]
  pointwise [k0_pay10]

theorem key2 (u w : Vec Ideal S1x128 .f32) (X : Vec Ideal S8x512 .f32) (a : Fin 128) (j : Fin 8) :
    k0_pay14 (F := Ideal) (k0_pay13 (k0_pay3 u) (k0_pay4 w) X) 0 (ix2 a ⟨j, by omega⟩)
    = (X (ix2 j ⟨2 * 128 + a, by omega⟩) * u (ix2 0 a) + X (ix2 j ⟨2 * 128 + (a + 128 - 64) % 128, by omega⟩) * w (ix2 0 a)) * scale := by
  unfold scale
  pointwise [k0_pay14, k0_pay13, k0_pay3, k0_pay4]

theorem kkey2 (c : Dev nD) (t : Fin cfg0.N) (a : Fin 128) (j : Fin 8) :
    k0_pay14 (F := Ideal) (k0_pay13 (k0_pay3 (iblk m c 1 t)) (k0_pay4 (iblk m c 2 t)) (View.ld (iblk m c 0 t) (Rect.unit ![0, 512] ![8, 512] inb_S8x8192_S8x512_0_512))) 0 (ix2 a ⟨j, by omega⟩)
    = val_main_v34 (F := Ideal) (A0 m c) (ix3 (smp t j) 2 a) := by
  rw [key2, cosRow, sinRow, ldRow, ldRow, row0, row0, turn_eq m c (fun l => A0 m c (ix2 ⟨8192 + (smp t j : ℕ), by omega⟩ ⟨512 + (2 * 128 + l), by omega⟩)) a, MixRef.key_at]
  rfl

theorem kval2 (c : Dev nD) (t : Fin cfg0.N) (b : Fin 128) (j : Fin 8) :
    k0_pay15 (F := Ideal) (View.ld (iblk m c 0 t) (Rect.unit ![0, 1024] ![8, 512] inb_S8x8192_S8x512_0_1024)) (ix2 ⟨j, by omega⟩ b)
    = A0 m c (ix2 ⟨8192 + (smp t j : ℕ), by omega⟩ ⟨1024 + (2 * 128 + b), by omega⟩) := by
  rw [← row0]
  pointwise [k0_pay15]

theorem key3 (u w : Vec Ideal S1x128 .f32) (X : Vec Ideal S8x512 .f32) (a : Fin 128) (j : Fin 8) :
    k0_pay17 (F := Ideal) (k0_pay3 u) (k0_pay4 w) X (ix2 a ⟨j, by omega⟩)
    = (X (ix2 j ⟨3 * 128 + a, by omega⟩) * u (ix2 0 a) + X (ix2 j ⟨3 * 128 + (a + 128 - 64) % 128, by omega⟩) * w (ix2 0 a)) * scale := by
  unfold scale
  pointwise [k0_pay17, k0_pay3, k0_pay4]

theorem kkey3 (c : Dev nD) (t : Fin cfg0.N) (a : Fin 128) (j : Fin 8) :
    k0_pay17 (F := Ideal) (k0_pay3 (iblk m c 1 t)) (k0_pay4 (iblk m c 2 t)) (View.ld (iblk m c 0 t) (Rect.unit ![0, 512] ![8, 512] inb_S8x8192_S8x512_0_512)) (ix2 a ⟨j, by omega⟩)
    = val_main_v34 (F := Ideal) (A0 m c) (ix3 (smp t j) 3 a) := by
  rw [key3, cosRow, sinRow, ldRow, ldRow, row0, row0, turn_eq m c (fun l => A0 m c (ix2 ⟨8192 + (smp t j : ℕ), by omega⟩ ⟨512 + (3 * 128 + l), by omega⟩)) a, MixRef.key_at]
  rfl

theorem kval3 (c : Dev nD) (t : Fin cfg0.N) (b : Fin 128) (j : Fin 8) :
    k0_pay18 (F := Ideal) (View.ld (iblk m c 0 t) (Rect.unit ![0, 1024] ![8, 512] inb_S8x8192_S8x512_0_1024)) (ix2 ⟨j, by omega⟩ b)
    = A0 m c (ix2 ⟨8192 + (smp t j : ℕ), by omega⟩ ⟨1024 + (3 * 128 + b), by omega⟩) := by
  rw [← row0]
  pointwise [k0_pay18]

/-- What a piece stores, against the reference's entry. -/
theorem retEntry (c : Dev nD) (t : Fin cfg0.N) (j : Fin 8) (h : Fin 4) (a b : Fin 128) (g k v : EReal)
    (hg : val_main_v39 (F := Ideal) (ix1 h) = g) (hk : k = val_main_v34 (F := Ideal) (A0 m c) (ix3 (smp t j) h a))
    (hv : v = A0 m c (ix2 ⟨8192 + (smp t j : ℕ), by omega⟩ ⟨1024 + (h * 128 + b), by omega⟩)) (p : Vec Ideal S2x128x4x128x128 .f32) :
    g * iblk m c 11 t (ix5 0 j h a b) + k * v = val_main_v138 (F := Ideal) (A0 m c) (A11 m c) p (ix5 1 (smp t j) h a b) := by
  rw [st11, MixRef.ret_at, hg, hk, hv]

end Cert.MixIdeal.Whole

end
-- ==== Proof.MixRet.lean ====
module

public import proofs.«01_k».proof.Proof.RetKey
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
The retention state the sample mixers write back.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)
set_option maxHeartbeats 16000000 in
theorem point19 (c : Dev nD) (t : Fin cfg0.N) (z : Fin 1) (j : Fin 8) (h : Fin 4) (a b : Fin 128) (p : Vec Ideal S2x128x4x128x128 .f32) :
    left19 m c t (ix5 z j h a b) = val_main_v138 (F := Ideal) (A0 m c) (A11 m c) p (ix5 1 (smp t j) h a b) := by
  unfold left19 stores
  frame_out
  generalize hx : (ix5 z j h a b : S1x8x4x128x128.Idx) = x
  canon_tiles x h
  all_goals
    subst hx
    obtain ⟨z0, z1, z2, a', b', rfl⟩ : ∃ (z0 z1 z2 : Fin 1) (a' b' : Fin 128), x = ix5 z0 z1 z2 a' b' := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    obtain rfl : a = a' := Fin.ext h3
    obtain rfl : b = b' := Fin.ext h4
    clear x0_lt x1_lt x2_lt x3_lt x4_lt h0 h3 h4
    pointwise [k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]
  case piece0 =>
    obtain rfl : j = 7 := Fin.ext h1
    obtain rfl : h = 3 := Fin.ext h2
    rw [pick 7 (by decide)]
    exact retEntry m c t 7 3 a b _ _ _ MixRef.gamma3 (kkey3 m c t a 7) (kval3 m c t b 7) p
  case piece1 =>
    obtain rfl : j = 7 := Fin.ext h1
    obtain rfl : h = 2 := Fin.ext h2
    rw [pick 7 (by decide)]
    exact retEntry m c t 7 2 a b _ _ _ MixRef.gamma2 (kkey2 m c t a 7) (kval2 m c t b 7) p
  case piece2 =>
    obtain rfl : j = 7 := Fin.ext h1
    obtain rfl : h = 1 := Fin.ext h2
    rw [pick 7 (by decide)]
    exact retEntry m c t 7 1 a b _ _ _ MixRef.gamma1 (kkey1 m c t a 7) (kval1 m c t b 7) p
  case piece3 =>
    obtain rfl : j = 7 := Fin.ext h1
    obtain rfl : h = 0 := Fin.ext h2
    rw [pick 7 (by decide)]
    exact retEntry m c t 7 0 a b _ _ _ MixRef.gamma0 (kkey0 m c t a 7) (kval0 m c t b 7) p
  case piece4 =>
    obtain rfl : j = 6 := Fin.ext h1
    obtain rfl : h = 3 := Fin.ext h2
    rw [pick 6 (by decide)]
    exact retEntry m c t 6 3 a b _ _ _ MixRef.gamma3 (kkey3 m c t a 6) (kval3 m c t b 6) p
  case piece5 =>
    obtain rfl : j = 6 := Fin.ext h1
    obtain rfl : h = 2 := Fin.ext h2
    rw [pick 6 (by decide)]
    exact retEntry m c t 6 2 a b _ _ _ MixRef.gamma2 (kkey2 m c t a 6) (kval2 m c t b 6) p
  case piece6 =>
    obtain rfl : j = 6 := Fin.ext h1
    obtain rfl : h = 1 := Fin.ext h2
    rw [pick 6 (by decide)]
    exact retEntry m c t 6 1 a b _ _ _ MixRef.gamma1 (kkey1 m c t a 6) (kval1 m c t b 6) p
  case piece7 =>
    obtain rfl : j = 6 := Fin.ext h1
    obtain rfl : h = 0 := Fin.ext h2
    rw [pick 6 (by decide)]
    exact retEntry m c t 6 0 a b _ _ _ MixRef.gamma0 (kkey0 m c t a 6) (kval0 m c t b 6) p
  case piece8 =>
    obtain rfl : j = 5 := Fin.ext h1
    obtain rfl : h = 3 := Fin.ext h2
    rw [pick 5 (by decide)]
    exact retEntry m c t 5 3 a b _ _ _ MixRef.gamma3 (kkey3 m c t a 5) (kval3 m c t b 5) p
  case piece9 =>
    obtain rfl : j = 5 := Fin.ext h1
    obtain rfl : h = 2 := Fin.ext h2
    rw [pick 5 (by decide)]
    exact retEntry m c t 5 2 a b _ _ _ MixRef.gamma2 (kkey2 m c t a 5) (kval2 m c t b 5) p
  case piece10 =>
    obtain rfl : j = 5 := Fin.ext h1
    obtain rfl : h = 1 := Fin.ext h2
    rw [pick 5 (by decide)]
    exact retEntry m c t 5 1 a b _ _ _ MixRef.gamma1 (kkey1 m c t a 5) (kval1 m c t b 5) p
  case piece11 =>
    obtain rfl : j = 5 := Fin.ext h1
    obtain rfl : h = 0 := Fin.ext h2
    rw [pick 5 (by decide)]
    exact retEntry m c t 5 0 a b _ _ _ MixRef.gamma0 (kkey0 m c t a 5) (kval0 m c t b 5) p
  case piece12 =>
    obtain rfl : j = 4 := Fin.ext h1
    obtain rfl : h = 3 := Fin.ext h2
    rw [pick 4 (by decide)]
    exact retEntry m c t 4 3 a b _ _ _ MixRef.gamma3 (kkey3 m c t a 4) (kval3 m c t b 4) p
  case piece13 =>
    obtain rfl : j = 4 := Fin.ext h1
    obtain rfl : h = 2 := Fin.ext h2
    rw [pick 4 (by decide)]
    exact retEntry m c t 4 2 a b _ _ _ MixRef.gamma2 (kkey2 m c t a 4) (kval2 m c t b 4) p
  case piece14 =>
    obtain rfl : j = 4 := Fin.ext h1
    obtain rfl : h = 1 := Fin.ext h2
    rw [pick 4 (by decide)]
    exact retEntry m c t 4 1 a b _ _ _ MixRef.gamma1 (kkey1 m c t a 4) (kval1 m c t b 4) p
  case piece15 =>
    obtain rfl : j = 4 := Fin.ext h1
    obtain rfl : h = 0 := Fin.ext h2
    rw [pick 4 (by decide)]
    exact retEntry m c t 4 0 a b _ _ _ MixRef.gamma0 (kkey0 m c t a 4) (kval0 m c t b 4) p
  case piece16 =>
    obtain rfl : j = 3 := Fin.ext h1
    obtain rfl : h = 3 := Fin.ext h2
    rw [pick 3 (by decide)]
    exact retEntry m c t 3 3 a b _ _ _ MixRef.gamma3 (kkey3 m c t a 3) (kval3 m c t b 3) p
  case piece17 =>
    obtain rfl : j = 3 := Fin.ext h1
    obtain rfl : h = 2 := Fin.ext h2
    rw [pick 3 (by decide)]
    exact retEntry m c t 3 2 a b _ _ _ MixRef.gamma2 (kkey2 m c t a 3) (kval2 m c t b 3) p
  case piece18 =>
    obtain rfl : j = 3 := Fin.ext h1
    obtain rfl : h = 1 := Fin.ext h2
    rw [pick 3 (by decide)]
    exact retEntry m c t 3 1 a b _ _ _ MixRef.gamma1 (kkey1 m c t a 3) (kval1 m c t b 3) p
  case piece19 =>
    obtain rfl : j = 3 := Fin.ext h1
    obtain rfl : h = 0 := Fin.ext h2
    rw [pick 3 (by decide)]
    exact retEntry m c t 3 0 a b _ _ _ MixRef.gamma0 (kkey0 m c t a 3) (kval0 m c t b 3) p
  case piece20 =>
    obtain rfl : j = 2 := Fin.ext h1
    obtain rfl : h = 3 := Fin.ext h2
    rw [pick 2 (by decide)]
    exact retEntry m c t 2 3 a b _ _ _ MixRef.gamma3 (kkey3 m c t a 2) (kval3 m c t b 2) p
  case piece21 =>
    obtain rfl : j = 2 := Fin.ext h1
    obtain rfl : h = 2 := Fin.ext h2
    rw [pick 2 (by decide)]
    exact retEntry m c t 2 2 a b _ _ _ MixRef.gamma2 (kkey2 m c t a 2) (kval2 m c t b 2) p
  case piece22 =>
    obtain rfl : j = 2 := Fin.ext h1
    obtain rfl : h = 1 := Fin.ext h2
    rw [pick 2 (by decide)]
    exact retEntry m c t 2 1 a b _ _ _ MixRef.gamma1 (kkey1 m c t a 2) (kval1 m c t b 2) p
  case piece23 =>
    obtain rfl : j = 2 := Fin.ext h1
    obtain rfl : h = 0 := Fin.ext h2
    rw [pick 2 (by decide)]
    exact retEntry m c t 2 0 a b _ _ _ MixRef.gamma0 (kkey0 m c t a 2) (kval0 m c t b 2) p
  case piece24 =>
    obtain rfl : j = 1 := Fin.ext h1
    obtain rfl : h = 3 := Fin.ext h2
    rw [pick 1 (by decide)]
    exact retEntry m c t 1 3 a b _ _ _ MixRef.gamma3 (kkey3 m c t a 1) (kval3 m c t b 1) p
  case piece25 =>
    obtain rfl : j = 1 := Fin.ext h1
    obtain rfl : h = 2 := Fin.ext h2
    rw [pick 1 (by decide)]
    exact retEntry m c t 1 2 a b _ _ _ MixRef.gamma2 (kkey2 m c t a 1) (kval2 m c t b 1) p
  case piece26 =>
    obtain rfl : j = 1 := Fin.ext h1
    obtain rfl : h = 1 := Fin.ext h2
    rw [pick 1 (by decide)]
    exact retEntry m c t 1 1 a b _ _ _ MixRef.gamma1 (kkey1 m c t a 1) (kval1 m c t b 1) p
  case piece27 =>
    obtain rfl : j = 1 := Fin.ext h1
    obtain rfl : h = 0 := Fin.ext h2
    rw [pick 1 (by decide)]
    exact retEntry m c t 1 0 a b _ _ _ MixRef.gamma0 (kkey0 m c t a 1) (kval0 m c t b 1) p
  case piece28 =>
    obtain rfl : j = 0 := Fin.ext h1
    obtain rfl : h = 3 := Fin.ext h2
    rw [pick 0 (by decide)]
    exact retEntry m c t 0 3 a b _ _ _ MixRef.gamma3 (kkey3 m c t a 0) (kval3 m c t b 0) p
  case piece29 =>
    obtain rfl : j = 0 := Fin.ext h1
    obtain rfl : h = 2 := Fin.ext h2
    rw [pick 0 (by decide)]
    exact retEntry m c t 0 2 a b _ _ _ MixRef.gamma2 (kkey2 m c t a 0) (kval2 m c t b 0) p
  case piece30 =>
    obtain rfl : j = 0 := Fin.ext h1
    obtain rfl : h = 1 := Fin.ext h2
    rw [pick 0 (by decide)]
    exact retEntry m c t 0 1 a b _ _ _ MixRef.gamma1 (kkey1 m c t a 0) (kval1 m c t b 0) p
  case piece31 =>
    obtain rfl : j = 0 := Fin.ext h1
    obtain rfl : h = 0 := Fin.ext h2
    rw [pick 0 (by decide)]
    exact retEntry m c t 0 0 a b _ _ _ MixRef.gamma0 (kkey0 m c t a 0) (kval0 m c t b 0) p

end Cert.MixIdeal.Whole

end
-- ==== Proof.MixRetEnd.lean ====
module

public import proofs.«01_k».proof.Proof.MixRet
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt

/-!
The retained state after the run: the second layer's slab is the reference's, the first layer's is the one handed over.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem start19 (c : Dev nD) : V m c main_v57_1 = m ((c : Thread nD τ).loc main_arg19) := by
  unfold V V0
  simp only [hostOps0, hostOps0_1, hostOps0_2, List.flatten_cons, List.flatten_nil, List.append_nil, List.cons_append, List.nil_append]
  after_reads_at
  rfl

theorem place19 (c : Dev nD) (t : Fin cfg0.N) (y : S1x8x4x128x128.Idx) (i : S2x128x4x128x128.Idx) (p : Vec Ideal S2x128x4x128x128 .f32)
    (h0 : (i 0 : ℕ) = 1) (h1 : (i 1 : ℕ) = t.val * 8 + (y 1 : ℕ)) (h2 : (i 2 : ℕ) = (y 2 : ℕ)) (h3 : (i 3 : ℕ) = (y 3 : ℕ)) (h4 : (i 4 : ℕ) = (y 4 : ℕ)) :
    left19 m c t y = val_main_v138 (F := Ideal) (A0 m c) (A11 m c) p i := by
  obtain ⟨z, j, h, a, b, rfl⟩ : ∃ (z : Fin 1) (j : Fin 8) (h : Fin 4) (a : Fin 128) (b : Fin 128), y = ix5 z j h a b := ⟨y 0, y 1, y 2, y 3, y 4, eq_ix5 y⟩
  obtain ⟨l, j', h', a', b', rfl⟩ : ∃ (l : Fin 2) (j' : Fin 128) (h' : Fin 4) (a' : Fin 128) (b' : Fin 128), i = ix5 l j' h' a' b' := ⟨i 0, i 1, i 2, i 3, i 4, eq_ix5 i⟩
  obtain rfl : l = 1 := Fin.ext h0
  obtain rfl : j' = smp t j := Fin.ext (by rw [smp]; exact h1)
  obtain rfl : h' = h := Fin.ext h2
  obtain rfl : a' = a := Fin.ext h3
  obtain rfl : b' = b := Fin.ext h4
  exact point19 m c t z j _ _ _ p

set_option maxHeartbeats 4000000 in
theorem final19 (c : Dev nD) : (data m 0 c).arrAt 19 (cfgs 0).N = val_main_v138 (F := Ideal) (A0 m c) (A11 m c) (m ((c : Thread nD τ).loc main_arg19)) := by
  have h : (data m 0 c).arrAt 19 (cfgs 0).N = fun i : S2x128x4x128x128.Idx => if (i 0 : ℕ) = 1 then val_main_v138 (F := Ideal) (A0 m c) (A11 m c) (m ((c : Thread nD τ).loc main_arg19)) i else V m c main_v57_1 i := by
    refine (data m 0 c).arrAt_eq_of_coversWhere 19 _ (fun β => β (0 : Fin _) = 1) (by decide +kernel) (fun t _ y => ?_)
      (fun j => by blk_simp [Pipeline.Window.cell_apply]; rw [Nat.div_one])
    rw [after19]
    refine (cast_eq _ _).trans (place19 m c t _ _ _ ?_ ?_ ?_ ?_ ?_) <;> (blk_simp [idxOut t] <;> omega)
  rw [h]
  funext i
  by_cases hi : (i 0 : ℕ) = 1
  · exact if_pos hi
  · rw [if_neg hi, start19]
    obtain ⟨l, j, h, a, b, rfl⟩ : ∃ (l : Fin 2) (j : Fin 128) (h : Fin 4) (a : Fin 128) (b : Fin 128), i = ix5 l j h a b := ⟨i 0, i 1, i 2, i 3, i 4, eq_ix5 i⟩
    replace hi : ¬ (l : ℕ) = 1 := hi
    obtain rfl : l = 0 := Fin.ext (by have := l.isLt; simp only [Fin.val_zero]; omega)
    exact (MixRef.ret_kept _ _ _ _ _ _ _).symm

end Cert.MixIdeal.Whole

end
-- ==== Proof.MixGate.lean ====
module

public import proofs.«01_k».proof.Proof.MixHost
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
The gates of the sample mixers' stabilized memory at a grid point.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

abbrev gts (c : Dev nD) (t : Fin cfg0.N) : FVec Ideal S8x128 .f32 := (k0_pay2 (F := Ideal) (View.ld (iblk m c 0 t) (Rect.unit ![0, 7680] ![8, 128] inb_S8x8192_S8x128_0_7680)) (iblk m c 3 t))

theorem gateRow (c : Dev nD) (t : Fin cfg0.N) (k : Fin 128) : iblk m c 3 t (ix2 0 k) = V m c main_v33 (ix2 0 k) := by
  blk_point [iblk, idxRow t]

theorem st14 (c : Dev nD) (t : Fin cfg0.N) (j : Fin 8) (k : Fin 128) : iblk m c 14 t (ix3 0 j k) = V m c main_v18 (ix3 1 (smp t j) k) := by
  blk_point [iblk, idx t]

theorem gate_f (c : Dev nD) (t : Fin cfg0.N) (j : Fin 8) (h : Fin 4) (q : 7680 + ((h : ℕ) + 128 - 124) % 128 < 8192) :
    iblk m c 0 t (ix2 j ⟨7680 + (h + 128 - 124) % 128, q⟩) = A0 m c (ix2 ⟨8192 + (smp t j : ℕ), by omega⟩ ⟨7684 + h, by omega⟩) :=
  (row0 m c t j _).trans (congrArg (fun l => A0 m c (ix2 ⟨8192 + (smp t j : ℕ), by omega⟩ l)) (Fin.ext (by simp only; omega)))

theorem gate_f' (c : Dev nD) (t : Fin cfg0.N) (h : Fin 4) (q : ((h : ℕ) + 128 - 124) % 128 < 128) :
    iblk m c 3 t (ix2 0 ⟨(h + 128 - 124) % 128, q⟩) = A2 m c (ix2 1 h) :=
  (gateRow m c t _).trans ((congrArg (fun l => V m c main_v33 (ix2 0 l)) (Fin.ext (by simp only; omega))).trans (inGate1 m c h))

theorem gate_i (c : Dev nD) (t : Fin cfg0.N) (j : Fin 8) (h : Fin 4) (q : 7680 + (h : ℕ) < 8192) :
    iblk m c 0 t (ix2 j ⟨7680 + h, q⟩) = A0 m c (ix2 ⟨8192 + (smp t j : ℕ), by omega⟩ ⟨7680 + h, by omega⟩) := row0 m c t j _

theorem gate_i' (c : Dev nD) (t : Fin cfg0.N) (h : Fin 4) (q : (h : ℕ) < 128) : iblk m c 3 t (ix2 0 ⟨h, q⟩) = A1 m c (ix2 1 h) :=
  (gateRow m c t _).trans (inGate0 m c h)

theorem gate_s (c : Dev nD) (t : Fin cfg0.N) (j : Fin 8) (h : Fin 4) (q : (h : ℕ) < 128) :
    iblk m c 14 t (ix3 0 j ⟨h, q⟩) = A14 m c (ix3 1 (smp t j) h) := (st14 m c t j _).trans (in14 m c (smp t j) h)

theorem gate_plain (c : Dev nD) (t : Fin cfg0.N) (j : Fin 8) (h : Fin 4) : gts m c t (ix2 j ⟨h, by omega⟩) = (A0 m c (ix2 ⟨8192 + (smp t j : ℕ), by omega⟩ ⟨7680 + h, by omega⟩) + A1 m c (ix2 1 h)) := by
  pointwise [k0_pay2]
  simp only [gate_i, gate_i']

theorem gate_mint (c : Dev nD) (t : Fin cfg0.N) (j : Fin 8) (h : Fin 4) :
    k0_pay158 (F := Ideal) (k0_pay151 (iblk m c 14 t)) (k0_pay153 (gts m c t)) (k0_pay155 (gts m c t)) (k0_pay156 (gts m c t)) (k0_pay157 (gts m c t)) (ix2 j ⟨h, by omega⟩) = A14 m c (ix3 1 (smp t j) h) + logSig (A0 m c (ix2 ⟨8192 + (smp t j : ℕ), by omega⟩ ⟨7684 + h, by omega⟩) + A2 m c (ix2 1 h)) := by
  unfold logSig softplus
  pointwise [k0_pay2, k0_pay151, k0_pay152, k0_pay153, k0_pay154, k0_pay155, k0_pay156, k0_pay157, k0_pay158]
  simp only [gate_f, gate_f', gate_s, zero_sub]

theorem gate_top (c : Dev nD) (t : Fin cfg0.N) (j : Fin 8) (h : Fin 4) :
    k0_pay159 (F := Ideal) (gts m c t) (k0_pay151 (iblk m c 14 t)) (k0_pay153 (gts m c t)) (k0_pay155 (gts m c t)) (k0_pay156 (gts m c t)) (k0_pay157 (gts m c t)) (ix2 j ⟨h, by omega⟩) = stab (A14 m c (ix3 1 (smp t j) h)) (A0 m c (ix2 ⟨8192 + (smp t j : ℕ), by omega⟩ ⟨7684 + h, by omega⟩) + A2 m c (ix2 1 h)) (A0 m c (ix2 ⟨8192 + (smp t j : ℕ), by omega⟩ ⟨7680 + h, by omega⟩) + A1 m c (ix2 1 h)) := by
  rw [stab, ← gate_mint, ← gate_plain]
  rfl

theorem gate_stab (c : Dev nD) (t : Fin cfg0.N) (j : Fin 8) (h : Fin 4) (z : Fin 1) :
    k0_pay163 (F := Ideal) (gts m c t) (k0_pay151 (iblk m c 14 t)) (k0_pay153 (gts m c t)) (k0_pay155 (gts m c t)) (k0_pay156 (gts m c t)) (k0_pay157 (gts m c t)) (ix3 z j ⟨h, by omega⟩) = stab (A14 m c (ix3 1 (smp t j) h)) (A0 m c (ix2 ⟨8192 + (smp t j : ℕ), by omega⟩ ⟨7684 + h, by omega⟩) + A2 m c (ix2 1 h)) (A0 m c (ix2 ⟨8192 + (smp t j : ℕ), by omega⟩ ⟨7680 + h, by omega⟩) + A1 m c (ix2 1 h)) := by
  rw [← gate_top]
  pointwise [k0_pay163]

theorem gate_in (c : Dev nD) (t : Fin cfg0.N) (j : Fin 8) (h : Fin 4) :
    k0_pay160 (F := Ideal) (gts m c t) (k0_pay151 (iblk m c 14 t)) (k0_pay153 (gts m c t)) (k0_pay155 (gts m c t)) (k0_pay156 (gts m c t)) (k0_pay157 (gts m c t)) (ix2 j ⟨h, by omega⟩) = inputGate (A14 m c (ix3 1 (smp t j) h)) (A0 m c (ix2 ⟨8192 + (smp t j : ℕ), by omega⟩ ⟨7684 + h, by omega⟩) + A2 m c (ix2 1 h)) (A0 m c (ix2 ⟨8192 + (smp t j : ℕ), by omega⟩ ⟨7680 + h, by omega⟩) + A1 m c (ix2 1 h)) := by
  rw [inputGate, ← gate_top, ← gate_plain]
  rfl

theorem gate_decay (c : Dev nD) (t : Fin cfg0.N) (j : Fin 8) (h : Fin 4) :
    k0_pay161 (F := Ideal) (gts m c t) (k0_pay151 (iblk m c 14 t)) (k0_pay153 (gts m c t)) (k0_pay155 (gts m c t)) (k0_pay156 (gts m c t)) (k0_pay157 (gts m c t)) (ix2 j ⟨h, by omega⟩) = decay (A14 m c (ix3 1 (smp t j) h)) (A0 m c (ix2 ⟨8192 + (smp t j : ℕ), by omega⟩ ⟨7684 + h, by omega⟩) + A2 m c (ix2 1 h)) (A0 m c (ix2 ⟨8192 + (smp t j : ℕ), by omega⟩ ⟨7680 + h, by omega⟩) + A1 m c (ix2 1 h)) := by
  rw [decay, ← gate_top, ← gate_mint]
  rfl

/-- The stabilizer's block: the four lanes the layer uses. -/
theorem point22 (c : Dev nD) (t : Fin cfg0.N) (z : Fin 1) (j : Fin 8) (h : Fin 4) (p : Vec Ideal S2x128x128 .f32) :
    left22 m c t (ix3 z j ⟨h, by omega⟩) = val_main_v148 (F := Ideal) (A0 m c) (A1 m c) (A2 m c) (A14 m c) p (ix3 1 (smp t j) h) := by
  unfold left22 stores
  frame_out
  rw [MixRef.lane_at, MixRef.stab_at]
  exact gate_stab m c t j h z

end Cert.MixIdeal.Whole

end
-- ==== Proof.MixMem.lean ====
module

public import proofs.«01_k».proof.Proof.MixGate
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
The matrix memory the sample mixers write back.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

/-- A column of zeros adds nothing, masked or not. -/
theorem noCol {n : ℕ} (f : Fin n → BitVec 1) : ∑ x : Fin n, Scalar.select (f x) ((0 : EReal) * 0) 0 = 0 := by
  simp [Scalar.select]

theorem memEntry (c : Dev nD) (t : Fin cfg0.N) (j : Fin 8) (h : Fin 4) (a b : Fin 128) (p : Vec Ideal S2x128x4x128x128 .f32) (d e k v s : EReal)
    (hd : d = decay (A14 m c (ix3 1 (smp t j) h)) (A0 m c (ix2 ⟨8192 + (smp t j : ℕ), by omega⟩ ⟨7684 + h, by omega⟩) + A2 m c (ix2 1 h)) (A0 m c (ix2 ⟨8192 + (smp t j : ℕ), by omega⟩ ⟨7680 + h, by omega⟩) + A1 m c (ix2 1 h))) (he : e = inputGate (A14 m c (ix3 1 (smp t j) h)) (A0 m c (ix2 ⟨8192 + (smp t j : ℕ), by omega⟩ ⟨7684 + h, by omega⟩) + A2 m c (ix2 1 h)) (A0 m c (ix2 ⟨8192 + (smp t j : ℕ), by omega⟩ ⟨7680 + h, by omega⟩) + A1 m c (ix2 1 h))) (hs : s = A12 m c (ix5 1 (smp t j) h a b)) (hk : k = A0 m c (ix2 ⟨8192 + (smp t j : ℕ), by omega⟩ ⟨2560 + (h * 128 + a), by omega⟩)) (hv : v = A0 m c (ix2 ⟨8192 + (smp t j : ℕ), by omega⟩ ⟨3072 + (h * 128 + b), by omega⟩)) :
    d * s + k * Ideal.ofBits .f32 1035273459#32 * e * v = val_main_v141 (F := Ideal) (A0 m c) (A1 m c) (A2 m c) (A12 m c) (A14 m c) p (ix5 1 (smp t j) h a b) := by
  rw [MixRef.mem_at, MixRef.decay_at, MixRef.mkey_at, hd, he, hs, hk, hv]
  rfl

set_option maxHeartbeats 16000000 in
theorem point20 (c : Dev nD) (t : Fin cfg0.N) (z : Fin 1) (j : Fin 8) (h : Fin 4) (a b : Fin 128) (p : Vec Ideal S2x128x4x128x128 .f32) :
    left20 m c t (ix5 z j h a b) = val_main_v141 (F := Ideal) (A0 m c) (A1 m c) (A2 m c) (A12 m c) (A14 m c) p (ix5 1 (smp t j) h a b) := by
  unfold left20 stores
  frame_out
  generalize hx : (ix5 z j h a b : S1x8x4x128x128.Idx) = x
  canon_tiles x h
  all_goals
    subst hx
    obtain ⟨z0, z1, z2, a', b', rfl⟩ : ∃ (z0 z1 z2 : Fin 1) (a' b' : Fin 128), x = ix5 z0 z1 z2 a' b' := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    obtain rfl : a = a' := Fin.ext h3
    obtain rfl : b = b' := Fin.ext h4
    clear x0_lt x1_lt x2_lt x3_lt x4_lt h0 h3 h4
    pointwise [k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419]
  case piece0 =>
    obtain rfl : j = 7 := Fin.ext h1
    obtain rfl : h = 3 := Fin.ext h2
    rw [pick8 7 (by decide), noCol, add_zero]
    exact memEntry m c t 7 3 a b p _ _ _ _ _ (gate_decay m c t 7 3) (gate_in m c t 7 3) (st12 m c t 7 3 a b) (rowAt m c t 7 _ _ _ _ (by simp)) (rowAt m c t 7 _ _ _ _ (by simp))
  case piece1 =>
    obtain rfl : j = 7 := Fin.ext h1
    obtain rfl : h = 2 := Fin.ext h2
    rw [pick8 7 (by decide), noCol, add_zero]
    exact memEntry m c t 7 2 a b p _ _ _ _ _ (gate_decay m c t 7 2) (gate_in m c t 7 2) (st12 m c t 7 2 a b) (rowAt m c t 7 _ _ _ _ (by simp)) (rowAt m c t 7 _ _ _ _ (by simp))
  case piece2 =>
    obtain rfl : j = 7 := Fin.ext h1
    obtain rfl : h = 1 := Fin.ext h2
    rw [pick8 7 (by decide), noCol, add_zero]
    exact memEntry m c t 7 1 a b p _ _ _ _ _ (gate_decay m c t 7 1) (gate_in m c t 7 1) (st12 m c t 7 1 a b) (rowAt m c t 7 _ _ _ _ (by simp)) (rowAt m c t 7 _ _ _ _ (by simp))
  case piece3 =>
    obtain rfl : j = 7 := Fin.ext h1
    obtain rfl : h = 0 := Fin.ext h2
    rw [pick8 7 (by decide), noCol, add_zero]
    exact memEntry m c t 7 0 a b p _ _ _ _ _ (gate_decay m c t 7 0) (gate_in m c t 7 0) (st12 m c t 7 0 a b) (rowAt m c t 7 _ _ _ _ (by simp)) (rowAt m c t 7 _ _ _ _ (by simp))
  case piece4 =>
    obtain rfl : j = 6 := Fin.ext h1
    obtain rfl : h = 3 := Fin.ext h2
    rw [pick8 6 (by decide), noCol, add_zero]
    exact memEntry m c t 6 3 a b p _ _ _ _ _ (gate_decay m c t 6 3) (gate_in m c t 6 3) (st12 m c t 6 3 a b) (rowAt m c t 6 _ _ _ _ (by simp)) (rowAt m c t 6 _ _ _ _ (by simp))
  case piece5 =>
    obtain rfl : j = 6 := Fin.ext h1
    obtain rfl : h = 2 := Fin.ext h2
    rw [pick8 6 (by decide), noCol, add_zero]
    exact memEntry m c t 6 2 a b p _ _ _ _ _ (gate_decay m c t 6 2) (gate_in m c t 6 2) (st12 m c t 6 2 a b) (rowAt m c t 6 _ _ _ _ (by simp)) (rowAt m c t 6 _ _ _ _ (by simp))
  case piece6 =>
    obtain rfl : j = 6 := Fin.ext h1
    obtain rfl : h = 1 := Fin.ext h2
    rw [pick8 6 (by decide), noCol, add_zero]
    exact memEntry m c t 6 1 a b p _ _ _ _ _ (gate_decay m c t 6 1) (gate_in m c t 6 1) (st12 m c t 6 1 a b) (rowAt m c t 6 _ _ _ _ (by simp)) (rowAt m c t 6 _ _ _ _ (by simp))
  case piece7 =>
    obtain rfl : j = 6 := Fin.ext h1
    obtain rfl : h = 0 := Fin.ext h2
    rw [pick8 6 (by decide), noCol, add_zero]
    exact memEntry m c t 6 0 a b p _ _ _ _ _ (gate_decay m c t 6 0) (gate_in m c t 6 0) (st12 m c t 6 0 a b) (rowAt m c t 6 _ _ _ _ (by simp)) (rowAt m c t 6 _ _ _ _ (by simp))
  case piece8 =>
    obtain rfl : j = 5 := Fin.ext h1
    obtain rfl : h = 3 := Fin.ext h2
    rw [pick8 5 (by decide), noCol, add_zero]
    exact memEntry m c t 5 3 a b p _ _ _ _ _ (gate_decay m c t 5 3) (gate_in m c t 5 3) (st12 m c t 5 3 a b) (rowAt m c t 5 _ _ _ _ (by simp)) (rowAt m c t 5 _ _ _ _ (by simp))
  case piece9 =>
    obtain rfl : j = 5 := Fin.ext h1
    obtain rfl : h = 2 := Fin.ext h2
    rw [pick8 5 (by decide), noCol, add_zero]
    exact memEntry m c t 5 2 a b p _ _ _ _ _ (gate_decay m c t 5 2) (gate_in m c t 5 2) (st12 m c t 5 2 a b) (rowAt m c t 5 _ _ _ _ (by simp)) (rowAt m c t 5 _ _ _ _ (by simp))
  case piece10 =>
    obtain rfl : j = 5 := Fin.ext h1
    obtain rfl : h = 1 := Fin.ext h2
    rw [pick8 5 (by decide), noCol, add_zero]
    exact memEntry m c t 5 1 a b p _ _ _ _ _ (gate_decay m c t 5 1) (gate_in m c t 5 1) (st12 m c t 5 1 a b) (rowAt m c t 5 _ _ _ _ (by simp)) (rowAt m c t 5 _ _ _ _ (by simp))
  case piece11 =>
    obtain rfl : j = 5 := Fin.ext h1
    obtain rfl : h = 0 := Fin.ext h2
    rw [pick8 5 (by decide), noCol, add_zero]
    exact memEntry m c t 5 0 a b p _ _ _ _ _ (gate_decay m c t 5 0) (gate_in m c t 5 0) (st12 m c t 5 0 a b) (rowAt m c t 5 _ _ _ _ (by simp)) (rowAt m c t 5 _ _ _ _ (by simp))
  case piece12 =>
    obtain rfl : j = 4 := Fin.ext h1
    obtain rfl : h = 3 := Fin.ext h2
    rw [pick8 4 (by decide), noCol, add_zero]
    exact memEntry m c t 4 3 a b p _ _ _ _ _ (gate_decay m c t 4 3) (gate_in m c t 4 3) (st12 m c t 4 3 a b) (rowAt m c t 4 _ _ _ _ (by simp)) (rowAt m c t 4 _ _ _ _ (by simp))
  case piece13 =>
    obtain rfl : j = 4 := Fin.ext h1
    obtain rfl : h = 2 := Fin.ext h2
    rw [pick8 4 (by decide), noCol, add_zero]
    exact memEntry m c t 4 2 a b p _ _ _ _ _ (gate_decay m c t 4 2) (gate_in m c t 4 2) (st12 m c t 4 2 a b) (rowAt m c t 4 _ _ _ _ (by simp)) (rowAt m c t 4 _ _ _ _ (by simp))
  case piece14 =>
    obtain rfl : j = 4 := Fin.ext h1
    obtain rfl : h = 1 := Fin.ext h2
    rw [pick8 4 (by decide), noCol, add_zero]
    exact memEntry m c t 4 1 a b p _ _ _ _ _ (gate_decay m c t 4 1) (gate_in m c t 4 1) (st12 m c t 4 1 a b) (rowAt m c t 4 _ _ _ _ (by simp)) (rowAt m c t 4 _ _ _ _ (by simp))
  case piece15 =>
    obtain rfl : j = 4 := Fin.ext h1
    obtain rfl : h = 0 := Fin.ext h2
    rw [pick8 4 (by decide), noCol, add_zero]
    exact memEntry m c t 4 0 a b p _ _ _ _ _ (gate_decay m c t 4 0) (gate_in m c t 4 0) (st12 m c t 4 0 a b) (rowAt m c t 4 _ _ _ _ (by simp)) (rowAt m c t 4 _ _ _ _ (by simp))
  case piece16 =>
    obtain rfl : j = 3 := Fin.ext h1
    obtain rfl : h = 3 := Fin.ext h2
    rw [pick8 3 (by decide), noCol, add_zero]
    exact memEntry m c t 3 3 a b p _ _ _ _ _ (gate_decay m c t 3 3) (gate_in m c t 3 3) (st12 m c t 3 3 a b) (rowAt m c t 3 _ _ _ _ (by simp)) (rowAt m c t 3 _ _ _ _ (by simp))
  case piece17 =>
    obtain rfl : j = 3 := Fin.ext h1
    obtain rfl : h = 2 := Fin.ext h2
    rw [pick8 3 (by decide), noCol, add_zero]
    exact memEntry m c t 3 2 a b p _ _ _ _ _ (gate_decay m c t 3 2) (gate_in m c t 3 2) (st12 m c t 3 2 a b) (rowAt m c t 3 _ _ _ _ (by simp)) (rowAt m c t 3 _ _ _ _ (by simp))
  case piece18 =>
    obtain rfl : j = 3 := Fin.ext h1
    obtain rfl : h = 1 := Fin.ext h2
    rw [pick8 3 (by decide), noCol, add_zero]
    exact memEntry m c t 3 1 a b p _ _ _ _ _ (gate_decay m c t 3 1) (gate_in m c t 3 1) (st12 m c t 3 1 a b) (rowAt m c t 3 _ _ _ _ (by simp)) (rowAt m c t 3 _ _ _ _ (by simp))
  case piece19 =>
    obtain rfl : j = 3 := Fin.ext h1
    obtain rfl : h = 0 := Fin.ext h2
    rw [pick8 3 (by decide), noCol, add_zero]
    exact memEntry m c t 3 0 a b p _ _ _ _ _ (gate_decay m c t 3 0) (gate_in m c t 3 0) (st12 m c t 3 0 a b) (rowAt m c t 3 _ _ _ _ (by simp)) (rowAt m c t 3 _ _ _ _ (by simp))
  case piece20 =>
    obtain rfl : j = 2 := Fin.ext h1
    obtain rfl : h = 3 := Fin.ext h2
    rw [pick8 2 (by decide), noCol, add_zero]
    exact memEntry m c t 2 3 a b p _ _ _ _ _ (gate_decay m c t 2 3) (gate_in m c t 2 3) (st12 m c t 2 3 a b) (rowAt m c t 2 _ _ _ _ (by simp)) (rowAt m c t 2 _ _ _ _ (by simp))
  case piece21 =>
    obtain rfl : j = 2 := Fin.ext h1
    obtain rfl : h = 2 := Fin.ext h2
    rw [pick8 2 (by decide), noCol, add_zero]
    exact memEntry m c t 2 2 a b p _ _ _ _ _ (gate_decay m c t 2 2) (gate_in m c t 2 2) (st12 m c t 2 2 a b) (rowAt m c t 2 _ _ _ _ (by simp)) (rowAt m c t 2 _ _ _ _ (by simp))
  case piece22 =>
    obtain rfl : j = 2 := Fin.ext h1
    obtain rfl : h = 1 := Fin.ext h2
    rw [pick8 2 (by decide), noCol, add_zero]
    exact memEntry m c t 2 1 a b p _ _ _ _ _ (gate_decay m c t 2 1) (gate_in m c t 2 1) (st12 m c t 2 1 a b) (rowAt m c t 2 _ _ _ _ (by simp)) (rowAt m c t 2 _ _ _ _ (by simp))
  case piece23 =>
    obtain rfl : j = 2 := Fin.ext h1
    obtain rfl : h = 0 := Fin.ext h2
    rw [pick8 2 (by decide), noCol, add_zero]
    exact memEntry m c t 2 0 a b p _ _ _ _ _ (gate_decay m c t 2 0) (gate_in m c t 2 0) (st12 m c t 2 0 a b) (rowAt m c t 2 _ _ _ _ (by simp)) (rowAt m c t 2 _ _ _ _ (by simp))
  case piece24 =>
    obtain rfl : j = 1 := Fin.ext h1
    obtain rfl : h = 3 := Fin.ext h2
    rw [pick8 1 (by decide), noCol, add_zero]
    exact memEntry m c t 1 3 a b p _ _ _ _ _ (gate_decay m c t 1 3) (gate_in m c t 1 3) (st12 m c t 1 3 a b) (rowAt m c t 1 _ _ _ _ (by simp)) (rowAt m c t 1 _ _ _ _ (by simp))
  case piece25 =>
    obtain rfl : j = 1 := Fin.ext h1
    obtain rfl : h = 2 := Fin.ext h2
    rw [pick8 1 (by decide), noCol, add_zero]
    exact memEntry m c t 1 2 a b p _ _ _ _ _ (gate_decay m c t 1 2) (gate_in m c t 1 2) (st12 m c t 1 2 a b) (rowAt m c t 1 _ _ _ _ (by simp)) (rowAt m c t 1 _ _ _ _ (by simp))
  case piece26 =>
    obtain rfl : j = 1 := Fin.ext h1
    obtain rfl : h = 1 := Fin.ext h2
    rw [pick8 1 (by decide), noCol, add_zero]
    exact memEntry m c t 1 1 a b p _ _ _ _ _ (gate_decay m c t 1 1) (gate_in m c t 1 1) (st12 m c t 1 1 a b) (rowAt m c t 1 _ _ _ _ (by simp)) (rowAt m c t 1 _ _ _ _ (by simp))
  case piece27 =>
    obtain rfl : j = 1 := Fin.ext h1
    obtain rfl : h = 0 := Fin.ext h2
    rw [pick8 1 (by decide), noCol, add_zero]
    exact memEntry m c t 1 0 a b p _ _ _ _ _ (gate_decay m c t 1 0) (gate_in m c t 1 0) (st12 m c t 1 0 a b) (rowAt m c t 1 _ _ _ _ (by simp)) (rowAt m c t 1 _ _ _ _ (by simp))
  case piece28 =>
    obtain rfl : j = 0 := Fin.ext h1
    obtain rfl : h = 3 := Fin.ext h2
    rw [pick8 0 (by decide), noCol, add_zero]
    exact memEntry m c t 0 3 a b p _ _ _ _ _ (gate_decay m c t 0 3) (gate_in m c t 0 3) (st12 m c t 0 3 a b) (rowAt m c t 0 _ _ _ _ (by simp)) (rowAt m c t 0 _ _ _ _ (by simp))
  case piece29 =>
    obtain rfl : j = 0 := Fin.ext h1
    obtain rfl : h = 2 := Fin.ext h2
    rw [pick8 0 (by decide), noCol, add_zero]
    exact memEntry m c t 0 2 a b p _ _ _ _ _ (gate_decay m c t 0 2) (gate_in m c t 0 2) (st12 m c t 0 2 a b) (rowAt m c t 0 _ _ _ _ (by simp)) (rowAt m c t 0 _ _ _ _ (by simp))
  case piece30 =>
    obtain rfl : j = 0 := Fin.ext h1
    obtain rfl : h = 1 := Fin.ext h2
    rw [pick8 0 (by decide), noCol, add_zero]
    exact memEntry m c t 0 1 a b p _ _ _ _ _ (gate_decay m c t 0 1) (gate_in m c t 0 1) (st12 m c t 0 1 a b) (rowAt m c t 0 _ _ _ _ (by simp)) (rowAt m c t 0 _ _ _ _ (by simp))
  case piece31 =>
    obtain rfl : j = 0 := Fin.ext h1
    obtain rfl : h = 0 := Fin.ext h2
    rw [pick8 0 (by decide), noCol, add_zero]
    exact memEntry m c t 0 0 a b p _ _ _ _ _ (gate_decay m c t 0 0) (gate_in m c t 0 0) (st12 m c t 0 0 a b) (rowAt m c t 0 _ _ _ _ (by simp)) (rowAt m c t 0 _ _ _ _ (by simp))

end Cert.MixIdeal.Whole

end
-- ==== Proof.MixMemEnd.lean ====
module

public import proofs.«01_k».proof.Proof.MixMem
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt

/-!
The matrix memory after the run: the second layer's slab is the reference's, the first layer's is the one handed over.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem start20 (c : Dev nD) : V m c main_v57_2 = m ((c : Thread nD τ).loc main_arg20) := by
  unfold V V0
  simp only [hostOps0, hostOps0_1, hostOps0_2, List.flatten_cons, List.flatten_nil, List.append_nil, List.cons_append, List.nil_append]
  after_reads_at
  rfl

theorem place20 (c : Dev nD) (t : Fin cfg0.N) (y : S1x8x4x128x128.Idx) (i : S2x128x4x128x128.Idx) (p : Vec Ideal S2x128x4x128x128 .f32)
    (h0 : (i 0 : ℕ) = 1) (h1 : (i 1 : ℕ) = t.val * 8 + (y 1 : ℕ)) (h2 : (i 2 : ℕ) = (y 2 : ℕ)) (h3 : (i 3 : ℕ) = (y 3 : ℕ)) (h4 : (i 4 : ℕ) = (y 4 : ℕ)) :
    left20 m c t y = val_main_v141 (F := Ideal) (A0 m c) (A1 m c) (A2 m c) (A12 m c) (A14 m c) p i := by
  obtain ⟨z, j, h, a, b, rfl⟩ : ∃ (z : Fin 1) (j : Fin 8) (h : Fin 4) (a : Fin 128) (b : Fin 128), y = ix5 z j h a b := ⟨y 0, y 1, y 2, y 3, y 4, eq_ix5 y⟩
  obtain ⟨l, j', h', a', b', rfl⟩ : ∃ (l : Fin 2) (j' : Fin 128) (h' : Fin 4) (a' : Fin 128) (b' : Fin 128), i = ix5 l j' h' a' b' := ⟨i 0, i 1, i 2, i 3, i 4, eq_ix5 i⟩
  obtain rfl : l = 1 := Fin.ext h0
  obtain rfl : j' = smp t j := Fin.ext (by rw [smp]; exact h1)
  obtain rfl : h' = h := Fin.ext h2
  obtain rfl : a' = a := Fin.ext h3
  obtain rfl : b' = b := Fin.ext h4
  exact point20 m c t z j _ _ _ p

set_option maxHeartbeats 4000000 in
theorem final20 (c : Dev nD) : (data m 0 c).arrAt 20 (cfgs 0).N = val_main_v141 (F := Ideal) (A0 m c) (A1 m c) (A2 m c) (A12 m c) (A14 m c) (m ((c : Thread nD τ).loc main_arg20)) := by
  have h : (data m 0 c).arrAt 20 (cfgs 0).N = fun i : S2x128x4x128x128.Idx => if (i 0 : ℕ) = 1 then val_main_v141 (F := Ideal) (A0 m c) (A1 m c) (A2 m c) (A12 m c) (A14 m c) (m ((c : Thread nD τ).loc main_arg20)) i else V m c main_v57_2 i := by
    refine (data m 0 c).arrAt_eq_of_coversWhere 20 _ (fun β => β (0 : Fin _) = 1) (by decide +kernel) (fun t _ y => ?_)
      (fun j => by blk_simp [Pipeline.Window.cell_apply]; rw [Nat.div_one])
    rw [after20]
    refine (cast_eq _ _).trans (place20 m c t _ _ _ ?_ ?_ ?_ ?_ ?_) <;> (blk_simp [idxOut t] <;> omega)
  rw [h]
  funext i
  by_cases hi : (i 0 : ℕ) = 1
  · exact if_pos hi
  · rw [if_neg hi, start20]
    obtain ⟨l, j, h, a, b, rfl⟩ : ∃ (l : Fin 2) (j : Fin 128) (h : Fin 4) (a : Fin 128) (b : Fin 128), i = ix5 l j h a b := ⟨i 0, i 1, i 2, i 3, i 4, eq_ix5 i⟩
    replace hi : ¬ (l : ℕ) = 1 := hi
    obtain rfl : l = 0 := Fin.ext (by have := l.isLt; simp only [Fin.val_zero]; omega)
    exact (MixRef.mem_kept _ _ _ _ _ _ _ _ _ _).symm

end Cert.MixIdeal.Whole

end
-- ==== Proof.MixSum.lean ====
module

public import proofs.«01_k».proof.Proof.MixGate
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
The normalizer the sample mixers write back.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem sumEntry (c : Dev nD) (t : Fin cfg0.N) (j : Fin 8) (h : Fin 4) (a : Fin 128) (p : Vec Ideal S2x128x4x128 .f32) (d e k s : EReal)
    (hd : d = decay (A14 m c (ix3 1 (smp t j) h)) (A0 m c (ix2 ⟨8192 + (smp t j : ℕ), by omega⟩ ⟨7684 + h, by omega⟩) + A2 m c (ix2 1 h)) (A0 m c (ix2 ⟨8192 + (smp t j : ℕ), by omega⟩ ⟨7680 + h, by omega⟩) + A1 m c (ix2 1 h))) (he : e = inputGate (A14 m c (ix3 1 (smp t j) h)) (A0 m c (ix2 ⟨8192 + (smp t j : ℕ), by omega⟩ ⟨7684 + h, by omega⟩) + A2 m c (ix2 1 h)) (A0 m c (ix2 ⟨8192 + (smp t j : ℕ), by omega⟩ ⟨7680 + h, by omega⟩) + A1 m c (ix2 1 h))) (hs : s = A13 m c (ix4 1 (smp t j) h a)) (hk : k = A0 m c (ix2 ⟨8192 + (smp t j : ℕ), by omega⟩ ⟨2560 + (h * 128 + a), by omega⟩)) :
    d * s + k * Ideal.ofBits .f32 1035273459#32 * e = val_main_v144 (F := Ideal) (A0 m c) (A1 m c) (A2 m c) (A13 m c) (A14 m c) p (ix4 1 (smp t j) h a) := by
  rw [MixRef.sum_at, MixRef.decay_at, MixRef.mkey_at, hd, he, hs, hk]
  rfl

set_option maxHeartbeats 16000000 in
theorem point21 (c : Dev nD) (t : Fin cfg0.N) (z : Fin 1) (j : Fin 8) (h : Fin 4) (a : Fin 128) (p : Vec Ideal S2x128x4x128 .f32) :
    left21 m c t (ix4 z j h a) = val_main_v144 (F := Ideal) (A0 m c) (A1 m c) (A2 m c) (A13 m c) (A14 m c) p (ix4 1 (smp t j) h a) := by
  unfold left21 stores
  frame_out
  generalize hx : (ix4 z j h a : S1x8x4x128.Idx) = x
  canon_tiles x h
  all_goals
    subst hx
    obtain ⟨z0, z1, z2, a', rfl⟩ : ∃ (z0 z1 z2 : Fin 1) (a' : Fin 128), x = ix4 z0 z1 z2 a' := ⟨x 0, x 1, x 2, x 3, eq_ix4 x⟩
    obtain rfl : z0 = 0 := Subsingleton.elim _ _
    obtain rfl : z1 = 0 := Subsingleton.elim _ _
    obtain rfl : z2 = 0 := Subsingleton.elim _ _
    obtain rfl : a = a' := Fin.ext h3
    clear x0_lt x1_lt x2_lt x3_lt h0 h3
    pointwise [k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419]
  case piece0 =>
    obtain rfl : j = 7 := Fin.ext h1
    obtain rfl : h = 3 := Fin.ext h2
    exact sumEntry m c t 7 3 a p _ _ _ _ (gate_decay m c t 7 3) (gate_in m c t 7 3) (st13 m c t 7 3 a) (rowAt m c t 7 _ _ _ _ (by simp))
  case piece1 =>
    obtain rfl : j = 7 := Fin.ext h1
    obtain rfl : h = 2 := Fin.ext h2
    exact sumEntry m c t 7 2 a p _ _ _ _ (gate_decay m c t 7 2) (gate_in m c t 7 2) (st13 m c t 7 2 a) (rowAt m c t 7 _ _ _ _ (by simp))
  case piece2 =>
    obtain rfl : j = 7 := Fin.ext h1
    obtain rfl : h = 1 := Fin.ext h2
    exact sumEntry m c t 7 1 a p _ _ _ _ (gate_decay m c t 7 1) (gate_in m c t 7 1) (st13 m c t 7 1 a) (rowAt m c t 7 _ _ _ _ (by simp))
  case piece3 =>
    obtain rfl : j = 7 := Fin.ext h1
    obtain rfl : h = 0 := Fin.ext h2
    exact sumEntry m c t 7 0 a p _ _ _ _ (gate_decay m c t 7 0) (gate_in m c t 7 0) (st13 m c t 7 0 a) (rowAt m c t 7 _ _ _ _ (by simp))
  case piece4 =>
    obtain rfl : j = 6 := Fin.ext h1
    obtain rfl : h = 3 := Fin.ext h2
    exact sumEntry m c t 6 3 a p _ _ _ _ (gate_decay m c t 6 3) (gate_in m c t 6 3) (st13 m c t 6 3 a) (rowAt m c t 6 _ _ _ _ (by simp))
  case piece5 =>
    obtain rfl : j = 6 := Fin.ext h1
    obtain rfl : h = 2 := Fin.ext h2
    exact sumEntry m c t 6 2 a p _ _ _ _ (gate_decay m c t 6 2) (gate_in m c t 6 2) (st13 m c t 6 2 a) (rowAt m c t 6 _ _ _ _ (by simp))
  case piece6 =>
    obtain rfl : j = 6 := Fin.ext h1
    obtain rfl : h = 1 := Fin.ext h2
    exact sumEntry m c t 6 1 a p _ _ _ _ (gate_decay m c t 6 1) (gate_in m c t 6 1) (st13 m c t 6 1 a) (rowAt m c t 6 _ _ _ _ (by simp))
  case piece7 =>
    obtain rfl : j = 6 := Fin.ext h1
    obtain rfl : h = 0 := Fin.ext h2
    exact sumEntry m c t 6 0 a p _ _ _ _ (gate_decay m c t 6 0) (gate_in m c t 6 0) (st13 m c t 6 0 a) (rowAt m c t 6 _ _ _ _ (by simp))
  case piece8 =>
    obtain rfl : j = 5 := Fin.ext h1
    obtain rfl : h = 3 := Fin.ext h2
    exact sumEntry m c t 5 3 a p _ _ _ _ (gate_decay m c t 5 3) (gate_in m c t 5 3) (st13 m c t 5 3 a) (rowAt m c t 5 _ _ _ _ (by simp))
  case piece9 =>
    obtain rfl : j = 5 := Fin.ext h1
    obtain rfl : h = 2 := Fin.ext h2
    exact sumEntry m c t 5 2 a p _ _ _ _ (gate_decay m c t 5 2) (gate_in m c t 5 2) (st13 m c t 5 2 a) (rowAt m c t 5 _ _ _ _ (by simp))
  case piece10 =>
    obtain rfl : j = 5 := Fin.ext h1
    obtain rfl : h = 1 := Fin.ext h2
    exact sumEntry m c t 5 1 a p _ _ _ _ (gate_decay m c t 5 1) (gate_in m c t 5 1) (st13 m c t 5 1 a) (rowAt m c t 5 _ _ _ _ (by simp))
  case piece11 =>
    obtain rfl : j = 5 := Fin.ext h1
    obtain rfl : h = 0 := Fin.ext h2
    exact sumEntry m c t 5 0 a p _ _ _ _ (gate_decay m c t 5 0) (gate_in m c t 5 0) (st13 m c t 5 0 a) (rowAt m c t 5 _ _ _ _ (by simp))
  case piece12 =>
    obtain rfl : j = 4 := Fin.ext h1
    obtain rfl : h = 3 := Fin.ext h2
    exact sumEntry m c t 4 3 a p _ _ _ _ (gate_decay m c t 4 3) (gate_in m c t 4 3) (st13 m c t 4 3 a) (rowAt m c t 4 _ _ _ _ (by simp))
  case piece13 =>
    obtain rfl : j = 4 := Fin.ext h1
    obtain rfl : h = 2 := Fin.ext h2
    exact sumEntry m c t 4 2 a p _ _ _ _ (gate_decay m c t 4 2) (gate_in m c t 4 2) (st13 m c t 4 2 a) (rowAt m c t 4 _ _ _ _ (by simp))
  case piece14 =>
    obtain rfl : j = 4 := Fin.ext h1
    obtain rfl : h = 1 := Fin.ext h2
    exact sumEntry m c t 4 1 a p _ _ _ _ (gate_decay m c t 4 1) (gate_in m c t 4 1) (st13 m c t 4 1 a) (rowAt m c t 4 _ _ _ _ (by simp))
  case piece15 =>
    obtain rfl : j = 4 := Fin.ext h1
    obtain rfl : h = 0 := Fin.ext h2
    exact sumEntry m c t 4 0 a p _ _ _ _ (gate_decay m c t 4 0) (gate_in m c t 4 0) (st13 m c t 4 0 a) (rowAt m c t 4 _ _ _ _ (by simp))
  case piece16 =>
    obtain rfl : j = 3 := Fin.ext h1
    obtain rfl : h = 3 := Fin.ext h2
    exact sumEntry m c t 3 3 a p _ _ _ _ (gate_decay m c t 3 3) (gate_in m c t 3 3) (st13 m c t 3 3 a) (rowAt m c t 3 _ _ _ _ (by simp))
  case piece17 =>
    obtain rfl : j = 3 := Fin.ext h1
    obtain rfl : h = 2 := Fin.ext h2
    exact sumEntry m c t 3 2 a p _ _ _ _ (gate_decay m c t 3 2) (gate_in m c t 3 2) (st13 m c t 3 2 a) (rowAt m c t 3 _ _ _ _ (by simp))
  case piece18 =>
    obtain rfl : j = 3 := Fin.ext h1
    obtain rfl : h = 1 := Fin.ext h2
    exact sumEntry m c t 3 1 a p _ _ _ _ (gate_decay m c t 3 1) (gate_in m c t 3 1) (st13 m c t 3 1 a) (rowAt m c t 3 _ _ _ _ (by simp))
  case piece19 =>
    obtain rfl : j = 3 := Fin.ext h1
    obtain rfl : h = 0 := Fin.ext h2
    exact sumEntry m c t 3 0 a p _ _ _ _ (gate_decay m c t 3 0) (gate_in m c t 3 0) (st13 m c t 3 0 a) (rowAt m c t 3 _ _ _ _ (by simp))
  case piece20 =>
    obtain rfl : j = 2 := Fin.ext h1
    obtain rfl : h = 3 := Fin.ext h2
    exact sumEntry m c t 2 3 a p _ _ _ _ (gate_decay m c t 2 3) (gate_in m c t 2 3) (st13 m c t 2 3 a) (rowAt m c t 2 _ _ _ _ (by simp))
  case piece21 =>
    obtain rfl : j = 2 := Fin.ext h1
    obtain rfl : h = 2 := Fin.ext h2
    exact sumEntry m c t 2 2 a p _ _ _ _ (gate_decay m c t 2 2) (gate_in m c t 2 2) (st13 m c t 2 2 a) (rowAt m c t 2 _ _ _ _ (by simp))
  case piece22 =>
    obtain rfl : j = 2 := Fin.ext h1
    obtain rfl : h = 1 := Fin.ext h2
    exact sumEntry m c t 2 1 a p _ _ _ _ (gate_decay m c t 2 1) (gate_in m c t 2 1) (st13 m c t 2 1 a) (rowAt m c t 2 _ _ _ _ (by simp))
  case piece23 =>
    obtain rfl : j = 2 := Fin.ext h1
    obtain rfl : h = 0 := Fin.ext h2
    exact sumEntry m c t 2 0 a p _ _ _ _ (gate_decay m c t 2 0) (gate_in m c t 2 0) (st13 m c t 2 0 a) (rowAt m c t 2 _ _ _ _ (by simp))
  case piece24 =>
    obtain rfl : j = 1 := Fin.ext h1
    obtain rfl : h = 3 := Fin.ext h2
    exact sumEntry m c t 1 3 a p _ _ _ _ (gate_decay m c t 1 3) (gate_in m c t 1 3) (st13 m c t 1 3 a) (rowAt m c t 1 _ _ _ _ (by simp))
  case piece25 =>
    obtain rfl : j = 1 := Fin.ext h1
    obtain rfl : h = 2 := Fin.ext h2
    exact sumEntry m c t 1 2 a p _ _ _ _ (gate_decay m c t 1 2) (gate_in m c t 1 2) (st13 m c t 1 2 a) (rowAt m c t 1 _ _ _ _ (by simp))
  case piece26 =>
    obtain rfl : j = 1 := Fin.ext h1
    obtain rfl : h = 1 := Fin.ext h2
    exact sumEntry m c t 1 1 a p _ _ _ _ (gate_decay m c t 1 1) (gate_in m c t 1 1) (st13 m c t 1 1 a) (rowAt m c t 1 _ _ _ _ (by simp))
  case piece27 =>
    obtain rfl : j = 1 := Fin.ext h1
    obtain rfl : h = 0 := Fin.ext h2
    exact sumEntry m c t 1 0 a p _ _ _ _ (gate_decay m c t 1 0) (gate_in m c t 1 0) (st13 m c t 1 0 a) (rowAt m c t 1 _ _ _ _ (by simp))
  case piece28 =>
    obtain rfl : j = 0 := Fin.ext h1
    obtain rfl : h = 3 := Fin.ext h2
    exact sumEntry m c t 0 3 a p _ _ _ _ (gate_decay m c t 0 3) (gate_in m c t 0 3) (st13 m c t 0 3 a) (rowAt m c t 0 _ _ _ _ (by simp))
  case piece29 =>
    obtain rfl : j = 0 := Fin.ext h1
    obtain rfl : h = 2 := Fin.ext h2
    exact sumEntry m c t 0 2 a p _ _ _ _ (gate_decay m c t 0 2) (gate_in m c t 0 2) (st13 m c t 0 2 a) (rowAt m c t 0 _ _ _ _ (by simp))
  case piece30 =>
    obtain rfl : j = 0 := Fin.ext h1
    obtain rfl : h = 1 := Fin.ext h2
    exact sumEntry m c t 0 1 a p _ _ _ _ (gate_decay m c t 0 1) (gate_in m c t 0 1) (st13 m c t 0 1 a) (rowAt m c t 0 _ _ _ _ (by simp))
  case piece31 =>
    obtain rfl : j = 0 := Fin.ext h1
    obtain rfl : h = 0 := Fin.ext h2
    exact sumEntry m c t 0 0 a p _ _ _ _ (gate_decay m c t 0 0) (gate_in m c t 0 0) (st13 m c t 0 0 a) (rowAt m c t 0 _ _ _ _ (by simp))

end Cert.MixIdeal.Whole

end
-- ==== Proof.MixSumEnd.lean ====
module

public import proofs.«01_k».proof.Proof.MixSum
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt

/-!
The sum of keys after the run: the second layer's slab is the reference's, the first layer's is the one handed over.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem start21 (c : Dev nD) : V m c main_v57_3 = m ((c : Thread nD τ).loc main_arg21) := by
  unfold V V0
  simp only [hostOps0, hostOps0_1, hostOps0_2, List.flatten_cons, List.flatten_nil, List.append_nil, List.cons_append, List.nil_append]
  after_reads_at
  rfl

theorem place21 (c : Dev nD) (t : Fin cfg0.N) (y : S1x8x4x128.Idx) (i : S2x128x4x128.Idx) (p : Vec Ideal S2x128x4x128 .f32)
    (h0 : (i 0 : ℕ) = 1) (h1 : (i 1 : ℕ) = t.val * 8 + (y 1 : ℕ)) (h2 : (i 2 : ℕ) = (y 2 : ℕ)) (h3 : (i 3 : ℕ) = (y 3 : ℕ)) :
    left21 m c t y = val_main_v144 (F := Ideal) (A0 m c) (A1 m c) (A2 m c) (A13 m c) (A14 m c) p i := by
  obtain ⟨z, j, h, a, rfl⟩ : ∃ (z : Fin 1) (j : Fin 8) (h : Fin 4) (a : Fin 128), y = ix4 z j h a := ⟨y 0, y 1, y 2, y 3, eq_ix4 y⟩
  obtain ⟨l, j', h', a', rfl⟩ : ∃ (l : Fin 2) (j' : Fin 128) (h' : Fin 4) (a' : Fin 128), i = ix4 l j' h' a' := ⟨i 0, i 1, i 2, i 3, eq_ix4 i⟩
  obtain rfl : l = 1 := Fin.ext h0
  obtain rfl : j' = smp t j := Fin.ext (by rw [smp]; exact h1)
  obtain rfl : h' = h := Fin.ext h2
  obtain rfl : a' = a := Fin.ext h3
  exact point21 m c t z j _ _ p

set_option maxHeartbeats 4000000 in
theorem final21 (c : Dev nD) : (data m 0 c).arrAt 21 (cfgs 0).N = val_main_v144 (F := Ideal) (A0 m c) (A1 m c) (A2 m c) (A13 m c) (A14 m c) (m ((c : Thread nD τ).loc main_arg21)) := by
  have h : (data m 0 c).arrAt 21 (cfgs 0).N = fun i : S2x128x4x128.Idx => if (i 0 : ℕ) = 1 then val_main_v144 (F := Ideal) (A0 m c) (A1 m c) (A2 m c) (A13 m c) (A14 m c) (m ((c : Thread nD τ).loc main_arg21)) i else V m c main_v57_3 i := by
    refine (data m 0 c).arrAt_eq_of_coversWhere 21 _ (fun β => β (0 : Fin _) = 1) (by decide +kernel) (fun t _ y => ?_)
      (fun j => by blk_simp [Pipeline.Window.cell_apply]; rw [Nat.div_one])
    rw [after21]
    refine (cast_eq _ _).trans (place21 m c t _ _ _ ?_ ?_ ?_ ?_) <;> (blk_simp [idxOut t] <;> omega)
  rw [h]
  funext i
  by_cases hi : (i 0 : ℕ) = 1
  · exact if_pos hi
  · rw [if_neg hi, start21]
    obtain ⟨l, j, h, a, rfl⟩ : ∃ (l : Fin 2) (j : Fin 128) (h : Fin 4) (a : Fin 128), i = ix4 l j h a := ⟨i 0, i 1, i 2, i 3, eq_ix4 i⟩
    replace hi : ¬ (l : ℕ) = 1 := hi
    obtain rfl : l = 0 := Fin.ext (by have := l.isLt; simp only [Fin.val_zero]; omega)
    exact (MixRef.sum_kept _ _ _ _ _ _ _ _ _).symm

end Cert.MixIdeal.Whole

end
-- ==== Proof.MixGateEnd.lean ====
module

public import proofs.«01_k».proof.Proof.MixGate
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt

/-!
The stabilizer after the run: the second layer's slab is the reference's, the first layer's is the one handed over.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem start22 (c : Dev nD) : V m c main_v57_4 = m ((c : Thread nD τ).loc main_arg22) := by
  unfold V V0
  simp only [hostOps0, hostOps0_1, hostOps0_2, List.flatten_cons, List.flatten_nil, List.append_nil, List.cons_append, List.nil_append]
  after_reads_at
  rfl

theorem place22 (c : Dev nD) (t : Fin cfg0.N) (y : S1x8x128.Idx) (i : S2x128x4.Idx) (p : Vec Ideal S2x128x128 .f32)
    (h0 : (i 0 : ℕ) = 1) (h1 : (i 1 : ℕ) = t.val * 8 + (y 1 : ℕ)) (h2 : (i 2 : ℕ) = (y 2 : ℕ)) :
    left22 m c t y = val_main_v148 (F := Ideal) (A0 m c) (A1 m c) (A2 m c) (A14 m c) p i := by
  obtain ⟨z, j, h, rfl⟩ : ∃ (z : Fin 1) (j : Fin 8) (h : Fin 128), y = ix3 z j h := ⟨y 0, y 1, y 2, eq_ix3 y⟩
  obtain ⟨l, j', h', rfl⟩ : ∃ (l : Fin 2) (j' : Fin 128) (h' : Fin 4), i = ix3 l j' h' := ⟨i 0, i 1, i 2, eq_ix3 i⟩
  obtain rfl : l = 1 := Fin.ext h0
  obtain rfl : j' = smp t j := Fin.ext (by rw [smp]; exact h1)
  obtain rfl : h = ⟨(h' : ℕ), Nat.lt_trans h'.isLt (by decide)⟩ := Fin.ext h2.symm
  exact point22 m c t z j h' p

/-- What the kernel leaves in the lanes no head uses. -/
def unused22 (c : Dev nD) (i : S2x128x128.Idx) : EReal :=
  left22 m c ⟨(i 1 : ℕ) / 8, by have h : (i 1 : ℕ) < 128 := (i 1).isLt; have e : cfg0.N = 16 := rfl; omega⟩ (ix3 0 ⟨(i 1 : ℕ) % 8, by omega⟩ (i 2))

theorem placeUnused (c : Dev nD) (t : Fin cfg0.N) (y : S1x8x128.Idx) (i : S2x128x128.Idx) (h1 : (i 1 : ℕ) = t.val * 8 + (y 1 : ℕ)) (h2 : (i 2 : ℕ) = (y 2 : ℕ)) :
    left22 m c t y = unused22 m c i := by
  obtain ⟨z, j, h, rfl⟩ : ∃ (z : Fin 1) (j : Fin 8) (h : Fin 128), y = ix3 z j h := ⟨y 0, y 1, y 2, eq_ix3 y⟩
  obtain ⟨l, j', h', rfl⟩ : ∃ (l : Fin 2) (j' h' : Fin 128), i = ix3 l j' h' := ⟨i 0, i 1, i 2, eq_ix3 i⟩
  obtain rfl : h' = h := Fin.ext h2
  obtain rfl : z = 0 := Subsingleton.elim _ _
  obtain rfl : j' = smp t j := Fin.ext (by rw [smp]; exact h1)
  have b := j.isLt
  have e : (⟨(t.val * 8 + j : ℕ) / 8, by have := t.isLt; omega⟩ : Fin cfg0.N) = t := Fin.ext (by show (t.val * 8 + j : ℕ) / 8 = t.val; omega)
  have e' : (⟨(t.val * 8 + j : ℕ) % 8, by omega⟩ : Fin 8) = j := Fin.ext (by show (t.val * 8 + j : ℕ) % 8 = j; omega)
  unfold unused22
  show _ = left22 m c (⟨(t.val * 8 + j : ℕ) / 8, _⟩ : Fin cfg0.N) (ix3 0 (⟨(t.val * 8 + j : ℕ) % 8, _⟩ : Fin 8) h')
  rw [e, e']

theorem whole_apart : Function.Injective (Pipeline.arrRef (cfgs 0).spec) := by decide

/-- The array the slice after the call leaves. -/
theorem after58 (c : Dev nD) : Pipeline.afterTail₀ cfgs (data m) 0 (V0 m) [hostOps1] c main_v58 = extractStridedSlice S2x128x4 ![0, 0, 0] ((data m 0 c).arrAt 22 (cfgs 0).N) slices_S2x128x128_S2x128x4_0_0_0 := by
  unfold Pipeline.afterTail₀
  simp only [hostOps1, List.flatten_cons, List.flatten_nil, List.append_nil]
  after_results
  exact congrArg (fun A : Vec Ideal S2x128x128 .f32 => extractStridedSlice S2x128x4 ![0, 0, 0] A slices_S2x128x128_S2x128x4_0_0_0)
    (Pipeline.withArrays_arr (cfgs 0).spec whole_apart c (V0 m c) (fun w => (data m 0 c).arrAt w (cfgs 0).N) 22)

/-- Entry `i` of the second layer's slab: the reference's where a head has a lane. -/
def lane22 (c : Dev nD) (i : S2x128x128.Idx) : EReal :=
  if hl : (i 2 : ℕ) < 4 then val_main_v148 (F := Ideal) (A0 m c) (A1 m c) (A2 m c) (A14 m c) (m ((c : Thread nD τ).loc main_arg22)) (ix3 (1 : Fin 2) (i 1 : Fin 128) (⟨(i 2 : ℕ), hl⟩ : Fin 4))
  else unused22 m c i

theorem placeLane (c : Dev nD) (t : Fin cfg0.N) (y : S1x8x128.Idx) (i : S2x128x128.Idx) (h1 : (i 1 : ℕ) = t.val * 8 + (y 1 : ℕ)) (h2 : (i 2 : ℕ) = (y 2 : ℕ)) :
    left22 m c t y = lane22 m c i := by
  unfold lane22
  split
  · exact place22 m c t y _ _ rfl h1 h2
  · exact placeUnused m c t y i h1 h2

set_option maxHeartbeats 4000000 in
theorem whole22 (c : Dev nD) : (data m 0 c).arrAt 22 (cfgs 0).N = fun i : S2x128x128.Idx => if (i 0 : ℕ) = 1 then lane22 m c i else V m c main_v57_4 i := by
  refine (data m 0 c).arrAt_eq_of_coversWhere 22 _ (fun β => β (0 : Fin _) = 1) (by decide +kernel) (fun t _ y => ?_)
    (fun j => by blk_simp [Pipeline.Window.cell_apply]; rw [Nat.div_one])
  rw [after22]
  refine (cast_eq _ _).trans (placeLane m c t _ _ ?_ ?_) <;> (blk_simp [idxOut t] <;> omega)

theorem lanes (A : Vec Ideal S2x128x128 .f32) (l : Fin 2) (j : Fin 128) (h : Fin 4) :
    extractStridedSlice S2x128x4 ![0, 0, 0] A slices_S2x128x128_S2x128x4_0_0_0 (ix3 l j h) = A (ix3 l j ⟨h, by omega⟩) := by
  pointwise []

theorem final22 (c : Dev nD) : extractStridedSlice S2x128x4 ![0, 0, 0] ((data m 0 c).arrAt 22 (cfgs 0).N) slices_S2x128x128_S2x128x4_0_0_0 = val_main_v148 (F := Ideal) (A0 m c) (A1 m c) (A2 m c) (A14 m c) (m ((c : Thread nD τ).loc main_arg22)) := by
  rw [whole22]
  funext i
  obtain ⟨l, j, h, rfl⟩ : ∃ (l : Fin 2) (j : Fin 128) (h : Fin 4), i = ix3 l j h := ⟨i 0, i 1, i 2, eq_ix3 i⟩
  refine (lanes _ l j h).trans ?_
  show (if (l : ℕ) = 1 then lane22 m c (ix3 l j ⟨h, by omega⟩) else V m c main_v57_4 (ix3 l j ⟨h, by omega⟩)) = _
  by_cases hi : (l : ℕ) = 1
  · obtain rfl : l = 1 := Fin.ext hi
    rw [if_pos hi, lane22]
    exact dif_pos h.isLt
  · rw [if_neg hi, start22]
    obtain rfl : l = 0 := Fin.ext (by have := l.isLt; simp only [Fin.val_zero]; omega)
    exact (MixRef.lane_kept _ _ _ _ _ _ _).symm

end Cert.MixIdeal.Whole

end
-- ==== Proof.MixTail.lean ====
module

public import proofs.«01_k».proof.Proof.MixHost
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
The convolution tail the sample mixers write back.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem st16 (c : Dev nD) (t : Fin cfg0.N) (d : Fin 3) (j : Fin 8) (k : Fin 1536) : iblk m c 16 t (ix4 0 d j k) = A16 m c (ix4 1 (smp t j) d k) := by
  rw [← in16]
  blk_point [iblk, idx t]

set_option maxHeartbeats 4000000 in
theorem point24 (c : Dev nD) (t : Fin cfg0.N) (z : Fin 1) (d : Fin 3) (j : Fin 8) (k : Fin 1536) (p : Vec Ideal S2x3x128x1536 .f32) :
    left24 m c t (ix4 z d j k) = val_main_v152 (F := Ideal) (A0 m c) (A16 m c) p (ix4 1 d (smp t j) k) := by
  unfold left24 stores
  frame_out
  generalize hx : (ix4 z d j k : S1x3x8x1536.Idx) = x
  canon_tiles x h
  all_goals
    subst hx
    obtain ⟨z0, z1, j', k', rfl⟩ : ∃ (z0 z1 : Fin 1) (j' : Fin 8) (k' : Fin 512), x = ix4 z0 z1 j' k' := ⟨x 0, x 1, x 2, x 3, eq_ix4 x⟩
    obtain rfl : z0 = 0 := Subsingleton.elim _ _
    obtain rfl : z1 = 0 := Subsingleton.elim _ _
    obtain rfl : j = j' := Fin.ext h2
    clear x0_lt x1_lt x2_lt x3_lt h0 h2
    pointwise [k0_pay420, k0_pay421, k0_pay422, k0_pay423, k0_pay424, k0_pay425, k0_pay426, k0_pay427, k0_pay428, k0_pay429, k0_pay430, k0_pay431, k0_pay432, k0_pay433, k0_pay434, k0_pay435]
  case piece0 =>
    obtain rfl : d = 2 := Fin.ext h1
    rw [MixRef.tail_at, dif_neg (by decide), row0]
    exact congrArg (fun l => A0 m c (ix2 ⟨8192 + (smp t j : ℕ), by omega⟩ l)) (Fin.ext (by have h3' := h3; change (k : ℕ) = _ + (k' : ℕ) at h3'; simp only; omega))
  case piece1 =>
    obtain rfl : d = 1 := Fin.ext h1
    rw [MixRef.tail_at, dif_pos (by decide), st16]
    exact congrArg (fun l => A16 m c (ix4 1 (smp t j) 2 l)) (Fin.ext h3.symm)
  case piece2 =>
    obtain rfl : d = 0 := Fin.ext h1
    rw [MixRef.tail_at, dif_pos (by decide), st16]
    exact congrArg (fun l => A16 m c (ix4 1 (smp t j) 1 l)) (Fin.ext h3.symm)
  case piece3 =>
    obtain rfl : d = 2 := Fin.ext h1
    rw [MixRef.tail_at, dif_neg (by decide), row0]
    exact congrArg (fun l => A0 m c (ix2 ⟨8192 + (smp t j : ℕ), by omega⟩ l)) (Fin.ext (by have h3' := h3; change (k : ℕ) = _ + (k' : ℕ) at h3'; simp only; omega))
  case piece4 =>
    obtain rfl : d = 1 := Fin.ext h1
    rw [MixRef.tail_at, dif_pos (by decide), st16]
    exact congrArg (fun l => A16 m c (ix4 1 (smp t j) 2 l)) (Fin.ext h3.symm)
  case piece5 =>
    obtain rfl : d = 0 := Fin.ext h1
    rw [MixRef.tail_at, dif_pos (by decide), st16]
    exact congrArg (fun l => A16 m c (ix4 1 (smp t j) 1 l)) (Fin.ext h3.symm)
  case piece6 =>
    obtain rfl : d = 2 := Fin.ext h1
    rw [MixRef.tail_at, dif_neg (by decide), row0]
    exact congrArg (fun l => A0 m c (ix2 ⟨8192 + (smp t j : ℕ), by omega⟩ l)) (Fin.ext (by have h3' := h3; change (k : ℕ) = (k' : ℕ) at h3'; simp only; omega))
  case piece7 =>
    obtain rfl : d = 1 := Fin.ext h1
    rw [MixRef.tail_at, dif_pos (by decide), st16]
    exact congrArg (fun l => A16 m c (ix4 1 (smp t j) 2 l)) (Fin.ext h3.symm)
  case piece8 =>
    obtain rfl : d = 0 := Fin.ext h1
    rw [MixRef.tail_at, dif_pos (by decide), st16]
    exact congrArg (fun l => A16 m c (ix4 1 (smp t j) 1 l)) (Fin.ext h3.symm)

end Cert.MixIdeal.Whole

end
-- ==== Proof.MixTailEnd.lean ====
module

public import proofs.«01_k».proof.Proof.MixTail
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt

/-!
The convolution tail after the run: the second layer's slab is the reference's, the first layer's is the one handed over.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem start24 (c : Dev nD) : V m c main_v57_6 = m ((c : Thread nD τ).loc main_arg24) := by
  unfold V V0
  simp only [hostOps0, hostOps0_1, hostOps0_2, List.flatten_cons, List.flatten_nil, List.append_nil, List.cons_append, List.nil_append]
  after_reads_at
  rfl

theorem place24 (c : Dev nD) (t : Fin cfg0.N) (y : S1x3x8x1536.Idx) (i : S2x3x128x1536.Idx) (p : Vec Ideal S2x3x128x1536 .f32)
    (h0 : (i 0 : ℕ) = 1) (h1 : (i 1 : ℕ) = (y 1 : ℕ)) (h2 : (i 2 : ℕ) = t.val * 8 + (y 2 : ℕ)) (h3 : (i 3 : ℕ) = (y 3 : ℕ)) :
    left24 m c t y = val_main_v152 (F := Ideal) (A0 m c) (A16 m c) p i := by
  obtain ⟨z, d, j, k, rfl⟩ : ∃ (z : Fin 1) (d : Fin 3) (j : Fin 8) (k : Fin 1536), y = ix4 z d j k := ⟨y 0, y 1, y 2, y 3, eq_ix4 y⟩
  obtain ⟨l, d', j', k', rfl⟩ : ∃ (l : Fin 2) (d' : Fin 3) (j' : Fin 128) (k' : Fin 1536), i = ix4 l d' j' k' := ⟨i 0, i 1, i 2, i 3, eq_ix4 i⟩
  obtain rfl : l = 1 := Fin.ext h0
  obtain rfl : d' = d := Fin.ext h1
  obtain rfl : j' = smp t j := Fin.ext (by rw [smp]; exact h2)
  obtain rfl : k' = k := Fin.ext h3
  exact point24 m c t z _ j _ p

set_option maxHeartbeats 4000000 in
theorem final24 (c : Dev nD) : (data m 0 c).arrAt 24 (cfgs 0).N = val_main_v152 (F := Ideal) (A0 m c) (A16 m c) (m ((c : Thread nD τ).loc main_arg24)) := by
  have h : (data m 0 c).arrAt 24 (cfgs 0).N = fun i : S2x3x128x1536.Idx => if (i 0 : ℕ) = 1 then val_main_v152 (F := Ideal) (A0 m c) (A16 m c) (m ((c : Thread nD τ).loc main_arg24)) i else V m c main_v57_6 i := by
    refine (data m 0 c).arrAt_eq_of_coversWhere 24 _ (fun β => β (0 : Fin _) = 1) (by decide +kernel) (fun t _ y => ?_)
      (fun j => by blk_simp [Pipeline.Window.cell_apply]; rw [Nat.div_one])
    rw [after24]
    refine (cast_eq _ _).trans (place24 m c t _ _ _ ?_ ?_ ?_ ?_) <;> (blk_simp [idxOut t] <;> omega)
  rw [h]
  funext i
  by_cases hi : (i 0 : ℕ) = 1
  · exact if_pos hi
  · rw [if_neg hi, start24]
    obtain ⟨l, d, j, k, rfl⟩ : ∃ (l : Fin 2) (d : Fin 3) (j : Fin 128) (k : Fin 1536), i = ix4 l d j k := ⟨i 0, i 1, i 2, i 3, eq_ix4 i⟩
    replace hi : ¬ (l : ℕ) = 1 := hi
    obtain rfl : l = 0 := Fin.ext (by have := l.isLt; simp only [Fin.val_zero]; omega)
    exact (MixRef.tail_kept _ _ _ _ _ _).symm

end Cert.MixIdeal.Whole

end
-- ==== Proof.MixLow.lean ====
module

public import proofs.«01_k».proof.Proof.MixHost
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt
public import Idealize.ShloMosaic.Lib.StableHlo.RunClose

/-!
The decay of the gated linear attention at a grid point.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

set_option maxHeartbeats 2000000 in
/-- The other rows of the low-rank factor are zero. -/
theorem inLow0 (c : Dev nD) (l : Fin 128) (k : Fin 256) (hl : (l : ℕ) < 16 ∨ 32 ≤ (l : ℕ)) : V m c main_v53 (ix2 l k) = (0 : EReal) := by
  unfold V V0
  simp only [hostOps0, hostOps0_1, hostOps0_2, List.flatten_cons, List.flatten_nil, List.append_nil, List.cons_append, List.nil_append]
  after_results_simp_entrywise
  pointwise []
  rw [dif_neg (by simp only [low_0, low_1]; omega)]

theorem lowRow (c : Dev nD) (t : Fin cfg0.N) (l : Fin 128) (k : Fin 256) : iblk m c 9 t (ix2 l k) = V m c main_v53 (ix2 l k) := by
  blk_point [iblk, idxRow t]

theorem biasRow (c : Dev nD) (t : Fin cfg0.N) (k : Fin 256) : iblk m c 10 t (ix2 0 k) = A9 m c (ix2 1 k) := by
  rw [← inBias]
  blk_point [iblk, idxRow t]

theorem st17 (c : Dev nD) (t : Fin cfg0.N) (j : Fin 8) (h : Fin 2) (a b : Fin 128) :
    iblk m c 17 t (ix5 0 j h a b) = A17 m c (ix5 1 (smp t j) ⟨h * 2 + a / 64, by omega⟩ ⟨a % 64, by omega⟩ b) := by
  rw [← in17]
  blk_point [iblk, idx t]

/-- A sum over 128 rows of which sixteen count. -/
theorem sixteen (f : Fin 128 → EReal) (hf : ∀ l : Fin 128, ((l : ℕ) < 16 ∨ 32 ≤ (l : ℕ)) → f l = 0) :
    ∑ l : Fin 128, f l = ∑ x : Fin 16, f ⟨16 + x, by omega⟩ := by
  symm
  refine Finset.sum_of_injOn (fun x : Fin 16 => (⟨16 + x, by omega⟩ : Fin 128)) (fun x _ y _ hxy => ?_) (fun _ _ => Finset.mem_coe.mpr (Finset.mem_univ _)) (fun l _ hl => ?_) (fun _ _ => rfl)
  · have := congrArg Fin.val hxy
    exact Fin.ext (by simp only at this; omega)
  · refine hf l ?_
    by_contra hc
    exact hl ⟨⟨l - 16, by omega⟩, Finset.mem_coe.mpr (Finset.mem_univ _), Fin.ext (by simp only; omega)⟩

theorem lin_decay (c : Dev nD) (t : Fin cfg0.N) (j : Fin 8) (l : Fin 256) :
    k0_pay650 (F := Ideal) (k0_pay649 (View.ld (iblk m c 0 t) (Rect.unit ![0, 7680] ![8, 128] inb_S8x8192_S8x128_0_7680)) (iblk m c 9 t)) (iblk m c 10 t) (ix2 j l)
    = val_main_v119 (F := Ideal) (A0 m c) (A8 m c) (A9 m c) (ix2 (smp t j) l) := by
  have hs : k0_pay649 (F := Ideal) (View.ld (iblk m c 0 t) (Rect.unit ![0, 7680] ![8, 128] inb_S8x8192_S8x128_0_7680)) (iblk m c 9 t) (ix2 j l)
      = ∑ x : Fin 16, A0 m c (ix2 ⟨8192 + (smp t j : ℕ), by omega⟩ ⟨7696 + x, by omega⟩) * A8 m c (ix3 1 x l) := by
    pointwise [k0_pay649]
    rw [sixteen _ (fun x hx => by rw [lowRow, inLow0 m c x l hx, mul_zero])]
    refine Finset.sum_congr rfl fun x _ => ?_
    rw [lowRow, inLow, row0]
    exact congrArg (fun d => A0 m c (ix2 ⟨8192 + (smp t j : ℕ), by omega⟩ d) * _) (Fin.ext (by simp only; omega))
  rw [MixRef.ldecay_at, ← hs, ← biasRow m c t]
  unfold linDecay logSig softplus
  generalize k0_pay649 (F := Ideal) (View.ld (iblk m c 0 t) (Rect.unit ![0, 7680] ![8, 128] inb_S8x8192_S8x128_0_7680)) (iblk m c 9 t) = Y
  pointwise [k0_pay650, k0_pay651]
  simp only [zero_sub]

end Cert.MixIdeal.Whole

end
-- ==== Proof.MixLin.lean ====
module

public import proofs.«01_k».proof.Proof.MixLow
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack

/-!
The linear attention state the sample mixers write back: two heads lie one above the other in a block.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem half_word (a : Fin 128) : IntOp.cmpi .slt (BitVec.ofNat 32 ↑a) 64#32 = if (a : ℕ) < 64 then 1#1 else 0#1 := by
  revert a
  decide +kernel

/-- Which row of the three groups of eight a lane keeps. -/
theorem lowHalf (a : Fin 128) (ha : (a : ℕ) < 64) (u v : BitVec 32) : Scalar.select (IntOp.cmpi .slt (BitVec.ofNat 32 ↑a) 64#32) u v = u := by
  rw [half_word, if_pos ha]
  rfl

theorem highHalf (a : Fin 128) (ha : ¬ (a : ℕ) < 64) (u v : BitVec 32) : Scalar.select (IntOp.cmpi .slt (BitVec.ofNat 32 ↑a) 64#32) u v = v := by
  rw [half_word, if_neg ha]
  rfl

theorem missHigh (j : ℕ) (hj : j < 8) (f : Fin 8 → EReal) :
    ∑ x : Fin 8, Scalar.select (IntOp.cmpi .eq (BitVec.ofNat 32 (8 + ↑x)) (BitVec.ofNat 32 j)) (f x) 0 = 0 := by
  have hk : ∀ (j x : Fin 8), IntOp.cmpi .eq (BitVec.ofNat 32 (8 + ↑x)) (BitVec.ofNat 32 ↑j) = 0#1 := by decide +kernel
  refine Finset.sum_eq_zero fun x _ => ?_
  rw [hk ⟨j, hj⟩ x]
  rfl

theorem missLow (j : ℕ) (hj : j < 8) (q : ℕ) (hq : q = 8 + j) (f : Fin 8 → EReal) :
    ∑ x : Fin 8, Scalar.select (IntOp.cmpi .eq (BitVec.ofNat 32 ↑x) (BitVec.ofNat 32 q)) (f x) 0 = 0 := by
  have hk : ∀ (j x : Fin 8), IntOp.cmpi .eq (BitVec.ofNat 32 ↑x) (BitVec.ofNat 32 (8 + ↑j)) = 0#1 := by decide +kernel
  subst hq
  refine Finset.sum_eq_zero fun x _ => ?_
  rw [hk ⟨j, hj⟩ x]
  rfl

theorem pickHigh (j : ℕ) (hj : j < 8) (q : ℕ) (hq : q = 8 + j) (f : Fin 8 → EReal) :
    ∑ x : Fin 8, Scalar.select (IntOp.cmpi .eq (BitVec.ofNat 32 (8 + ↑x)) (BitVec.ofNat 32 q)) (f x) 0 = f ⟨j, hj⟩ := by
  have hk : ∀ (j x : Fin 8), IntOp.cmpi .eq (BitVec.ofNat 32 (8 + ↑x)) (BitVec.ofNat 32 (8 + ↑j)) = IntOp.cmpi .eq (BitVec.ofNat 32 ↑x) (BitVec.ofNat 32 ↑j) := by
    decide +kernel
  subst hq
  rw [← pick8 j hj f]
  exact Finset.sum_congr rfl fun x _ => by rw [hk ⟨j, hj⟩ x]

theorem noRow {n : ℕ} (f : Fin n → BitVec 1) : ∑ x : Fin n, Scalar.select (f x) ((0 : EReal) * 0) 0 = 0 := by
  simp [Scalar.select]

theorem decAt (c : Dev nD) (t : Fin cfg0.N) (j : Fin 8) (x y : ℕ) (qx : x < 256) (qy : y < 256) (h : x = y) :
    k0_pay650 (F := Ideal) (k0_pay649 (View.ld (iblk m c 0 t) (Rect.unit ![0, 7680] ![8, 128] inb_S8x8192_S8x128_0_7680)) (iblk m c 9 t)) (iblk m c 10 t) (ix2 j ⟨x, qx⟩)
    = val_main_v119 (F := Ideal) (A0 m c) (A8 m c) (A9 m c) (ix2 (smp t j) ⟨y, qy⟩) := by
  subst h
  exact lin_decay m c t j _

theorem linEntry (c : Dev nD) (t : Fin cfg0.N) (j : Fin 8) (h : Fin 2) (a b : Fin 128) (p : Vec Ideal S2x128x2x128x128 .f32) (d s k v : EReal) (q : Fin 512)
    (hq : (q : ℕ) = (h * 2 + a / 64) * 128 + b) (hd : d = val_main_v119 (F := Ideal) (A0 m c) (A8 m c) (A9 m c) (ix2 (smp t j) ⟨h * 128 + a, by omega⟩))
    (hs : s = A17 m c (ix5 1 (smp t j) ⟨h * 2 + a / 64, by omega⟩ ⟨a % 64, by omega⟩ b)) (hk : k = A0 m c (ix2 ⟨8192 + (smp t j : ℕ), by omega⟩ ⟨6400 + (h * 128 + a), by omega⟩)) (hv : v = A0 m c (ix2 ⟨8192 + (smp t j : ℕ), by omega⟩ ⟨6656 + q, by omega⟩)) :
    d * s + k * v = val_main_v156 (F := Ideal) (A0 m c) (A8 m c) (A9 m c) (A17 m c) p (ix5 1 (smp t j) h a b) := by
  rw [MixRef.lin_at, hd, hs, hk, hv]
  have e : ((h * 2 + a / 64) * 64 + a % 64 : ℕ) = h * 128 + a := by omega
  simp only [hq, e]

theorem linEntryHigh (c : Dev nD) (t : Fin cfg0.N) (j : Fin 8) (h : Fin 2) (a b : Fin 128) (p : Vec Ideal S2x128x2x128x128 .f32) (d s k v : EReal) (q : Fin 512)
    (hq : (q : ℕ) = (h * 2 + a / 64) * 128 + b) (hd : d = val_main_v119 (F := Ideal) (A0 m c) (A8 m c) (A9 m c) (ix2 (smp t j) ⟨h * 128 + a, by omega⟩))
    (hs : s = A17 m c (ix5 1 (smp t j) ⟨h * 2 + a / 64, by omega⟩ ⟨a % 64, by omega⟩ b)) (hk : k = A0 m c (ix2 ⟨8192 + (smp t j : ℕ), by omega⟩ ⟨6400 + (h * 128 + a), by omega⟩)) (hv : v = A0 m c (ix2 ⟨8192 + (smp t j : ℕ), by omega⟩ ⟨6656 + q, by omega⟩)) :
    d * s + (0 + k * v) = val_main_v156 (F := Ideal) (A0 m c) (A8 m c) (A9 m c) (A17 m c) p (ix5 1 (smp t j) h a b) := by
  rw [zero_add (k * v)]
  exact linEntry m c t j h a b p d s k v q hq hd hs hk hv

set_option maxHeartbeats 16000000 in
theorem point25 (c : Dev nD) (t : Fin cfg0.N) (z : Fin 1) (j : Fin 8) (h : Fin 2) (a b : Fin 128) (p : Vec Ideal S2x128x2x128x128 .f32) :
    left25 m c t (ix5 z j h a b) = val_main_v156 (F := Ideal) (A0 m c) (A8 m c) (A9 m c) (A17 m c) p (ix5 1 (smp t j) h a b) := by
  unfold left25 stores
  frame_out
  generalize hx : (ix5 z j h a b : S1x8x2x128x128.Idx) = x
  canon_tiles x h
  all_goals
    subst hx
    obtain ⟨z0, z1, z2, a', b', rfl⟩ : ∃ (z0 z1 z2 : Fin 1) (a' b' : Fin 128), x = ix5 z0 z1 z2 a' b' := ⟨x 0, x 1, x 2, x 3, x 4, eq_ix5 x⟩
    obtain rfl : z0 = 0 := Subsingleton.elim _ _
    obtain rfl : z1 = 0 := Subsingleton.elim _ _
    obtain rfl : z2 = 0 := Subsingleton.elim _ _
    obtain rfl : a = a' := Fin.ext h3
    obtain rfl : b = b' := Fin.ext h4
    clear x0_lt x1_lt x2_lt x3_lt x4_lt h0 h3 h4
    pointwise [k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, k0_pay763, k0_pay764, k0_pay765, k0_pay766, k0_pay767, k0_pay768, k0_pay769, k0_pay770, k0_pay771, k0_pay772, k0_pay773]
  case piece0 =>
    obtain rfl : j = 7 := Fin.ext h1
    obtain rfl : h = 1 := Fin.ext h2
    by_cases ha : (a : ℕ) < 64
    · simp only [lowHalf a ha]
      rw [pick8 7 (by decide), missHigh 7 (by decide), noRow, add_zero, add_zero]
      exact linEntry m c t 7 1 a b p _ _ _ _ ⟨256 + b, by omega⟩ (by have e : (a : ℕ) / 64 = 0 := (by omega); simp [e]) (decAt m c t 7 _ _ _ _ (by simp)) (st17 m c t 7 1 a b) (rowAt m c t 7 _ _ _ _ (by simp)) (rowAt m c t 7 _ _ _ _ (by simp))
    · simp only [highHalf a ha]
      rw [missLow 7 (by decide) 15 rfl, pickHigh 7 (by decide) 15 rfl, noRow, add_zero]
      exact linEntryHigh m c t 7 1 a b p _ _ _ _ ⟨384 + b, by omega⟩ (by have e : (a : ℕ) / 64 = 1 := (by omega); simp [e]) (decAt m c t 7 _ _ _ _ (by simp)) (st17 m c t 7 1 a b) (rowAt m c t 7 _ _ _ _ (by simp)) (rowAt m c t 7 _ _ _ _ (by simp))
  case piece1 =>
    obtain rfl : j = 7 := Fin.ext h1
    obtain rfl : h = 0 := Fin.ext h2
    by_cases ha : (a : ℕ) < 64
    · simp only [lowHalf a ha]
      rw [pick8 7 (by decide), missHigh 7 (by decide), noRow, add_zero, add_zero]
      exact linEntry m c t 7 0 a b p _ _ _ _ ⟨b, by omega⟩ (by have e : (a : ℕ) / 64 = 0 := (by omega); simp [e]) (decAt m c t 7 _ _ _ _ (by simp)) (st17 m c t 7 0 a b) (rowAt m c t 7 _ _ _ _ (by simp)) (rowAt m c t 7 _ _ _ _ (by simp))
    · simp only [highHalf a ha]
      rw [missLow 7 (by decide) 15 rfl, pickHigh 7 (by decide) 15 rfl, noRow, add_zero]
      exact linEntryHigh m c t 7 0 a b p _ _ _ _ ⟨128 + b, by omega⟩ (by have e : (a : ℕ) / 64 = 1 := (by omega); simp [e]) (decAt m c t 7 _ _ _ _ (by simp)) (st17 m c t 7 0 a b) (rowAt m c t 7 _ _ _ _ (by simp)) (rowAt m c t 7 _ _ _ _ (by simp))
  case piece2 =>
    obtain rfl : j = 6 := Fin.ext h1
    obtain rfl : h = 1 := Fin.ext h2
    by_cases ha : (a : ℕ) < 64
    · simp only [lowHalf a ha]
      rw [pick8 6 (by decide), missHigh 6 (by decide), noRow, add_zero, add_zero]
      exact linEntry m c t 6 1 a b p _ _ _ _ ⟨256 + b, by omega⟩ (by have e : (a : ℕ) / 64 = 0 := (by omega); simp [e]) (decAt m c t 6 _ _ _ _ (by simp)) (st17 m c t 6 1 a b) (rowAt m c t 6 _ _ _ _ (by simp)) (rowAt m c t 6 _ _ _ _ (by simp))
    · simp only [highHalf a ha]
      rw [missLow 6 (by decide) 14 rfl, pickHigh 6 (by decide) 14 rfl, noRow, add_zero]
      exact linEntryHigh m c t 6 1 a b p _ _ _ _ ⟨384 + b, by omega⟩ (by have e : (a : ℕ) / 64 = 1 := (by omega); simp [e]) (decAt m c t 6 _ _ _ _ (by simp)) (st17 m c t 6 1 a b) (rowAt m c t 6 _ _ _ _ (by simp)) (rowAt m c t 6 _ _ _ _ (by simp))
  case piece3 =>
    obtain rfl : j = 6 := Fin.ext h1
    obtain rfl : h = 0 := Fin.ext h2
    by_cases ha : (a : ℕ) < 64
    · simp only [lowHalf a ha]
      rw [pick8 6 (by decide), missHigh 6 (by decide), noRow, add_zero, add_zero]
      exact linEntry m c t 6 0 a b p _ _ _ _ ⟨b, by omega⟩ (by have e : (a : ℕ) / 64 = 0 := (by omega); simp [e]) (decAt m c t 6 _ _ _ _ (by simp)) (st17 m c t 6 0 a b) (rowAt m c t 6 _ _ _ _ (by simp)) (rowAt m c t 6 _ _ _ _ (by simp))
    · simp only [highHalf a ha]
      rw [missLow 6 (by decide) 14 rfl, pickHigh 6 (by decide) 14 rfl, noRow, add_zero]
      exact linEntryHigh m c t 6 0 a b p _ _ _ _ ⟨128 + b, by omega⟩ (by have e : (a : ℕ) / 64 = 1 := (by omega); simp [e]) (decAt m c t 6 _ _ _ _ (by simp)) (st17 m c t 6 0 a b) (rowAt m c t 6 _ _ _ _ (by simp)) (rowAt m c t 6 _ _ _ _ (by simp))
  case piece4 =>
    obtain rfl : j = 5 := Fin.ext h1
    obtain rfl : h = 1 := Fin.ext h2
    by_cases ha : (a : ℕ) < 64
    · simp only [lowHalf a ha]
      rw [pick8 5 (by decide), missHigh 5 (by decide), noRow, add_zero, add_zero]
      exact linEntry m c t 5 1 a b p _ _ _ _ ⟨256 + b, by omega⟩ (by have e : (a : ℕ) / 64 = 0 := (by omega); simp [e]) (decAt m c t 5 _ _ _ _ (by simp)) (st17 m c t 5 1 a b) (rowAt m c t 5 _ _ _ _ (by simp)) (rowAt m c t 5 _ _ _ _ (by simp))
    · simp only [highHalf a ha]
      rw [missLow 5 (by decide) 13 rfl, pickHigh 5 (by decide) 13 rfl, noRow, add_zero]
      exact linEntryHigh m c t 5 1 a b p _ _ _ _ ⟨384 + b, by omega⟩ (by have e : (a : ℕ) / 64 = 1 := (by omega); simp [e]) (decAt m c t 5 _ _ _ _ (by simp)) (st17 m c t 5 1 a b) (rowAt m c t 5 _ _ _ _ (by simp)) (rowAt m c t 5 _ _ _ _ (by simp))
  case piece5 =>
    obtain rfl : j = 5 := Fin.ext h1
    obtain rfl : h = 0 := Fin.ext h2
    by_cases ha : (a : ℕ) < 64
    · simp only [lowHalf a ha]
      rw [pick8 5 (by decide), missHigh 5 (by decide), noRow, add_zero, add_zero]
      exact linEntry m c t 5 0 a b p _ _ _ _ ⟨b, by omega⟩ (by have e : (a : ℕ) / 64 = 0 := (by omega); simp [e]) (decAt m c t 5 _ _ _ _ (by simp)) (st17 m c t 5 0 a b) (rowAt m c t 5 _ _ _ _ (by simp)) (rowAt m c t 5 _ _ _ _ (by simp))
    · simp only [highHalf a ha]
      rw [missLow 5 (by decide) 13 rfl, pickHigh 5 (by decide) 13 rfl, noRow, add_zero]
      exact linEntryHigh m c t 5 0 a b p _ _ _ _ ⟨128 + b, by omega⟩ (by have e : (a : ℕ) / 64 = 1 := (by omega); simp [e]) (decAt m c t 5 _ _ _ _ (by simp)) (st17 m c t 5 0 a b) (rowAt m c t 5 _ _ _ _ (by simp)) (rowAt m c t 5 _ _ _ _ (by simp))
  case piece6 =>
    obtain rfl : j = 4 := Fin.ext h1
    obtain rfl : h = 1 := Fin.ext h2
    by_cases ha : (a : ℕ) < 64
    · simp only [lowHalf a ha]
      rw [pick8 4 (by decide), missHigh 4 (by decide), noRow, add_zero, add_zero]
      exact linEntry m c t 4 1 a b p _ _ _ _ ⟨256 + b, by omega⟩ (by have e : (a : ℕ) / 64 = 0 := (by omega); simp [e]) (decAt m c t 4 _ _ _ _ (by simp)) (st17 m c t 4 1 a b) (rowAt m c t 4 _ _ _ _ (by simp)) (rowAt m c t 4 _ _ _ _ (by simp))
    · simp only [highHalf a ha]
      rw [missLow 4 (by decide) 12 rfl, pickHigh 4 (by decide) 12 rfl, noRow, add_zero]
      exact linEntryHigh m c t 4 1 a b p _ _ _ _ ⟨384 + b, by omega⟩ (by have e : (a : ℕ) / 64 = 1 := (by omega); simp [e]) (decAt m c t 4 _ _ _ _ (by simp)) (st17 m c t 4 1 a b) (rowAt m c t 4 _ _ _ _ (by simp)) (rowAt m c t 4 _ _ _ _ (by simp))
  case piece7 =>
    obtain rfl : j = 4 := Fin.ext h1
    obtain rfl : h = 0 := Fin.ext h2
    by_cases ha : (a : ℕ) < 64
    · simp only [lowHalf a ha]
      rw [pick8 4 (by decide), missHigh 4 (by decide), noRow, add_zero, add_zero]
      exact linEntry m c t 4 0 a b p _ _ _ _ ⟨b, by omega⟩ (by have e : (a : ℕ) / 64 = 0 := (by omega); simp [e]) (decAt m c t 4 _ _ _ _ (by simp)) (st17 m c t 4 0 a b) (rowAt m c t 4 _ _ _ _ (by simp)) (rowAt m c t 4 _ _ _ _ (by simp))
    · simp only [highHalf a ha]
      rw [missLow 4 (by decide) 12 rfl, pickHigh 4 (by decide) 12 rfl, noRow, add_zero]
      exact linEntryHigh m c t 4 0 a b p _ _ _ _ ⟨128 + b, by omega⟩ (by have e : (a : ℕ) / 64 = 1 := (by omega); simp [e]) (decAt m c t 4 _ _ _ _ (by simp)) (st17 m c t 4 0 a b) (rowAt m c t 4 _ _ _ _ (by simp)) (rowAt m c t 4 _ _ _ _ (by simp))
  case piece8 =>
    obtain rfl : j = 3 := Fin.ext h1
    obtain rfl : h = 1 := Fin.ext h2
    by_cases ha : (a : ℕ) < 64
    · simp only [lowHalf a ha]
      rw [pick8 3 (by decide), missHigh 3 (by decide), noRow, add_zero, add_zero]
      exact linEntry m c t 3 1 a b p _ _ _ _ ⟨256 + b, by omega⟩ (by have e : (a : ℕ) / 64 = 0 := (by omega); simp [e]) (decAt m c t 3 _ _ _ _ (by simp)) (st17 m c t 3 1 a b) (rowAt m c t 3 _ _ _ _ (by simp)) (rowAt m c t 3 _ _ _ _ (by simp))
    · simp only [highHalf a ha]
      rw [missLow 3 (by decide) 11 rfl, pickHigh 3 (by decide) 11 rfl, noRow, add_zero]
      exact linEntryHigh m c t 3 1 a b p _ _ _ _ ⟨384 + b, by omega⟩ (by have e : (a : ℕ) / 64 = 1 := (by omega); simp [e]) (decAt m c t 3 _ _ _ _ (by simp)) (st17 m c t 3 1 a b) (rowAt m c t 3 _ _ _ _ (by simp)) (rowAt m c t 3 _ _ _ _ (by simp))
  case piece9 =>
    obtain rfl : j = 3 := Fin.ext h1
    obtain rfl : h = 0 := Fin.ext h2
    by_cases ha : (a : ℕ) < 64
    · simp only [lowHalf a ha]
      rw [pick8 3 (by decide), missHigh 3 (by decide), noRow, add_zero, add_zero]
      exact linEntry m c t 3 0 a b p _ _ _ _ ⟨b, by omega⟩ (by have e : (a : ℕ) / 64 = 0 := (by omega); simp [e]) (decAt m c t 3 _ _ _ _ (by simp)) (st17 m c t 3 0 a b) (rowAt m c t 3 _ _ _ _ (by simp)) (rowAt m c t 3 _ _ _ _ (by simp))
    · simp only [highHalf a ha]
      rw [missLow 3 (by decide) 11 rfl, pickHigh 3 (by decide) 11 rfl, noRow, add_zero]
      exact linEntryHigh m c t 3 0 a b p _ _ _ _ ⟨128 + b, by omega⟩ (by have e : (a : ℕ) / 64 = 1 := (by omega); simp [e]) (decAt m c t 3 _ _ _ _ (by simp)) (st17 m c t 3 0 a b) (rowAt m c t 3 _ _ _ _ (by simp)) (rowAt m c t 3 _ _ _ _ (by simp))
  case piece10 =>
    obtain rfl : j = 2 := Fin.ext h1
    obtain rfl : h = 1 := Fin.ext h2
    by_cases ha : (a : ℕ) < 64
    · simp only [lowHalf a ha]
      rw [pick8 2 (by decide), missHigh 2 (by decide), noRow, add_zero, add_zero]
      exact linEntry m c t 2 1 a b p _ _ _ _ ⟨256 + b, by omega⟩ (by have e : (a : ℕ) / 64 = 0 := (by omega); simp [e]) (decAt m c t 2 _ _ _ _ (by simp)) (st17 m c t 2 1 a b) (rowAt m c t 2 _ _ _ _ (by simp)) (rowAt m c t 2 _ _ _ _ (by simp))
    · simp only [highHalf a ha]
      rw [missLow 2 (by decide) 10 rfl, pickHigh 2 (by decide) 10 rfl, noRow, add_zero]
      exact linEntryHigh m c t 2 1 a b p _ _ _ _ ⟨384 + b, by omega⟩ (by have e : (a : ℕ) / 64 = 1 := (by omega); simp [e]) (decAt m c t 2 _ _ _ _ (by simp)) (st17 m c t 2 1 a b) (rowAt m c t 2 _ _ _ _ (by simp)) (rowAt m c t 2 _ _ _ _ (by simp))
  case piece11 =>
    obtain rfl : j = 2 := Fin.ext h1
    obtain rfl : h = 0 := Fin.ext h2
    by_cases ha : (a : ℕ) < 64
    · simp only [lowHalf a ha]
      rw [pick8 2 (by decide), missHigh 2 (by decide), noRow, add_zero, add_zero]
      exact linEntry m c t 2 0 a b p _ _ _ _ ⟨b, by omega⟩ (by have e : (a : ℕ) / 64 = 0 := (by omega); simp [e]) (decAt m c t 2 _ _ _ _ (by simp)) (st17 m c t 2 0 a b) (rowAt m c t 2 _ _ _ _ (by simp)) (rowAt m c t 2 _ _ _ _ (by simp))
    · simp only [highHalf a ha]
      rw [missLow 2 (by decide) 10 rfl, pickHigh 2 (by decide) 10 rfl, noRow, add_zero]
      exact linEntryHigh m c t 2 0 a b p _ _ _ _ ⟨128 + b, by omega⟩ (by have e : (a : ℕ) / 64 = 1 := (by omega); simp [e]) (decAt m c t 2 _ _ _ _ (by simp)) (st17 m c t 2 0 a b) (rowAt m c t 2 _ _ _ _ (by simp)) (rowAt m c t 2 _ _ _ _ (by simp))
  case piece12 =>
    obtain rfl : j = 1 := Fin.ext h1
    obtain rfl : h = 1 := Fin.ext h2
    by_cases ha : (a : ℕ) < 64
    · simp only [lowHalf a ha]
      rw [pick8 1 (by decide), missHigh 1 (by decide), noRow, add_zero, add_zero]
      exact linEntry m c t 1 1 a b p _ _ _ _ ⟨256 + b, by omega⟩ (by have e : (a : ℕ) / 64 = 0 := (by omega); simp [e]) (decAt m c t 1 _ _ _ _ (by simp)) (st17 m c t 1 1 a b) (rowAt m c t 1 _ _ _ _ (by simp)) (rowAt m c t 1 _ _ _ _ (by simp))
    · simp only [highHalf a ha]
      rw [missLow 1 (by decide) 9 rfl, pickHigh 1 (by decide) 9 rfl, noRow, add_zero]
      exact linEntryHigh m c t 1 1 a b p _ _ _ _ ⟨384 + b, by omega⟩ (by have e : (a : ℕ) / 64 = 1 := (by omega); simp [e]) (decAt m c t 1 _ _ _ _ (by simp)) (st17 m c t 1 1 a b) (rowAt m c t 1 _ _ _ _ (by simp)) (rowAt m c t 1 _ _ _ _ (by simp))
  case piece13 =>
    obtain rfl : j = 1 := Fin.ext h1
    obtain rfl : h = 0 := Fin.ext h2
    by_cases ha : (a : ℕ) < 64
    · simp only [lowHalf a ha]
      rw [pick8 1 (by decide), missHigh 1 (by decide), noRow, add_zero, add_zero]
      exact linEntry m c t 1 0 a b p _ _ _ _ ⟨b, by omega⟩ (by have e : (a : ℕ) / 64 = 0 := (by omega); simp [e]) (decAt m c t 1 _ _ _ _ (by simp)) (st17 m c t 1 0 a b) (rowAt m c t 1 _ _ _ _ (by simp)) (rowAt m c t 1 _ _ _ _ (by simp))
    · simp only [highHalf a ha]
      rw [missLow 1 (by decide) 9 rfl, pickHigh 1 (by decide) 9 rfl, noRow, add_zero]
      exact linEntryHigh m c t 1 0 a b p _ _ _ _ ⟨128 + b, by omega⟩ (by have e : (a : ℕ) / 64 = 1 := (by omega); simp [e]) (decAt m c t 1 _ _ _ _ (by simp)) (st17 m c t 1 0 a b) (rowAt m c t 1 _ _ _ _ (by simp)) (rowAt m c t 1 _ _ _ _ (by simp))
  case piece14 =>
    obtain rfl : j = 0 := Fin.ext h1
    obtain rfl : h = 1 := Fin.ext h2
    by_cases ha : (a : ℕ) < 64
    · simp only [lowHalf a ha]
      rw [pick8 0 (by decide), missHigh 0 (by decide), noRow, add_zero, add_zero]
      exact linEntry m c t 0 1 a b p _ _ _ _ ⟨256 + b, by omega⟩ (by have e : (a : ℕ) / 64 = 0 := (by omega); simp [e]) (decAt m c t 0 _ _ _ _ (by simp)) (st17 m c t 0 1 a b) (rowAt m c t 0 _ _ _ _ (by simp)) (rowAt m c t 0 _ _ _ _ (by simp))
    · simp only [highHalf a ha]
      rw [missLow 0 (by decide) 8 rfl, pickHigh 0 (by decide) 8 rfl, noRow, add_zero]
      exact linEntryHigh m c t 0 1 a b p _ _ _ _ ⟨384 + b, by omega⟩ (by have e : (a : ℕ) / 64 = 1 := (by omega); simp [e]) (decAt m c t 0 _ _ _ _ (by simp)) (st17 m c t 0 1 a b) (rowAt m c t 0 _ _ _ _ (by simp)) (rowAt m c t 0 _ _ _ _ (by simp))
  case piece15 =>
    obtain rfl : j = 0 := Fin.ext h1
    obtain rfl : h = 0 := Fin.ext h2
    by_cases ha : (a : ℕ) < 64
    · simp only [lowHalf a ha]
      rw [pick8 0 (by decide), missHigh 0 (by decide), noRow, add_zero, add_zero]
      exact linEntry m c t 0 0 a b p _ _ _ _ ⟨b, by omega⟩ (by have e : (a : ℕ) / 64 = 0 := (by omega); simp [e]) (decAt m c t 0 _ _ _ _ (by simp)) (st17 m c t 0 0 a b) (rowAt m c t 0 _ _ _ _ (by simp)) (rowAt m c t 0 _ _ _ _ (by simp))
    · simp only [highHalf a ha]
      rw [missLow 0 (by decide) 8 rfl, pickHigh 0 (by decide) 8 rfl, noRow, add_zero]
      exact linEntryHigh m c t 0 0 a b p _ _ _ _ ⟨128 + b, by omega⟩ (by have e : (a : ℕ) / 64 = 1 := (by omega); simp [e]) (decAt m c t 0 _ _ _ _ (by simp)) (st17 m c t 0 0 a b) (rowAt m c t 0 _ _ _ _ (by simp)) (rowAt m c t 0 _ _ _ _ (by simp))

end Cert.MixIdeal.Whole

end
-- ==== Proof.MixLinEnd.lean ====
module

public import proofs.«01_k».proof.Proof.MixLin
public import proofs.«01_k».proof.Proof.MixRef
public import proofs.«01_k».proof.Proof.MixFun
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt

/-!
The linear attention state after the run: the second layer's slab is the reference's, the first layer's is the one handed over.
-/

@[expose] public section

set_option maxRecDepth 16384

noncomputable section

namespace Cert.MixIdeal.Whole

open Cert.MixIdeal Cert.MixIdeal.Gen Cert.MixFun
open Idealize.ShloMosaic Idealize.ShloMosaic.TcCoe
open Cert.MixRefIdeal.Read

variable (m : (ℓ : Loc nD τ sig) → Buf (Elt Ideal) ℓ)

theorem start25 (c : Dev nD) : V m c main_v57_7 = m ((c : Thread nD τ).loc main_arg25) := by
  unfold V V0
  simp only [hostOps0, hostOps0_1, hostOps0_2, List.flatten_cons, List.flatten_nil, List.append_nil, List.cons_append, List.nil_append]
  after_reads_at
  rfl

theorem place25 (c : Dev nD) (t : Fin cfg0.N) (y : S1x8x2x128x128.Idx) (i : S2x128x2x128x128.Idx) (p : Vec Ideal S2x128x2x128x128 .f32)
    (h0 : (i 0 : ℕ) = 1) (h1 : (i 1 : ℕ) = t.val * 8 + (y 1 : ℕ)) (h2 : (i 2 : ℕ) = (y 2 : ℕ)) (h3 : (i 3 : ℕ) = (y 3 : ℕ)) (h4 : (i 4 : ℕ) = (y 4 : ℕ)) :
    left25 m c t y = val_main_v156 (F := Ideal) (A0 m c) (A8 m c) (A9 m c) (A17 m c) p i := by
  obtain ⟨z, j, h, a, b, rfl⟩ : ∃ (z : Fin 1) (j : Fin 8) (h : Fin 2) (a : Fin 128) (b : Fin 128), y = ix5 z j h a b := ⟨y 0, y 1, y 2, y 3, y 4, eq_ix5 y⟩
  obtain ⟨l, j', h', a', b', rfl⟩ : ∃ (l : Fin 2) (j' : Fin 128) (h' : Fin 2) (a' : Fin 128) (b' : Fin 128), i = ix5 l j' h' a' b' := ⟨i 0, i 1, i 2, i 3, i 4, eq_ix5 i⟩
  obtain rfl : l = 1 := Fin.ext h0
  obtain rfl : j' = smp t j := Fin.ext (by rw [smp]; exact h1)
  obtain rfl : h' = h := Fin.ext h2
  obtain rfl : a' = a := Fin.ext h3
  obtain rfl : b' = b := Fin.ext h4
  exact point25 m c t z j _ _ _ p

set_option maxHeartbeats 4000000 in
theorem final25 (c : Dev nD) : (data m 0 c).arrAt 25 (cfgs 0).N = val_main_v156 (F := Ideal) (A0 m c) (A8 m c) (A9 m c) (A17 m c) (m ((c : Thread nD τ).loc main_arg25)) := by
  have h : (data m 0 c).arrAt 25 (cfgs 0).N = fun i : S2x128x2x128x128.Idx => if (i 0 : ℕ) = 1 then val_main_v156 (F := Ideal) (A0 m c) (A8 m c) (A9 m c) (A17 m c) (m ((c : Thread nD τ).loc main_arg25)) i else V m c main_v57_7 i := by
    refine (data m 0 c).arrAt_eq_of_coversWhere 25 _ (fun β => β (0 : Fin _) = 1) (by decide +kernel) (fun t _ y => ?_)
      (fun j => by blk_simp [Pipeline.Window.cell_apply]; rw [Nat.div_one])
    rw [after25]
    refine (cast_eq _ _).trans (place25 m c t _ _ _ ?_ ?_ ?_ ?_ ?_) <;> (blk_simp [idxOut t] <;> omega)
  rw [h]
  funext i
  by_cases hi : (i 0 : ℕ) = 1
  · exact if_pos hi
  · rw [if_neg hi, start25]
    obtain ⟨l, j, h, a, b, rfl⟩ : ∃ (l : Fin 2) (j : Fin 128) (h : Fin 2) (a : Fin 128) (b : Fin 128), i = ix5 l j h a b := ⟨i 0, i 1, i 2, i 3, i 4, eq_ix5 i⟩
    replace hi : ¬ (l : ℕ) = 1 := hi
    obtain rfl : l = 0 := Fin.ext (by have := l.isLt; simp only [Fin.val_zero]; omega)
    exact (MixRef.lin_kept _ _ _ _ _ _ _ _ _).symm

end Cert.MixIdeal.Whole

end
-- ==== Proof.MixValue.lean ====
module

public import proofs.«01_k».proof.Defs
public import proofs.«01_k».proof.Proof.MixRetEnd
public import proofs.«01_k».proof.Proof.MixMemEnd
public import proofs.«01_k».proof.Proof.MixSumEnd
public import proofs.«01_k».proof.Proof.MixGateEnd
public import proofs.«01_k».proof.Proof.MixTailEnd
public import proofs.«01_k».proof.Proof.MixLinEnd
public import proofs.«01_k».proof.Proof.Gen.MixRefIdeal.Read
public import proofs.«01_k».proof.Proof.Gen.MixRefIdeal.Run
public import Idealize.ShloMosaic.Adequacy

/-!
The sample mixers: what the call leaves in its arrays of states is what the recurrences of the reference give.
-/

@[expose] public section

set_option maxRecDepth 16384

noncomputable section

namespace Cert.MixValue

open Idealize.ShloMosaic Idealize.ShloMosaic.TcCoe
open Cert.MixIdeal.Whole

theorem frame_ref : Cert.quiescent_MixRefIdeal := fun m ρ _ =>
  (θ_run Cert.MixRefIdeal.defs _ _).mono (fun r h => ⟨fun c => (h c).2.2.2.2.2.2, sem_eq_zero_of_no_sems (by decide) r.2⟩)
    (Cert.MixRefIdeal.Value.run (F := Ideal) m ρ)

set_option maxHeartbeats 4000000 in
theorem value : Cert.algebraic_MixIdeal_MixRefIdeal := fun m g m' g' _ hag =>
  ⟨fun c => (data m 0 c).arrAt 19 (Cert.MixIdeal.cfgs 0).N, fun c => (data m 0 c).arrAt 20 (Cert.MixIdeal.cfgs 0).N, fun c => (data m 0 c).arrAt 21 (Cert.MixIdeal.cfgs 0).N, fun c => extractStridedSlice Cert.MixIdeal.S2x128x4 ![0, 0, 0] ((data m 0 c).arrAt 22 (Cert.MixIdeal.cfgs 0).N) Cert.MixIdeal.Gen.slices_S2x128x128_S2x128x4_0_0_0, fun c => (data m 0 c).arrAt 24 (Cert.MixIdeal.cfgs 0).N, fun c => (data m 0 c).arrAt 25 (Cert.MixIdeal.cfgs 0).N,
    (θ_run Cert.MixIdeal.defs _ _).mono (fun r h c => ⟨(h.2.1 c).1 19, (h.2.1 c).1 20, (h.2.1 c).1 21, ((h.2.1 c).2 Cert.MixIdeal.main_v58 (Pipeline.mem_restRefs_of Cert.MixIdeal.main_v58 (by decide) (by decide))).trans (after58 m c), (h.2.1 c).1 24, (h.2.1 c).1 25, h.1.1 c⟩)
      (θ_run_and (kept m g) (ends m g)),
    (θ_run Cert.MixRefIdeal.defs _ _).mono (fun r h c => by
      obtain ⟨e0, e1, e2, e3, e4, e5, e6, e7, e8, e9, e10, e11, e12, e13, e14, e15, e16, e17, e18, e19, e20, e21, e22, e23, e24, e25⟩ := hag c
      refine ⟨?_, ?_, ?_, ?_, ?_, ?_, (h c).2.2.2.2.2.2⟩
      · have k : Cert.MixRefIdeal.Read.val_main_v138 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg11)) (m' ((c.tc : Thread Cert.MixRefIdeal.nD Cert.MixRefIdeal.τ).loc Cert.MixRefIdeal.main_arg19)) = (data m 0 c).arrAt 19 (Cert.MixIdeal.cfgs 0).N := by
          rw [e0, e11, e19]
          exact (final19 m c).symm
        exact (h c).1.trans ((Cert.MixRefIdeal.Read.val_main_v138_eq _).trans k)
      · have k : Cert.MixRefIdeal.Read.val_main_v141 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg12)) (m' ((c.tc : Thread Cert.MixRefIdeal.nD Cert.MixRefIdeal.τ).loc Cert.MixRefIdeal.main_arg14)) (m' ((c.tc : Thread Cert.MixRefIdeal.nD Cert.MixRefIdeal.τ).loc Cert.MixRefIdeal.main_arg20)) = (data m 0 c).arrAt 20 (Cert.MixIdeal.cfgs 0).N := by
          rw [e0, e1, e2, e12, e14, e20]
          exact (final20 m c).symm
        exact (h c).2.1.trans ((Cert.MixRefIdeal.Read.val_main_v141_eq _).trans k)
      · have k : Cert.MixRefIdeal.Read.val_main_v144 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg13)) (m' ((c.tc : Thread Cert.MixRefIdeal.nD Cert.MixRefIdeal.τ).loc Cert.MixRefIdeal.main_arg14)) (m' ((c.tc : Thread Cert.MixRefIdeal.nD Cert.MixRefIdeal.τ).loc Cert.MixRefIdeal.main_arg21)) = (data m 0 c).arrAt 21 (Cert.MixIdeal.cfgs 0).N := by
          rw [e0, e1, e2, e13, e14, e21]
          exact (final21 m c).symm
        exact (h c).2.2.1.trans ((Cert.MixRefIdeal.Read.val_main_v144_eq _).trans k)
      · have k : Cert.MixRefIdeal.Read.val_main_v148 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg14)) (m' ((c.tc : Thread Cert.MixRefIdeal.nD Cert.MixRefIdeal.τ).loc Cert.MixRefIdeal.main_arg22)) = extractStridedSlice Cert.MixIdeal.S2x128x4 ![0, 0, 0] ((data m 0 c).arrAt 22 (Cert.MixIdeal.cfgs 0).N) Cert.MixIdeal.Gen.slices_S2x128x128_S2x128x4_0_0_0 := by
          rw [e0, e1, e2, e14, e22]
          exact (final22 m c).symm
        exact (h c).2.2.2.1.trans ((Cert.MixRefIdeal.Read.val_main_v148_eq _).trans k)
      · have k : Cert.MixRefIdeal.Read.val_main_v152 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg16)) (m' ((c.tc : Thread Cert.MixRefIdeal.nD Cert.MixRefIdeal.τ).loc Cert.MixRefIdeal.main_arg24)) = (data m 0 c).arrAt 24 (Cert.MixIdeal.cfgs 0).N := by
          rw [e0, e16, e24]
          exact (final24 m c).symm
        exact (h c).2.2.2.2.1.trans ((Cert.MixRefIdeal.Read.val_main_v152_eq _).trans k)
      · have k : Cert.MixRefIdeal.Read.val_main_v156 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg17)) (m' ((c.tc : Thread Cert.MixRefIdeal.nD Cert.MixRefIdeal.τ).loc Cert.MixRefIdeal.main_arg25)) = (data m 0 c).arrAt 25 (Cert.MixIdeal.cfgs 0).N := by
          rw [e0, e8, e9, e17, e25]
          exact (final25 m c).symm
        exact (h c).2.2.2.2.2.1.trans ((Cert.MixRefIdeal.Read.val_main_v156_eq _).trans k)
      )
      (Cert.MixRefIdeal.Value.run (F := Ideal) m' g')⟩

end Cert.MixValue

end
-- ==== Proof.lean ====
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame.RunA
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame.RunA
public import proofs.«01_k».proof.Proof.Gen.MixRefIdeal
public import proofs.«01_k».proof.Proof.Gen.MixRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinRefIdeal
public import proofs.«01_k».proof.Proof.Gen.Wxq
public import proofs.«01_k».proof.Proof.Gen.Wxq.Skeleton
public import proofs.«01_k».proof.Proof.Gen.Wxq.Launch
public import proofs.«01_k».proof.Proof.Gen.Wxq.Points
public import proofs.«01_k».proof.Proof.Gen.Wxq.Frame
public import proofs.«01_k».proof.Proof.Gen.WxqIdeal
public import proofs.«01_k».proof.Proof.Gen.WxqIdeal.Skeleton
public import proofs.«01_k».proof.Proof.Gen.WxqIdeal.Launch
public import proofs.«01_k».proof.Proof.Gen.WxqIdeal.Points
public import proofs.«01_k».proof.Proof.Gen.WxqIdeal.Frame
public import proofs.«01_k».proof.Proof.Gen.WxqRefIdeal
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastIdeal.Value
public import proofs.«01_k».proof.Proof.Gen.LastRefIdeal.Read
public import proofs.«01_k».proof.Proof.Gen.MemFirst
public import proofs.«01_k».proof.Proof.Gen.MemSecond
public import proofs.«01_k».proof.Proof.Gen.MemFirst.Skeleton
public import proofs.«01_k».proof.Proof.Gen.MemSecond.Skeleton
public import proofs.«01_k».proof.Proof.Gen.MemFirst.Launch
public import proofs.«01_k».proof.Proof.Gen.MemSecond.Launch
public import proofs.«01_k».proof.Proof.Gen.MemFirst.Points
public import proofs.«01_k».proof.Proof.Gen.MemSecond.Points
public import proofs.«01_k».proof.Proof.Gen.MemFirst.Frame
public import proofs.«01_k».proof.Proof.Gen.MemSecond.Frame
public import proofs.«01_k».proof.Proof.Gen.MemFirstIdeal
public import proofs.«01_k».proof.Proof.Gen.MemSecondIdeal
public import proofs.«01_k».proof.Proof.Gen.MemFirstIdeal.Skeleton
public import proofs.«01_k».proof.Proof.Gen.MemSecondIdeal.Skeleton
public import proofs.«01_k».proof.Proof.Gen.MemFirstIdeal.Launch
public import proofs.«01_k».proof.Proof.Gen.MemSecondIdeal.Launch
public import proofs.«01_k».proof.Proof.Gen.MemFirstIdeal.Points
public import proofs.«01_k».proof.Proof.Gen.MemSecondIdeal.Points
public import proofs.«01_k».proof.Proof.Gen.MemFirstIdeal.Frame
public import proofs.«01_k».proof.Proof.Gen.MemSecondIdeal.Frame
public import proofs.«01_k».proof.Proof.Gen.MemFirstRefIdeal
public import proofs.«01_k».proof.Proof.Gen.MemSecondRefIdeal
public import proofs.«01_k».proof.Proof.Gen.MemFirstIdeal.Value
public import proofs.«01_k».proof.Proof.Gen.MemSecondIdeal.Value
public import proofs.«01_k».proof.Proof.Gen.MemFirstRefIdeal.Read
public import proofs.«01_k».proof.Proof.Gen.MemSecondRefIdeal.Read
public import proofs.«01_k».proof.Proof.Gen.On_prompt_rows
public import proofs.«01_k».proof.Proof.Gen.On_first_layer
public import proofs.«01_k».proof.Proof.Gen.Pre_finite_scores
public import proofs.«01_k».proof.Proof.Gen.AttnIdeal.Value
public import proofs.«01_k».proof.Proof.Gen.AttnRefIdeal.Read
public import proofs.«01_k».proof.Proof.Gen.UpIdeal.Value
public import proofs.«01_k».proof.Proof.Gen.UpRefIdeal.Read
public import proofs.«01_k».proof.Proof.Gen.DownIdeal.Value
public import proofs.«01_k».proof.Proof.Gen.DownRefIdeal.Read
public import proofs.«01_k».proof.Proof.Gen.WinIdeal.Value
public import proofs.«01_k».proof.Proof.Gen.WinRefIdeal.Read
public import proofs.«01_k».proof.Proof.Gen.WxqIdeal.Value
public import proofs.«01_k».proof.Proof.Gen.WxqRefIdeal.Read
public import proofs.«01_k».proof.Proof.Gen.WoutIdeal.Value
public import proofs.«01_k».proof.Proof.Gen.WoutRefIdeal.Read
public import proofs.«01_k».proof.Proof.Attn
public import proofs.«01_k».proof.Proof.Up
public import proofs.«01_k».proof.Proof.Down
public import proofs.«01_k».proof.Proof.Win
public import proofs.«01_k».proof.Proof.Wxq
public import proofs.«01_k».proof.Proof.Wout
public import proofs.«01_k».proof.Proof.Last
public import proofs.«01_k».proof.Proof.MemFirst
public import proofs.«01_k».proof.Proof.MemSecond
public import proofs.«01_k».proof.Proof.Finite
public import proofs.«01_k».proof.Proof.MixWholeFloat
public import proofs.«01_k».proof.Proof.MixValue
public import Idealize.ShloMosaic.Adequacy
public import Idealize.ShloMosaic.Init

@[expose] public section

noncomputable section

namespace Cert.Proof

open Idealize.ShloMosaic Idealize.SL.Sem Cert.Attn

/-! ## The frames of the references, which are straight lines of host operations with no semaphore -/

theorem frame_AttnRefIdeal : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frame_UpRefIdeal : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem frame_DownRefIdeal : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

theorem frame_WinRefIdeal : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

theorem frame_WxqRefIdeal : Cert.quiescent_WxqRefIdeal := fun m ρ _ =>
  (θ_run Cert.WxqRefIdeal.defs _ _).mono (fun r h => ⟨fun c => (h c).2, sem_eq_zero_of_no_sems (by decide) r.2⟩)
    (Cert.WxqRefIdeal.Value.run (F := Ideal) m ρ)

theorem frame_WoutRefIdeal : Cert.quiescent_WoutRefIdeal := fun m ρ _ =>
  (θ_run Cert.WoutRefIdeal.defs _ _).mono (fun r h => ⟨fun c => (h c).2.2, sem_eq_zero_of_no_sems (by decide) r.2⟩)
    (Cert.WoutRefIdeal.Value.run (F := Ideal) m ρ)

theorem frame_LastRefIdeal : Cert.quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

theorem frame_MemFirstRefIdeal : Cert.quiescent_MemFirstRefIdeal := fun m ρ _ =>
  (θ_run Cert.MemFirstRefIdeal.defs _ _).mono (fun r h => ⟨fun c => (h c).2, sem_eq_zero_of_no_sems (by decide) r.2⟩)
    (Cert.MemFirstRefIdeal.Value.run (F := Ideal) m ρ)

theorem frame_MemSecondRefIdeal : Cert.quiescent_MemSecondRefIdeal := fun m ρ _ =>
  (θ_run Cert.MemSecondRefIdeal.defs _ _).mono (fun r h => ⟨fun c => (h c).2, sem_eq_zero_of_no_sems (by decide) r.2⟩)
    (Cert.MemSecondRefIdeal.Value.run (F := Ideal) m ρ)

theorem frame_AttnRefIdeal_pre_finite_scores : Cert.quiescent_AttnRefIdeal_pre_finite_scores := fun m ρ _ =>
  (θ_run Cert.AttnRefIdeal.defs _ _).mono (fun r h => ⟨fun c => (h c).2, sem_eq_zero_of_no_sems (by decide) r.2⟩)
    (Cert.AttnRefIdeal.Value.run (F := Ideal) m ρ)

/-! ## The values -/

theorem value_Up : Cert.algebraic_UpIdeal_UpRefIdeal := by
  pair_intro
  · run_from Cert.UpIdeal.Gen.run_main m g
  · hlo_run
    exact (Cert.UpIdeal.Value.final m c).symm

theorem value_Win : Cert.algebraic_WinIdeal_WinRefIdeal := by
  pair_intro
  · run_from Cert.WinIdeal.Gen.run_main m g
  · hlo_run
    exact (Cert.WinIdeal.Value.final m c).symm

theorem value_Wxq : Cert.algebraic_WxqIdeal_WxqRefIdeal := by
  pair_intro
  · run_from Cert.WxqIdeal.Gen.run_main m g
  · hlo_run
    exact (Cert.WxqIdeal.Value.final m c).symm

theorem value_Last : Cert.algebraic_LastIdeal_LastRefIdeal := by
  pair_intro
  · run_from Cert.LastIdeal.Gen.run_main m g
  · hlo_run
    exact (Cert.LastIdeal.Value.final m c).symm

theorem value_Down : Cert.algebraic_DownIdeal_DownRefIdeal := fun m g m' g' _ hag =>
  ⟨fun c => (Cert.DownIdeal.Gen.dats m 0 c).arrAt 5 Cert.DownIdeal.cfg0.N, fun c => (Cert.DownIdeal.Gen.dats m 0 c).arrAt 6 Cert.DownIdeal.cfg0.N,
    Cert.DownIdeal.Value.run_blocks m g,
    (θ_run Cert.DownRefIdeal.defs _ _).mono (fun r h c => by
      obtain ⟨e0, e1, e2, e3, e4⟩ := hag c
      refine ⟨?_, ?_, (h c).2.2⟩
      · refine ((h c).1.trans (Cert.DownRefIdeal.Read.val_main_v19_eq _ _ _ _)).trans ?_
        rw [e0, e1, e2, e3]
        exact (Cert.DownIdeal.Value.final_sum m c).symm
      · refine ((h c).2.1.trans (Cert.DownRefIdeal.Read.val_main_v35_eq m' c)).trans ?_
        rw [e0, e1, e2, e3, e4]
        exact (Cert.DownIdeal.Value.final_next m c).symm)
      (Cert.DownRefIdeal.Value.run (F := Ideal) m' g')⟩

theorem value_Wout : Cert.algebraic_WoutIdeal_WoutRefIdeal := fun m g m' g' _ hag =>
  ⟨fun c => (Cert.WoutIdeal.Gen.dats m 0 c).arrAt 5 Cert.WoutIdeal.cfg0.N, fun c => (Cert.WoutIdeal.Gen.dats m 0 c).arrAt 6 Cert.WoutIdeal.cfg0.N,
    Cert.WoutIdeal.Value.run_blocks m g,
    (θ_run Cert.WoutRefIdeal.defs _ _).mono (fun r h c => by
      obtain ⟨e0, e1, e2, e3, e4⟩ := hag c
      refine ⟨?_, ?_, (h c).2.2⟩
      · refine ((h c).1.trans (Cert.WoutRefIdeal.Read.val_main_v19_eq _ _ _ _)).trans ?_
        rw [e0, e1, e2, e3]
        exact (Cert.WoutIdeal.Value.final_sum m c).symm
      · refine ((h c).2.1.trans (Cert.WoutRefIdeal.Read.val_main_v35_eq m' c)).trans ?_
        rw [e0, e1, e2, e3, e4]
        exact (Cert.WoutIdeal.Value.final_next m c).symm)
      (Cert.WoutRefIdeal.Value.run (F := Ideal) m' g')⟩

theorem value_Attn : Cert.algebraic_AttnIdeal_AttnRefIdeal_on_prompt_rows_pre_finite_scores := fun m g m' g' hpre hag =>
  ⟨fun c => (Cert.AttnIdeal.Gen.dats m 0 c).arrAt 3 Cert.AttnIdeal.cfg0.N,
    (θ_run Cert.AttnIdeal.defs _ _).mono (fun r h c => ⟨fun i _ => congrFun (h c).1 i, (h c).2⟩) (Cert.AttnIdeal.Value.run_blocks m g),
    (θ_run Cert.AttnRefIdeal.defs _ _).mono (fun r h c => by
      obtain ⟨e0, e1, e2⟩ := hag c
      obtain ⟨hq, hk⟩ := Cert.Finite.reals _ _ _ (hpre c)
      refine ⟨fun i hi => ?_, (h c).2⟩
      refine (congrFun ((h c).1.trans (Cert.AttnRefIdeal.Read.val_main_v28_eq m' c)) i).trans ?_
      rw [e0, e1, e2]
      exact (Cert.AttnIdeal.Value.final m c hq hk i (Cert.Finite.rows _ _ _ i hi)).symm)
      (Cert.AttnRefIdeal.Value.run (F := Ideal) m' g')⟩

theorem value_MemFirst : Cert.algebraic_MemFirstIdeal_MemFirstRefIdeal_on_first_layer := fun m g m' g' _ hag =>
  ⟨fun c => (Cert.MemFirstIdeal.Gen.dats m 0 c).arrAt 3 Cert.MemFirstIdeal.cfg0.N,
    (θ_run Cert.MemFirstIdeal.defs _ _).mono (fun r h c => ⟨fun i _ => congrFun (h c).1 i, (h c).2⟩) (Cert.MemFirstIdeal.Value.run_blocks m g),
    (θ_run Cert.MemFirstRefIdeal.defs _ _).mono (fun r h c => by
      obtain ⟨e0, e1, e2⟩ := hag c
      refine ⟨fun i hi => ?_, (h c).2⟩
      refine (congrFun ((h c).1.trans (Cert.MemFirstRefIdeal.Read.val_main_v20_eq _ _ _)) i).trans ?_
      rw [e0, e1, e2]
      exact (Cert.MemFirstIdeal.Value.final m c i (Cert.Finite.layer _ _ _ i hi)).symm)
      (Cert.MemFirstRefIdeal.Value.run (F := Ideal) m' g')⟩

theorem value_MemSecond : Cert.algebraic_MemSecondIdeal_MemSecondRefIdeal := fun m g m' g' _ hag =>
  ⟨fun c => (Cert.MemSecondIdeal.Gen.dats m 0 c).arrAt 3 Cert.MemSecondIdeal.cfg0.N, Cert.MemSecondIdeal.Value.run_blocks m g,
    (θ_run Cert.MemSecondRefIdeal.defs _ _).mono (fun r h c => by
      obtain ⟨e0, e1, e2, e3⟩ := hag c
      refine ⟨?_, (h c).2⟩
      refine ((h c).1.trans (Cert.MemSecondRefIdeal.Read.val_main_v20_eq _ _ _ _)).trans ?_
      rw [e0, e1, e2, e3]
      exact (Cert.MemSecondIdeal.Value.final m c).symm)
      (Cert.MemSecondRefIdeal.Value.run (F := Ideal) m' g')⟩

theorem claim : Cert.Claim :=
  ⟨Cert.Attn.Gen.facts, Cert.AttnIdeal.Gen.facts, Cert.AttnRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Win.Gen.facts, Cert.WinIdeal.Gen.facts, Cert.WinRefIdeal.Gen.facts,
    Cert.Wxq.Gen.facts, Cert.WxqIdeal.Gen.facts, Cert.WxqRefIdeal.Gen.facts,
    Cert.Wout.Gen.facts, Cert.WoutIdeal.Gen.facts, Cert.WoutRefIdeal.Gen.facts,
    Cert.Last.Gen.facts, Cert.LastIdeal.Gen.facts, Cert.LastRefIdeal.Gen.facts,
    Cert.MemFirst.Gen.facts, Cert.MemFirstIdeal.Gen.facts, Cert.MemFirstRefIdeal.Gen.facts,
    Cert.MemSecond.Gen.facts, Cert.MemSecondIdeal.Gen.facts, Cert.MemSecondRefIdeal.Gen.facts,
    Cert.Mix.Gen.facts, Cert.MixIdeal.Gen.facts, Cert.MixRefIdeal.Gen.facts,
    Cert.Pre_finite_scores.Gen.facts, Cert.On_prompt_rows.Gen.facts, Cert.On_first_layer.Gen.facts,
    fun m ρ _ => Cert.Attn.Gen.frame m ρ,
    fun m ρ _ => Cert.AttnIdeal.Gen.frame m ρ,
    fun m ρ _ => Cert.AttnIdeal.Gen.frame m ρ,
    frame_AttnRefIdeal,
    frame_AttnRefIdeal_pre_finite_scores,
    fun m ρ _ => Cert.Up.Gen.frame m ρ,
    fun m ρ _ => Cert.UpIdeal.Gen.frame m ρ,
    frame_UpRefIdeal,
    fun m ρ _ => Cert.Down.Gen.frame m ρ,
    fun m ρ _ => Cert.DownIdeal.Gen.frame m ρ,
    frame_DownRefIdeal,
    fun m ρ _ => Cert.Win.Gen.frame m ρ,
    fun m ρ _ => Cert.WinIdeal.Gen.frame m ρ,
    frame_WinRefIdeal,
    fun m ρ _ => Cert.Wxq.Gen.frame m ρ,
    fun m ρ _ => Cert.WxqIdeal.Gen.frame m ρ,
    frame_WxqRefIdeal,
    fun m ρ _ => Cert.Wout.Gen.frame m ρ,
    fun m ρ _ => Cert.WoutIdeal.Gen.frame m ρ,
    frame_WoutRefIdeal,
    fun m ρ _ => Cert.Last.Gen.frame m ρ,
    fun m ρ _ => Cert.LastIdeal.Gen.frame m ρ,
    frame_LastRefIdeal,
    fun m ρ _ => Cert.MemFirst.Gen.frame m ρ,
    fun m ρ _ => Cert.MemFirstIdeal.Gen.frame m ρ,
    frame_MemFirstRefIdeal,
    fun m ρ _ => Cert.MemSecond.Gen.frame m ρ,
    fun m ρ _ => Cert.MemSecondIdeal.Gen.frame m ρ,
    frame_MemSecondRefIdeal,
    fun m ρ _ => Cert.Mix.Whole.kept m ρ,
    fun m ρ _ => Cert.MixIdeal.Whole.kept m ρ,
    Cert.MixValue.frame_ref,
    trivial,
    value_Attn,
    trivial,
    value_Up,
    trivial,
    value_Down,
    trivial,
    value_Win,
    trivial,
    value_Wxq,
    trivial,
    value_Wout,
    trivial,
    value_Last,
    trivial,
    value_MemFirst,
    trivial,
    value_MemSecond,
    trivial,
    Cert.MixValue.value⟩

end Cert.Proof

end
